-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_is_finite [hPre_gate_is_finite : Cert.Pre_gate_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_is_finite [hPre_gate_is_finite : Cert.Pre_gate_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scores_are_finite [hPre_scores_are_finite : Cert.Pre_scores_are_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scores_are_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scores_are_finite [hPre_scores_are_finite : Cert.Pre_scores_are_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scores_are_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gate_is_finite [hKernelIdeal : Cert.KernelIdeal.Facts] [hPre_gate_is_finite : Cert.Pre_gate_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gate_is_finite [hReferenceIdeal : Cert.ReferenceIdeal.Facts] [hPre_gate_is_finite : Cert.Pre_gate_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_scores_are_finite [hKernel2Ideal : Cert.Kernel2Ideal.Facts] [hPre_scores_are_finite : Cert.Pre_scores_are_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scores_are_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_scores_are_finite [hReference2Ideal : Cert.Reference2Ideal.Facts] [hPre_scores_are_finite : Cert.Pre_scores_are_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scores_are_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_gate_is_finite [hKernelIdeal : Cert.KernelIdeal.Facts] [hReferenceIdeal : Cert.ReferenceIdeal.Facts] [hPre_gate_is_finite : Cert.Pre_gate_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "mask" .f32 0xF149F2CA#32 ⊥
  ∧ IdealRules.named_const.Statement Cert.Kernel2Ideal.κ "scale" .f32 0x3E38AA3B#32 (((8 * (Real.log 2))⁻¹ : ℝ) : EReal)

def algebraic_Kernel2Ideal_Reference2Ideal_pre_scores_are_finite [hKernel2Ideal : Cert.Kernel2Ideal.Facts] [hReference2Ideal : Cert.Reference2Ideal.Facts] [hPre_scores_are_finite : Cert.Pre_scores_are_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scores_are_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_gate_is_finite : Cert.Pre_gate_is_finite.Facts) (hPre_scores_are_finite : Cert.Pre_scores_are_finite.Facts),
    quiescent_Kernel (hKernel := hKernel)
    ∧ quiescent_KernelIdeal (hKernelIdeal := hKernelIdeal)
    ∧ quiescent_KernelIdeal_pre_gate_is_finite (hKernelIdeal := hKernelIdeal) (hPre_gate_is_finite := hPre_gate_is_finite)
    ∧ quiescent_ReferenceIdeal (hReferenceIdeal := hReferenceIdeal)
    ∧ quiescent_ReferenceIdeal_pre_gate_is_finite (hReferenceIdeal := hReferenceIdeal) (hPre_gate_is_finite := hPre_gate_is_finite)
    ∧ quiescent_Kernel2 (hKernel2 := hKernel2)
    ∧ quiescent_Kernel2Ideal (hKernel2Ideal := hKernel2Ideal)
    ∧ quiescent_Kernel2Ideal_pre_scores_are_finite (hKernel2Ideal := hKernel2Ideal) (hPre_scores_are_finite := hPre_scores_are_finite)
    ∧ quiescent_Reference2Ideal (hReference2Ideal := hReference2Ideal)
    ∧ quiescent_Reference2Ideal_pre_scores_are_finite (hReference2Ideal := hReference2Ideal) (hPre_scores_are_finite := hPre_scores_are_finite)
    ∧ preserves_Kernel_KernelIdeal
    ∧ algebraic_KernelIdeal_ReferenceIdeal_pre_gate_is_finite (hKernelIdeal := hKernelIdeal) (hReferenceIdeal := hReferenceIdeal) (hPre_gate_is_finite := hPre_gate_is_finite)
    ∧ preserves_Kernel2_Kernel2Ideal
    ∧ algebraic_Kernel2Ideal_Reference2Ideal_pre_scores_are_finite (hKernel2Ideal := hKernel2Ideal) (hReference2Ideal := hReference2Ideal) (hPre_scores_are_finite := hPre_scores_are_finite)
-- ==== Pre_gate_is_finite.lean ====
abbrev S4x4096x1024 : Shape := ⟨3, ![4, 4096, 1024]⟩
abbrev S1x1024 : Shape := ⟨2, ![1, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S_ : Shape := ⟨0, ![]⟩
abbrev S1x1024x2048 : Shape := ⟨3, ![1, 1024, 2048]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x6144_S1x1024x2048_0_0_4096 : S1x1024x6144.Slices ![0, 0, 4096] S1x1024x2048
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn {F : FTy → Type} [FloatOps F] (main_arg0 : FVec F S4x4096x1024 .f32) (main_arg1 : FVec F S1x1024 .f32) (main_arg2 : FVec F S1x1024x6144 .f32) (main_arg3 : FVec F S1x2048 .f32) (main_arg4 : FVec F S1x2048 .f32) (main_arg5 : FVec F S1x16x128x128 .f32) (main_arg6 : FVec F S1x16x128 .f32) (main_arg7 : FVec F S1x2048x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x2048 .f32 := (extractStridedSlice S1x1024x2048 ![0, 0, 4096] · slices_S1x1024x6144_S1x1024x2048_0_0_4096) main_arg2
  let main_v5 : FVec F S1x1024x2048 .f32 := Host.absf main_v4
  let main_cst_0 : FVec F S_ .f32 := constant S_ .f32 0x7F800000#32
  let main_v6 : FVec F S1x1024x2048 .f32 := broadcastInDim S1x1024x2048 ![] bcast_S_S1x1024x2048 main_cst_0
  let main_v7 : IVec S1x1024x2048 1 := cmpf .olt main_v5 main_v6
  let main_c_1 : IVec S_ 1 := constantI S_ 1 1#1
  let main_v8 : IVec S_ 1 := (fun x v => Host.reduce IntOp.andi x v reducesTo_S1x1024x2048_S_d0_1_2 h_S_) main_v7 main_c_1
  let main_v9 : IVec S_ 1 := andi main_v3 main_v8
  main_v9
-- ==== Pre_scores_are_finite.lean ====
abbrev S4x4096x1024 : Shape := ⟨3, ![4, 4096, 1024]⟩
abbrev S1024 : Shape := ⟨1, ![1024]⟩
abbrev S1024x2048 : Shape := ⟨2, ![1024, 2048]⟩
abbrev S1x1024 : Shape := ⟨2, ![1, 1024]⟩
abbrev S1x1024x2048 : Shape := ⟨3, ![1, 1024, 2048]⟩
abbrev S1x16x513 : Shape := ⟨3, ![1, 16, 513]⟩
abbrev S1x1024x1024 : Shape := ⟨3, ![1, 1024, 1024]⟩
abbrev S_ : Shape := ⟨0, ![]⟩
abbrev S1024x1024 : Shape := ⟨2, ![1024, 1024]⟩

class Facts : Prop where
  bcast_S_S1024 : S_.BroadcastsInDim S1024 (![] : Fin 0 → Fin S1024.rank)
  reducesTo_S1024_S_d0 : S1024.ReducesTo [0] S_
  h_S_ : 0 < S_.numel
  slices_S1024x2048_S1024x1024_0_0 : S1024x2048.Slices ![0, 0] S1024x1024
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x16x513 : S_.BroadcastsInDim S1x16x513 (![] : Fin 0 → Fin S1x16x513.rank)
  reducesTo_S1x16x513_S_d0_1_2 : S1x16x513.ReducesTo [0, 1, 2] S_

variable [Facts]

def fn_part1 {F : FTy → Type} [FloatOps F] (main_arg5 : FVec F S1x16x513 .f32) (main_v14 : IVec S_ 1) (main_v15 : FVec F S1x1024x2048 .f32) (main_v16 : FVec F S1x1024x2048 .f32) : IVec S_ 1 :=
  let main_v17 : IVec S1x1024x2048 1 := cmpf .olt main_v15 main_v16
  let main_c_5 : IVec S_ 1 := constantI S_ 1 1#1
  let main_v18 : IVec S_ 1 := (fun x v => Host.reduce IntOp.andi x v reducesTo_S1x1024x2048_S_d0_1_2 h_S_) main_v17 main_c_5
  let main_v19 : IVec S_ 1 := andi main_v14 main_v18
  let main_v20 : FVec F S1x16x513 .f32 := Host.absf main_arg5
  let main_cst_6 : FVec F S_ .f32 := constant S_ .f32 0x7F800000#32
  let main_v21 : FVec F S1x16x513 .f32 := broadcastInDim S1x16x513 ![] bcast_S_S1x16x513 main_cst_6
  let main_v22 : IVec S1x16x513 1 := cmpf .olt main_v20 main_v21
  let main_c_7 : IVec S_ 1 := constantI S_ 1 1#1
  let main_v23 : IVec S_ 1 := (fun x v => Host.reduce IntOp.andi x v reducesTo_S1x16x513_S_d0_1_2 h_S_) main_v22 main_c_7
  let main_v24 : IVec S_ 1 := andi main_v19 main_v23
  main_v24

def fn {F : FTy → Type} [FloatOps F] (main_arg0 : FVec F S4x4096x1024 .f32) (main_arg1 : FVec F S1024 .f32) (main_arg2 : FVec F S1024x2048 .f32) (main_arg3 : FVec F S1x1024 .f32) (main_arg4 : FVec F S1x1024x2048 .f32) (main_arg5 : FVec F S1x16x513 .f32) (main_arg6 : FVec F S1x1024x1024 .f32) (main_arg7 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := (extractStridedSlice S1024x1024 ![0, 0] · slices_S1024x2048_S1024x1024_0_0) main_arg2
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024x2048 .f32 := Host.absf main_arg4
  let main_cst_4 : FVec F S_ .f32 := constant S_ .f32 0x7F800000#32
  let main_v16 : FVec F S1x1024x2048 .f32 := broadcastInDim S1x1024x2048 ![] bcast_S_S1x1024x2048 main_cst_4
  fn_part1 (F := F) main_arg5 main_v14 main_v15 main_v16
-- ==== Kernel.lean ====
abbrev S4x4096x1024 : Shape := ⟨3, ![4, 4096, 1024]⟩
abbrev S1x1024 : Shape := ⟨2, ![1, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S16384x1024 : Shape := ⟨2, ![16384, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S2048x1024 : Shape := ⟨2, ![2048, 1024]⟩
abbrev S512x1024 : Shape := ⟨2, ![512, 1024]⟩
abbrev S512x2048 : Shape := ⟨2, ![512, 2048]⟩
abbrev S2x1024x512 : Shape := ⟨3, ![2, 1024, 512]⟩
abbrev S2 : Shape := ⟨1, ![2]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x256 : Shape := ⟨2, ![512, 256]⟩
abbrev S1x256 : Shape := ⟨2, ![1, 256]⟩
abbrev S128x1 : Shape := ⟨2, ![128, 1]⟩
abbrev S128x512 : Shape := ⟨2, ![128, 512]⟩

abbrev nBuf : Space → Nat
  | .hbm => 21
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6144, .f32⟩
  | .hbm, ⟨3, _⟩ => ⟨S1x2048, .f32⟩
  | .hbm, ⟨4, _⟩ => ⟨S1x2048, .f32⟩
  | .hbm, ⟨5, _⟩ => ⟨S1x16x128x128, .f32⟩
  | .hbm, ⟨6, _⟩ => ⟨S1x16x128, .f32⟩
  | .hbm, ⟨7, _⟩ => ⟨S1x2048x1024, .f32⟩
  | .hbm, ⟨8, _⟩ => ⟨S16384x1024, .f32⟩
  | .hbm, ⟨9, _⟩ => ⟨S1024, .f32⟩
  | .hbm, ⟨10, _⟩ => ⟨S1x1024, .f32⟩
  | .hbm, ⟨11, _⟩ => ⟨S1024x6144, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16x128x128, .f32⟩
  | .hbm, ⟨17, _⟩ => ⟨S16x128, .f32⟩
  | .hbm, ⟨18, _⟩ => ⟨S128x16, .f32⟩
  | .hbm, ⟨19, _⟩ => ⟨S2048x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2048, .f32⟩
  | .local _ .vmem, ⟨4, _⟩ => ⟨S1x2048, .f32⟩
  | .local _ .vmem, ⟨5, _⟩ => ⟨S16x128x128, .f32⟩
  | .local _ .vmem, ⟨6, _⟩ => ⟨S128x16, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1024x6144, .bf16⟩
  | .local _ .vmem, ⟨14, _⟩ => ⟨S2048x1024, .bf16⟩
  | .local _ .vmem, ⟨15, _⟩ => ⟨S16x128x128, .bf16⟩
  | .local _ .vmem, ⟨16, _⟩ => ⟨S2x1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x1024 : Shape := ⟨3, ![4, 4096, 1024]⟩
abbrev S1x1024 : Shape := ⟨2, ![1, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S4x4096x6144 : Shape := ⟨3, ![4, 4096, 6144]⟩
abbrev S4x4096x2048 : Shape := ⟨3, ![4, 4096, 2048]⟩
abbrev S1x1x2048 : Shape := ⟨3, ![1, 1, 2048]⟩
abbrev S4x32x128x16x128 : Shape := ⟨5, ![4, 32, 128, 16, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x4x32x128x128 : Shape := ⟨5, ![16, 4, 32, 128, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S16384x1024 : Shape := ⟨2, ![16384, 1024]⟩

abbrev nBuf : Space → Nat
  | .hbm => 148
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x6144, .f32⟩
  | 3 => ⟨S1x2048, .f32⟩
  | 4 => ⟨S1x2048, .f32⟩
  | 5 => ⟨S1x16x128x128, .f32⟩
  | 6 => ⟨S1x16x128, .f32⟩
  | 7 => ⟨S1x2048x1024, .f32⟩
  | 8 => ⟨S1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S1024x6144, .f32⟩
  | 26 => ⟨S2048, .f32⟩
  | 27 => ⟨S2048, .f32⟩
  | 28 => ⟨S16x128x128, .f32⟩
  | 29 => ⟨S16x128, .f32⟩
  | 30 => ⟨S2048x1024, .f32⟩
  | 31 => ⟨S4x4096x6144, .f32⟩
  | 32 => ⟨S4x4096x2048, .f32⟩
  | 33 => ⟨S4x4096x2048, .f32⟩
  | 34 => ⟨S4x4096x2048, .f32⟩
  | 35 => ⟨S4x4096x2048, .f32⟩
  | 36 => ⟨S4x4096x2048, .f32⟩
  | 37 => ⟨S_, .f32⟩
  | 38 => ⟨S4x4096x2048, .f32⟩
  | 39 => ⟨S4x4096x2048, .f32⟩
  | 40 => ⟨S4x4096x2048, .f32⟩
  | 41 => ⟨S_, .f32⟩
  | 42 => ⟨S4x4096x2048, .f32⟩
  | 43 => ⟨S4x4096x2048, .f32⟩
  | 44 => ⟨S4x4096x2048, .f32⟩
  | 45 => ⟨S_, .f32⟩
  | 46 => ⟨S4x4096x2048, .f32⟩
  | 47 => ⟨S4x4096x2048, .f32⟩
  | 48 => ⟨S_, .f32⟩
  | 49 => ⟨S4x4096x2048, .f32⟩
  | 50 => ⟨S4x4096x2048, .f32⟩
  | 51 => ⟨S4x4096x2048, .f32⟩
  | 52 => ⟨S4x4096x2048, .f32⟩
  | 53 => ⟨S4x4096x2048, .f32⟩
  | 54 => ⟨S_, .f32⟩
  | 55 => ⟨S4x4096x2048, .f32⟩
  | 56 => ⟨S4x4096x2048, .f32⟩
  | 57 => ⟨S4x4096x2048, .f32⟩
  | 58 => ⟨S_, .f32⟩
  | 59 => ⟨S4x4096x2048, .f32⟩
  | 60 => ⟨S4x4096x2048, .f32⟩
  | 61 => ⟨S4x4096x2048, .f32⟩
  | 62 => ⟨S_, .f32⟩
  | 63 => ⟨S4x4096x2048, .f32⟩
  | 64 => ⟨S4x4096x2048, .f32⟩
  | 65 => ⟨S_, .f32⟩
  | 66 => ⟨S4x4096x2048, .f32⟩
  | 67 => ⟨S4x4096x2048, .f32⟩
  | 68 => ⟨S4x4096x2048, .f32⟩
  | 69 => ⟨S_, .f32⟩
  | 70 => ⟨S4x4096, .f32⟩
  | 71 => ⟨S4x4096x1, .f32⟩
  | 72 => ⟨S_, .f32⟩
  | 73 => ⟨S4x4096x1, .f32⟩
  | 74 => ⟨S4x4096x1, .f32⟩
  | 75 => ⟨S4x4096x2048, .f32⟩
  | 76 => ⟨S4x4096x2048, .f32⟩
  | 77 => ⟨S4x4096x2048, .f32⟩
  | 78 => ⟨S_, .f32⟩
  | 79 => ⟨S4x4096, .f32⟩
  | 80 => ⟨S4x4096x1, .f32⟩
  | 81 => ⟨S_, .f32⟩
  | 82 => ⟨S4x4096x1, .f32⟩
  | 83 => ⟨S4x4096x1, .f32⟩
  | 84 => ⟨S_, .f32⟩
  | 85 => ⟨S4x4096x1, .f32⟩
  | 86 => ⟨S4x4096x1, .f32⟩
  | 87 => ⟨S4x4096x1, .f32⟩
  | 88 => ⟨S4x4096x2048, .f32⟩
  | 89 => ⟨S4x4096x2048, .f32⟩
  | 90 => ⟨S1x1x2048, .f32⟩
  | 91 => ⟨S4x4096x2048, .f32⟩
  | 92 => ⟨S4x4096x2048, .f32⟩
  | 93 => ⟨S1x1x2048, .f32⟩
  | 94 => ⟨S4x4096x2048, .f32⟩
  | 95 => ⟨S4x4096x2048, .f32⟩
  | 96 => ⟨S4x32x128x16x128, .f32⟩
  | 97 => ⟨S128, .i32⟩
  | 98 => ⟨S_, .i32⟩
  | 99 => ⟨S_, .i32⟩
  | 100 => ⟨S128, .i32⟩
  | 101 => ⟨S128, .i32⟩
  | 102 => ⟨S128, .i32⟩
  | 103 => ⟨S_, .i32⟩
  | 104 => ⟨S128, .i32⟩
  | 105 => ⟨S128, .i1⟩
  | 106 => ⟨S128, .i32⟩
  | 107 => ⟨S128, .i32⟩
  | 108 => ⟨S_, .i32⟩
  | 109 => ⟨S128, .i32⟩
  | 110 => ⟨S128, .i1⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S1x128, .i32⟩
  | 118 => ⟨S128x128, .i32⟩
  | 119 => ⟨S128x128, .i32⟩
  | 120 => ⟨S128x128, .i1⟩
  | 121 => ⟨S1x128x128, .i1⟩
  | 122 => ⟨S_, .f32⟩
  | 123 => ⟨S16x128x128, .f32⟩
  | 124 => ⟨S16x128x128, .i1⟩
  | 125 => ⟨S16x128x128, .f32⟩
  | 126 => ⟨S16x4x32x128x128, .f32⟩
  | 127 => ⟨S4x32x128x16x128, .f32⟩
  | _ => ⟨S4x4096x1024, .f32⟩

abbrev hbmTy0_1 (i : Nat) : BufTy := match i % 128 with
  | 0 => ⟨S128x16, .f32⟩
  | 1 => ⟨S128x16x1, .f32⟩
  | 2 => ⟨S1x1x128x16x1, .f32⟩
  | 3 => ⟨S4x32x128x16x128, .f32⟩
  | 4 => ⟨S4x32x128x16x128, .f32⟩
  | 5 => ⟨S4x4096x2048, .f32⟩
  | 6 => ⟨S4x4096x2048, .f32⟩
  | 7 => ⟨S4x4096x2048, .f32⟩
  | 8 => ⟨S4x4096x2048, .f32⟩
  | 9 => ⟨S_, .f32⟩
  | 10 => ⟨S4x4096x2048, .f32⟩
  | 11 => ⟨S4x4096x2048, .f32⟩
  | 12 => ⟨S_, .f32⟩
  | 13 => ⟨S4x4096x2048, .f32⟩
  | 14 => ⟨S4x4096x2048, .f32⟩
  | 15 => ⟨S4x4096x2048, .f32⟩
  | 16 => ⟨S4x4096x2048, .f32⟩
  | 17 => ⟨S4x4096x1024, .f32⟩
  | 18 => ⟨S4x4096x1024, .f32⟩
  | 19 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_c : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_c_0 : Ref sig .tc := ⟨.hbm, 112, rfl⟩
abbrev main_call0_v12 : Ref sig .tc := ⟨.hbm, 113, rfl⟩
abbrev main_call0_v13 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_15 : Ref sig .tc := ⟨.hbm, 122, rfl⟩
abbrev main_v81 : Ref sig .tc := ⟨.hbm, 123, rfl⟩
abbrev main_call1_v0 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_call2_v0 : Ref sig .tc := ⟨.hbm, 135, rfl⟩
abbrev main_call2_v1 : Ref sig .tc := ⟨.hbm, 136, rfl⟩
abbrev main_call2_cst : Ref sig .tc := ⟨.hbm, 137, rfl⟩
abbrev main_call2_v2 : Ref sig .tc := ⟨.hbm, 138, rfl⟩
abbrev main_call2_v3 : Ref sig .tc := ⟨.hbm, 139, rfl⟩
abbrev main_call2_cst_0 : Ref sig .tc := ⟨.hbm, 140, rfl⟩
abbrev main_call2_v4 : Ref sig .tc := ⟨.hbm, 141, rfl⟩
abbrev main_call2_v5 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x2048 : Shape := ⟨2, ![1024, 2048]⟩
abbrev S1x1024 : Shape := ⟨2, ![1, 1024]⟩
abbrev S1x1024x2048 : Shape := ⟨3, ![1, 1024, 2048]⟩
abbrev S1x16x513 : Shape := ⟨3, ![1, 16, 513]⟩
abbrev S1x1024x1024 : Shape := ⟨3, ![1, 1024, 1024]⟩
abbrev S16384x1024 : Shape := ⟨2, ![16384, 1024]⟩
abbrev S16x513 : Shape := ⟨2, ![16, 513]⟩
abbrev S_ : Shape := ⟨0, ![]⟩
abbrev S1x513 : Shape := ⟨2, ![1, 513]⟩
abbrev S1x0x513 : Shape := ⟨3, ![1, 0, 513]⟩
abbrev S0x513 : Shape := ⟨2, ![0, 513]⟩
abbrev S16x1 : Shape := ⟨2, ![16, 1]⟩
abbrev S16x1x0 : Shape := ⟨3, ![16, 1, 0]⟩
abbrev S16x0 : Shape := ⟨2, ![16, 0]⟩
abbrev S16x1x511 : Shape := ⟨3, ![16, 1, 511]⟩
abbrev S16x511 : Shape := ⟨2, ![16, 511]⟩
abbrev S16x1024 : Shape := ⟨2, ![16, 1024]⟩
abbrev S1024x1 : Shape := ⟨2, ![1024, 1]⟩
abbrev S1024x1024 : Shape := ⟨2, ![1024, 1024]⟩
abbrev S512x1024 : Shape := ⟨2, ![512, 1024]⟩
abbrev S1280x1024 : Shape := ⟨2, ![1280, 1024]⟩
abbrev S1024x512 : Shape := ⟨2, ![1024, 512]⟩
abbrev S4x640x512 : Shape := ⟨3, ![4, 640, 512]⟩
abbrev S2x1024x512 : Shape := ⟨3, ![2, 1024, 512]⟩
abbrev S2 : Shape := ⟨1, ![2]⟩
abbrev S128x128 : Shape := ⟨2, ![128, 128]⟩
abbrev S1x256 : Shape := ⟨2, ![1, 256]⟩
abbrev S128x256 : Shape := ⟨2, ![128, 256]⟩
abbrev S1x128x128 : Shape := ⟨3, ![1, 128, 128]⟩
abbrev S1 : Shape := ⟨1, ![1]⟩
abbrev S1x1024x512 : Shape := ⟨3, ![1, 1024, 512]⟩
abbrev S1280x512 : Shape := ⟨2, ![1280, 512]⟩
abbrev S512 : Shape := ⟨1, ![512]⟩
abbrev S512x1 : Shape := ⟨2, ![512, 1]⟩
abbrev S256x128 : Shape := ⟨2, ![256, 128]⟩
abbrev S1024x256 : Shape := ⟨2, ![1024, 256]⟩
abbrev S512x256 : Shape := ⟨2, ![512, 256]⟩
abbrev S256x1024 : Shape := ⟨2, ![256, 1024]⟩
abbrev S256x512 : Shape := ⟨2, ![256, 512]⟩
abbrev S64x512 : Shape := ⟨2, ![64, 512]⟩
abbrev S640x256 : Shape := ⟨2, ![640, 256]⟩
abbrev S640x512 : Shape := ⟨2, ![640, 512]⟩
abbrev S1x640x512 : Shape := ⟨3, ![1, 640, 512]⟩
abbrev S128x512 : Shape := ⟨2, ![128, 512]⟩
abbrev S8x512 : Shape := ⟨2, ![8, 512]⟩
abbrev S1x512 : Shape := ⟨2, ![1, 512]⟩
abbrev S80x640 : Shape := ⟨2, ![80, 640]⟩
abbrev S640x128 : Shape := ⟨2, ![640, 128]⟩
abbrev S80x128 : Shape := ⟨2, ![80, 128]⟩
abbrev S64x128 : Shape := ⟨2, ![64, 128]⟩
abbrev S1x128 : Shape := ⟨2, ![1, 128]⟩

abbrev nBuf : Space → Nat
  | .hbm => 32
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1x1024x2048, .f32⟩
  | .hbm, ⟨5, _⟩ => ⟨S1x16x513, .f32⟩
  | .hbm, ⟨6, _⟩ => ⟨S1x1024x1024, .f32⟩
  | .hbm, ⟨7, _⟩ => ⟨S1024, .f32⟩
  | .hbm, ⟨8, _⟩ => ⟨S16384x1024, .f32⟩
  | .hbm, ⟨9, _⟩ => ⟨S16x513, .f32⟩
  | .hbm, ⟨10, _⟩ => ⟨S_, .i32⟩
  | .hbm, ⟨11, _⟩ => ⟨S1x513, .f32⟩
  | .hbm, ⟨12, _⟩ => ⟨S1x0x513, .f32⟩
  | .hbm, ⟨13, _⟩ => ⟨S0x513, .f32⟩
  | .hbm, ⟨14, _⟩ => ⟨S1x513, .f32⟩
  | .hbm, ⟨15, _⟩ => ⟨S1x0x513, .f32⟩
  | .hbm, ⟨16, _⟩ => ⟨S0x513, .f32⟩
  | .hbm, ⟨17, _⟩ => ⟨S16x513, .f32⟩
  | .hbm, ⟨18, _⟩ => ⟨S16x1, .f32⟩
  | .hbm, ⟨19, _⟩ => ⟨S16x1x0, .f32⟩
  | .hbm, ⟨20, _⟩ => ⟨S16x0, .f32⟩
  | .hbm, ⟨21, _⟩ => ⟨S16x1, .f32⟩
  | .hbm, ⟨22, _⟩ => ⟨S16x1x511, .f32⟩
  | .hbm, ⟨23, _⟩ => ⟨S16x511, .f32⟩
  | .hbm, ⟨24, _⟩ => ⟨S16x1024, .f32⟩
  | .hbm, ⟨25, _⟩ => ⟨S1024x1, .f32⟩
  | .hbm, ⟨26, _⟩ => ⟨S1024, .f32⟩
  | .hbm, ⟨27, _⟩ => ⟨S1024x1, .f32⟩
  | .hbm, ⟨28, _⟩ => ⟨S1024x2048, .f32⟩
  | .hbm, ⟨29, _⟩ => ⟨S1024x1024, .f32⟩
  | .hbm, ⟨30, _⟩ => ⟨S1x1024, .f32⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1, .f32⟩
  | .local _ .vmem, ⟨3, _⟩ => ⟨S1024x1, .f32⟩
  | .local _ .vmem, ⟨4, _⟩ => ⟨S16x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1280x1024, .bf16⟩
  | .local _ .vmem, ⟨12, _⟩ => ⟨S1024x512, .bf16⟩
  | .local _ .vmem, ⟨13, _⟩ => ⟨S1024x512, .f32⟩
  | .local _ .vmem, ⟨14, _⟩ => ⟨S1024x512, .bf16⟩
  | .local _ .vmem, ⟨15, _⟩ => ⟨S4x640x512, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S2x1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "log2e" => some (((Real.log 2)⁻¹ : ℝ) : EReal)
  | "mask" => some ⊥
  | "scale" => some (((8 * (Real.log 2))⁻¹ : ℝ) : EReal)
  | _ => none
-- ==== Reference2Ideal.lean ====
abbrev S4x4096x1024 : Shape := ⟨3, ![4, 4096, 1024]⟩
abbrev S1024 : Shape := ⟨1, ![1024]⟩
abbrev S1024x2048 : Shape := ⟨2, ![1024, 2048]⟩
abbrev S1x1024 : Shape := ⟨2, ![1, 1024]⟩
abbrev S1x1024x2048 : Shape := ⟨3, ![1, 1024, 2048]⟩
abbrev S1x16x513 : Shape := ⟨3, ![1, 16, 513]⟩
abbrev S1x1024x1024 : Shape := ⟨3, ![1, 1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x16x64 : Shape := ⟨4, ![4, 4096, 16, 64]⟩
abbrev S16x513 : Shape := ⟨2, ![16, 513]⟩
abbrev S1024x1024 : Shape := ⟨2, ![1024, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S16x4096x4096 : Shape := ⟨3, ![16, 4096, 4096]⟩
abbrev S4x16x4096x4096 : Shape := ⟨4, ![4, 16, 4096, 4096]⟩
abbrev S1x16x4096x4096 : Shape := ⟨4, ![1, 16, 4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S16384x1024 : Shape := ⟨2, ![16384, 1024]⟩

abbrev nBuf : Space → Nat
  | .hbm => 171
  | .vmem => 0
  | .smem => 0
  | _ => 0

abbrev hbmTy0_0 (i : Nat) : BufTy := match i % 128 with
  | 0 => ⟨S4x4096x1024, .f32⟩
  | 1 => ⟨S1024, .f32⟩
  | 2 => ⟨S1024x2048, .f32⟩
  | 3 => ⟨S1x1024, .f32⟩
  | 4 => ⟨S1x1024x2048, .f32⟩
  | 5 => ⟨S1x16x513, .f32⟩
  | 6 => ⟨S1x1024x1024, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S4x4096x2048, .f32⟩
  | 25 => ⟨S4x4096x1024, .f32⟩
  | 26 => ⟨S4x4096x1024, .f32⟩
  | 27 => ⟨S4x4096x16x64, .f32⟩
  | 28 => ⟨S4x4096x16x64, .f32⟩
  | 29 => ⟨S1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S_, .f32⟩
  | 38 => ⟨S4x4096x1, .f32⟩
  | 39 => ⟨S4x4096x1, .f32⟩
  | 40 => ⟨S4x4096x1, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S1024x2048, .f32⟩
  | 47 => ⟨S16x513, .f32⟩
  | 48 => ⟨S1024x1024, .f32⟩
  | 49 => ⟨S4x4096x2048, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x16x64, .f32⟩
  | 56 => ⟨S4096, .i32⟩
  | 57 => ⟨S4096x1, .i32⟩
  | 58 => ⟨S4096, .i32⟩
  | 59 => ⟨S1x4096, .i32⟩
  | 60 => ⟨S4096x4096, .i32⟩
  | 61 => ⟨S4096x4096, .i32⟩
  | 62 => ⟨S4096x4096, .i32⟩
  | 63 => ⟨S_, .i32⟩
  | 64 => ⟨S_, .i32⟩
  | 65 => ⟨S_, .i32⟩
  | 66 => ⟨S4096x4096, .i32⟩
  | 67 => ⟨S4096x4096, .i32⟩
  | 68 => ⟨S_, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S_, .i32⟩
  | 75 => ⟨S4096x4096, .i32⟩
  | 76 => ⟨S4096x4096, .i1⟩
  | 77 => ⟨S_, .i32⟩
  | 78 => ⟨S4096x4096, .i32⟩
  | 79 => ⟨S4096x4096, .i32⟩
  | 80 => ⟨S4096x4096, .i32⟩
  | 81 => ⟨S4096x4096x1, .i32⟩
  | 82 => ⟨S16x4096x4096, .f32⟩
  | 83 => ⟨S4096, .i32⟩
  | 84 => ⟨S_, .i32⟩
  | 85 => ⟨S_, .i32⟩
  | 86 => ⟨S4096, .i32⟩
  | 87 => ⟨S4096, .i32⟩
  | 88 => ⟨S4096, .i32⟩
  | 89 => ⟨S_, .i32⟩
  | 90 => ⟨S4096, .i32⟩
  | 91 => ⟨S4096, .i1⟩
  | 92 => ⟨S4096, .i32⟩
  | 93 => ⟨S4096, .i32⟩
  | 94 => ⟨S_, .i32⟩
  | 95 => ⟨S4096, .i32⟩
  | 96 => ⟨S4096, .i1⟩
  | 97 => ⟨S4096, .i1⟩
  | 98 => ⟨S_, .i32⟩
  | 99 => ⟨S4096, .i32⟩
  | 100 => ⟨S4096, .i32⟩
  | 101 => ⟨S4096, .i32⟩
  | 102 => ⟨S1x4096, .i32⟩
  | 103 => ⟨S4096x1, .i32⟩
  | 104 => ⟨S4096x4096, .i32⟩
  | 105 => ⟨S4096x4096, .i32⟩
  | 106 => ⟨S4096x4096, .i1⟩
  | 107 => ⟨S1x4096, .i32⟩
  | 108 => ⟨S4096x1, .i32⟩
  | 109 => ⟨S_, .i32⟩
  | 110 => ⟨S4096x1, .i32⟩
  | 111 => ⟨S4096x1, .i32⟩
  | 112 => ⟨S4096x4096, .i32⟩
  | 113 => ⟨S4096x4096, .i32⟩
  | 114 => ⟨S4096x4096, .i1⟩
  | 115 => ⟨S4096x4096, .i1⟩
  | 116 => ⟨S4x16x4096x4096, .f32⟩
  | 117 => ⟨S1x16x4096x4096, .f32⟩
  | 118 => ⟨S4x16x4096x4096, .f32⟩
  | 119 => ⟨S4x16x4096x4096, .f32⟩
  | 120 => ⟨S_, .f32⟩
  | 121 => ⟨S_, .f32⟩
  | 122 => ⟨S4x16x4096x4096, .i1⟩
  | 123 => ⟨S4x16x4096x4096, .f32⟩
  | 124 => ⟨S4x16x4096x4096, .f32⟩
  | 125 => ⟨S_, .f32⟩
  | 126 => ⟨S4x16x4096, .f32⟩
  | 127 => ⟨S_, .f32⟩
  | _ => ⟨S4x4096x1024, .f32⟩

abbrev hbmTy0_1 (i : Nat) : BufTy := match i % 128 with
  | 0 => ⟨S4x16x4096, .f32⟩
  | 1 => ⟨S4x16x4096, .f32⟩
  | 2 => ⟨S4x16x4096x1, .f32⟩
  | 3 => ⟨S4x16x4096x4096, .f32⟩
  | 4 => ⟨S4x16x4096x4096, .f32⟩
  | 5 => ⟨S4x16x4096x4096, .f32⟩
  | 6 => ⟨S_, .f32⟩
  | 7 => ⟨S4x16x4096, .f32⟩
  | 8 => ⟨S4x16x4096x1, .f32⟩
  | 9 => ⟨S4x16x4096x4096, .f32⟩
  | 10 => ⟨S4x16x4096x4096, .f32⟩
  | 11 => ⟨S4x16x64x4096, .f32⟩
  | 12 => ⟨S4x4096x16x64, .f32⟩
  | 13 => ⟨S4x4096x1024, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S_, .f32⟩
  | 20 => ⟨S4x4096x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S4x4096x1024, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | 42 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_c_6 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_11 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_12 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v77 : Ref sig .tc := ⟨.hbm, 124, rfl⟩
abbrev main_cst_13 : Ref sig .tc := ⟨.hbm, 125, rfl⟩
abbrev main_v78 : Ref sig .tc := ⟨.hbm, 126, rfl⟩
abbrev main_cst_14 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_15 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_call3_v0 : Ref sig .tc := ⟨.hbm, 142, rfl⟩
abbrev main_call3_v1 : Ref sig .tc := ⟨.hbm, 143, rfl⟩
abbrev main_call3_cst : Ref sig .tc := ⟨.hbm, 144, rfl⟩
abbrev main_call3_v2 : Ref sig .tc := ⟨.hbm, 145, rfl⟩
abbrev main_call3_v3 : Ref sig .tc := ⟨.hbm, 146, rfl⟩
abbrev main_call3_cst_0 : Ref sig .tc := ⟨.hbm, 147, rfl⟩
abbrev main_call3_v4 : Ref sig .tc := ⟨.hbm, 148, rfl⟩
abbrev main_call3_v5 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_16 : Ref sig .tc := ⟨.hbm, 155, rfl⟩
abbrev main_v97 : Ref sig .tc := ⟨.hbm, 156, rfl⟩
abbrev main_v98 : Ref sig .tc := ⟨.hbm, 157, rfl⟩
abbrev main_cst_17 : Ref sig .tc := ⟨.hbm, 158, rfl⟩
abbrev main_v99 : Ref sig .tc := ⟨.hbm, 159, rfl⟩
abbrev main_v100 : Ref sig .tc := ⟨.hbm, 160, rfl⟩
abbrev main_cst_18 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩

abbrev nD : Nat := 1
abbrev τ : Topo := Topo.v7x

variable {F : FTy → Type} [FloatOps F]
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1024 .bf16 := Memref.whole cc0_scratch0
abbrev scM0_1 : Memref sig .tc .vmem S512x2048 .f32 := Memref.whole cc0_scratch1
abbrev scM0_2 : Memref sig .tc .vmem S512x2048 .bf16 := Memref.whole cc0_scratch2
abbrev scM0_3 : Memref sig .tc .vmem S512x2048 .bf16 := Memref.whole cc0_scratch3
abbrev scM0_4 : Memref sig .tc .vmem S1024x6144 .bf16 := Memref.whole cc0_scratch4
abbrev scM0_5 : Memref sig .tc .vmem S2048x1024 .bf16 := Memref.whole cc0_scratch5
abbrev scM0_6 : Memref sig .tc .vmem S16x128x128 .bf16 := Memref.whole cc0_scratch6
abbrev scM0_7 : Memref sig .tc .vmem S2x1024x512 .f32 := Memref.whole cc0_scratch7
/-- The scratch `arg14` the kernel carries between points, as a view: what it holds is stated through it. -/
abbrev VS0_4 : View sig .tc .vmem S1024x6144 .bf16 := scM0_4.view
/-- The scratch `arg16` the kernel carries between points, as a view: what it holds is stated through it. -/
abbrev VS0_6 : View sig .tc .vmem S16x128x128 .bf16 := scM0_6.view
/-- The operands left in HBM that the body copies into scratch itself, whole. -/
abbrev hbM0_0 : Memref sig .tc .hbm S1024x6144 .f32 := Memref.whole main_v3
abbrev hbM0_1 : Memref sig .tc .hbm S2048x1024 .f32 := Memref.whole main_v11
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 9, SemLoc.dma 10] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The HBM operands the body moves, as references: unscoped, no window's array (`Pipeline.restRefs`). -/
def H0 : Finset (Ref sig .tc) := {main_v3, main_v11}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v3) ∗ hbPt0 c hbM0_1 (V m c main_v11)) := by
  rw [BI.bigSep_eq_bigSepL_of_eq [main_v3, main_v11] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 9) 0 ∗ semVal ((c : Thread nD τ), SemLoc.dma 10) 0) ∗ iprop(hbPt0 c hbM0_0 (V m c main_v3) ∗ hbPt0 c hbM0_1 (V m c main_v11))) := by
  rw [Pipeline.ΦD_eq, scopedRest0_eq, ownSems00_eq, hbmPts0_eq]; simp only [scM0_0, scM0_1, scM0_2, scM0_3, scM0_4, scM0_5, scM0_6, scM0_7, owns_whole]; try rfl

end Cert.KernelIdeal.Mix

end
-- ==== Proof.Stream.lean ====
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One staging slot: a copy in, and its landing read back -/

section slot

variable (c : Dev nD)

/-- A slot of the staging buffer with a copy of `src` on its way into it. -/
def Busy (s : DmaSem sig) (slot : Memref sig .tc .vmem S1024x512 .f32) (src : Memref sig .tc .hbm S1024x512 .f32)
    (q : PosShare TreeShare) (fs : Buf (Elt F) (src.view.loc (c : Thread nD τ))) : sProp 𝕄 :=
  iprop(∃ fd, Transfers.Flight countersEmb (c : Thread nD τ) (SemLoc.dma s) default 65536
      iprop((slot.view.loc (c : Thread nD τ) ↦[slot.view.set]{fullShare} slot.view.write (Elt F) fd (src.view.read (Elt F) fs) Finset.univ)
        ∗ (src.view.loc (c : Thread nD τ) ↦[src.view.set]{q} fs))
    ∗ (src.view.loc (c : Thread nD τ) ↦[Finset.univ \ src.view.set]{q} fs))

/-- A slot of the staging buffer at rest, holding `D`. -/
def Holds (slot : Memref sig .tc .vmem S1024x512 .f32) (D : Vec F S1024x512 .f32) : sProp 𝕄 :=
  iprop(∃ f, ⌜slot.view.read (Elt F) f = D⌝ ∗ (slot.view.loc (c : Thread nD τ) ↦[slot.view.set]{fullShare} f))

/-- Starting a copy into a slot at rest. -/
theorem wp_start {K : PUnit → sProp 𝕄} {s : DmaSem sig} {slot : Memref sig .tc .vmem S1024x512 .f32} {src : Memref sig .tc .hbm S1024x512 .f32}
    {hsrc : src.view.WordExact} {hdst : slot.view.WordExact} {hsem : (DmaTarget.here (nD := nD) (τ := τ) (p := Proc.tc) slot).Typed .hbm (SemLoc.dma s)}
    {k : PUnit → Prog (TpuEff nD τ sig (Elt F) Λ₀ .tc) PUnit} (q : PosShare TreeShare) (fs : Buf (Elt F) (src.view.loc (c : Thread nD τ)))
    (D : Vec F S1024x512 .f32) (hN : slot.view.amount (SemLoc.dma s) = 65536) :
    iprop(Holds c slot D ∗ semVal ((c : Thread nD τ), SemLoc.dma s) 0 ∗ (src.view.loc (c : Thread nD τ) ↦[Finset.univ]{q} fs))
      ⊢ iprop((Busy c s slot src q fs -∗ wp frame (wpE (defs₀ (F := F)) Variants.none c none) Set.univ (k ⟨⟩) K)
        -∗ wp frame (wpE (defs₀ (F := F)) Variants.none c none) Set.univ
            (Prog.lift (.enqueueDma src (DmaTarget.here slot) (SemLoc.dma s) hsrc hdst hsem) >>= k) K) := by
  unfold Holds Busy
  iintro ⟨⟨%f, -, Hd⟩, Hs, Hh⟩ Hk
  ihave Hh' := (pointsTo_split_subset (Finset.subset_univ src.view.set)).1 $$ Hh
  icases Hh' with ⟨Ha, Hb⟩
  iapply (Transfers.wp_dmaLocal countersEmb Variants.none (c : Thread nD τ) none (src := src) (dst := slot) (via := ReadAs.same)
    (k := k) (Q := K) (q := q) (fs := fs) (fd := f) (default : Unit) 65536 hN (by decide) (Finset.Subset.refl _)) $$ [Hd Hs Ha]
  · isplitl [Ha]; · iexact Ha
    isplitl [Hd]; · iexact Hd
    iexact Hs
  iintro HF
  iapply Hk
  iexists f
  isplitl [HF]; · iexact HF
  iexact Hb

/-- Waiting for the copy: the slot holds the block copied, and the array is whole again. -/
theorem wp_arrive {K : PUnit → sProp 𝕄} {s : DmaSem sig} {slot slotw : Memref sig .tc .vmem S1024x512 .f32} {src srcw : Memref sig .tc .hbm S1024x512 .f32}
    {hsrc : srcw.view.WordExact} {hdst : slotw.view.WordExact}
    {k : PUnit → Prog (TpuEff nD τ sig (Elt F) Λ₀ .tc) PUnit} (q : PosShare TreeShare) (fs : Buf (Elt F) (src.view.loc (c : Thread nD τ)))
    (hN : slotw.view.dmaCredit = 65536) :
    iprop(Busy c s slot src q fs ∗ (∃ W, owes (c : Thread nD τ) 0 W))
      ⊢ iprop((iprop(Holds c slot (src.view.read (Elt F) fs) ∗ semVal ((c : Thread nD τ), SemLoc.dma s) 0
            ∗ (src.view.loc (c : Thread nD τ) ↦[Finset.univ]{q} fs) ∗ (∃ W, owes (c : Thread nD τ) 0 W))
          -∗ wp frame (wpE (defs₀ (F := F)) Variants.none c none) Set.univ (k ⟨⟩) K)
        -∗ wp frame (wpE (defs₀ (F := F)) Variants.none c none) Set.univ
            (Prog.lift (.waitDma2 s srcw slotw hsrc hdst) >>= k) K) := by
  unfold Holds Busy
  iintro ⟨⟨%fd, HF, Hb⟩, ⟨%W, HW⟩⟩ Hk
  iapply (Transfers.wp_waitLocal countersEmb Variants.none (c : Thread nD τ) none (sem := s) (srcw := srcw) (dstw := slotw)
    (k := k) (Q := K) (default : Unit) hN) $$ [HF HW]
  · isplitl [HF]; · iexact HF
    iexact HW
  iintro ⟨⟨Hd, Ha⟩, Hs, HW⟩
  iapply Hk
  isplitl [Hd]
  · iexists _; isplitr; swap; · iexact Hd
    ipureintro; exact View.read_write_univ _ _
  isplitl [Hs]; · iexact Hs
  isplitl [Ha Hb]
  · iapply (pointsTo_split_subset (Finset.subset_univ src.view.set)).2
    isplitl [Ha]; · iexact Ha
    iexact Hb
  iexists _; iexact HW

/-- A slot's elements: those of the staging buffer's rectangle it is cut by. -/
theorem set_slot (stage : Memref sig .tc .vmem S2x1024x512 .f32) (off : Fin 3 → ℕ) (inb : ∀ a, off a + S1x1024x512.size a ≤ S2x1024x512.size a) :
    ((stage.slice (Rect.unit (s := S2x1024x512) off S1x1024x512.size inb) (fun _ => rfl)).squeeze S1024x512 squeezes_S1x1024x512_S1024x512).view.set
      = stage.view.setOn (Rect.unit (s := S2x1024x512) off S1x1024x512.size inb).set :=
  (View.set_reshape (v := stage.view.slice (Rect.unit (s := S2x1024x512) off S1x1024x512.size inb)) squeezes_S1x1024x512_S1024x512.numel_eq).trans
    (View.set_slice _ _)

/-- Reading a slot at rest through the staging buffer's own rectangle: whatever is computed of what is read is computed of `D`. -/
theorem wp_fetch {K : PUnit → sProp 𝕄} {stage : Memref sig .tc .vmem S2x1024x512 .f32} {off : Fin 3 → ℕ} {inb : ∀ a, off a + S1x1024x512.size a ≤ S2x1024x512.size a}
    {hl : stage.view.LoadsAt (Rect.unit (s := S2x1024x512) off S1x1024x512.size inb).toLoadRect}
    {k : Vec F S1x1024x512 .f32 → Prog (TpuEff nD τ sig (Elt F) Λ₀ .tc) PUnit} (D : Vec F S1024x512 .f32) :
    Holds c ((stage.slice (Rect.unit (s := S2x1024x512) off S1x1024x512.size inb) (fun _ => rfl)).squeeze S1024x512 squeezes_S1x1024x512_S1024x512) D
      ⊢ iprop((∀ v, ⌜shapeCast S1024x512 v shapeCasts_S1x1024x512_S1024x512 = D⌝ -∗
            Holds c ((stage.slice (Rect.unit (s := S2x1024x512) off S1x1024x512.size inb) (fun _ => rfl)).squeeze S1024x512 squeezes_S1x1024x512_S1024x512) D
            -∗ wp frame (wpE (defs₀ (F := F)) Variants.none c none) Set.univ (k v) K)
        -∗ wp frame (wpE (defs₀ (F := F)) Variants.none c none) Set.univ
            (Prog.lift (.load stage (Rect.unit (s := S2x1024x512) off S1x1024x512.size inb).toLoadRect hl) >>= k) K) := by
  unfold Holds
  iintro ⟨%f, %hf, Hd⟩ Hk
  iapply (wp_load Variants.none (c : Thread nD τ) none Set.univ (m := stage) (hl := hl) (k := k) (Q := K) (f := f)
    (S := ((stage.slice (Rect.unit (s := S2x1024x512) off S1x1024x512.size inb) (fun _ => rfl)).squeeze S1024x512 squeezes_S1x1024x512_S1024x512).view.set) ?hS) $$ [Hd]
  case hS =>
    rw [set_slot]
  · iexact Hd
  iintro Hd
  iapply Hk $$ %_ [] [Hd]
  · ipureintro; rw [← hf]; rfl
  iexists f; isplitr; · ipureintro; exact hf
  iexact Hd

/-- A block of a carried weight written: the list of writes grows by it. -/
theorem wp_keep {K : PUnit → sProp 𝕄} {S : Shape} {dst : Memref sig .tc .vmem S .bf16} {r : Rect S} {w w' : r.shape.Idx → Elt F .bf16} {hl : dst.view.LoadsAt r.toLoadRect}
    {hx : (dst.access r).Stores Finset.univ} {hm : Finset.univ = Finset.univ ∨ ∀ a, r.stride a = 1}
    {k : PUnit → Prog (TpuEff nD τ sig (Elt F) Λ₀ .tc) PUnit} {f : Buf (Elt F) (dst.view.loc (c : Thread nD τ))}
    {L : List (View.Piece (Elt F) S .bf16)} (hw : w = w') :
    (dst.view.loc (c : Thread nD τ) ↦[dst.view.set]{fullShare} dst.view.writes (Elt F) f L)
      ⊢ iprop(((dst.view.loc (c : Thread nD τ) ↦[dst.view.set]{fullShare} dst.view.writes (Elt F) f (⟨r, w'⟩ :: L))
          -∗ wp frame (wpE (defs₀ (F := F)) Variants.none c none) Set.univ (k ⟨⟩) K)
        -∗ wp frame (wpE (defs₀ (F := F)) Variants.none c none) Set.univ
            (Prog.lift (.load dst r.toLoadRect hl) >>= fun _ => Prog.lift (.store dst r w Finset.univ hx hm) >>= k) K) := by
  subst hw
  iintro Hd Hk
  iapply (wp_load Variants.none (c : Thread nD τ) none Set.univ (m := dst) (hl := hl) (Q := K)
    (k := fun _ => Prog.lift (.store dst r w Finset.univ hx hm) >>= k) (S := dst.view.set) (f := dst.view.writes (Elt F) f L) ?hS) $$ [Hd]
  case hS => exact dst.view.setOn_subset_set _
  · iexact Hd
  iintro Hd
  iapply (wp_store_writes Variants.none (c : Thread nD τ) none Set.univ (m := dst) (Q := K) (k := k) (hx := hx) (hm := hm) (S := dst.view.set)
    (w := w) (f := f) (L := L) (dst.view.set_slice_subset r)) $$ [Hd]
  · iexact Hd
  iexact Hk

/-- A copy awaited, read out of its slot, converted and kept in a carried weight: the slot and the array it came from are free again, and the
    carried weight's list of writes grows by the converted block. -/
theorem wp_take {K : PUnit → sProp 𝕄} {s : DmaSem sig} {stage : Memref sig .tc .vmem S2x1024x512 .f32} {off : Fin 3 → ℕ} {inb : ∀ a, off a + S1x1024x512.size a ≤ S2x1024x512.size a}
    {hl : stage.view.LoadsAt (Rect.unit (s := S2x1024x512) off S1x1024x512.size inb).toLoadRect}
    {src srcw : Memref sig .tc .hbm S1024x512 .f32} {hsrc : srcw.view.WordExact}
    {hdst : ((stage.slice (Rect.unit (s := S2x1024x512) off S1x1024x512.size inb) (fun _ => rfl)).squeeze S1024x512 squeezes_S1x1024x512_S1024x512).view.WordExact}
    {S : Shape} {dst : Memref sig .tc .vmem S .bf16} {r : Rect S} {w : Vec F S1x1024x512 .f32 → r.shape.Idx → Elt F .bf16} {w' : Vec F S1024x512 .f32 → r.shape.Idx → Elt F .bf16}
    {hl' : dst.view.LoadsAt r.toLoadRect} {hx : (dst.access r).Stores Finset.univ} {hm : Finset.univ = Finset.univ ∨ ∀ a, r.stride a = 1}
    {k : PUnit → Prog (TpuEff nD τ sig (Elt F) Λ₀ .tc) PUnit} {f : Buf (Elt F) (dst.view.loc (c : Thread nD τ))}
    {L : List (View.Piece (Elt F) S .bf16)} (q : PosShare TreeShare) (fs : Buf (Elt F) (src.view.loc (c : Thread nD τ)))
    (hN : ((stage.slice (Rect.unit (s := S2x1024x512) off S1x1024x512.size inb) (fun _ => rfl)).squeeze S1024x512 squeezes_S1x1024x512_S1024x512).view.dmaCredit = 65536)
    (hw : ∀ v, w v = w' (shapeCast S1024x512 v shapeCasts_S1x1024x512_S1024x512)) :
    iprop(Busy c s ((stage.slice (Rect.unit (s := S2x1024x512) off S1x1024x512.size inb) (fun _ => rfl)).squeeze S1024x512 squeezes_S1x1024x512_S1024x512) src q fs
        ∗ (∃ W, owes (c : Thread nD τ) 0 W) ∗ (dst.view.loc (c : Thread nD τ) ↦[dst.view.set]{fullShare} dst.view.writes (Elt F) f L))
      ⊢ iprop((iprop(Holds c ((stage.slice (Rect.unit (s := S2x1024x512) off S1x1024x512.size inb) (fun _ => rfl)).squeeze S1024x512 squeezes_S1x1024x512_S1024x512) (src.view.read (Elt F) fs)
            ∗ semVal ((c : Thread nD τ), SemLoc.dma s) 0 ∗ (src.view.loc (c : Thread nD τ) ↦[Finset.univ]{q} fs) ∗ (∃ W, owes (c : Thread nD τ) 0 W)
            ∗ (dst.view.loc (c : Thread nD τ) ↦[dst.view.set]{fullShare} dst.view.writes (Elt F) f (⟨r, w' (src.view.read (Elt F) fs)⟩ :: L)))
          -∗ wp frame (wpE (defs₀ (F := F)) Variants.none c none) Set.univ (k ⟨⟩) K)
        -∗ wp frame (wpE (defs₀ (F := F)) Variants.none c none) Set.univ
            (Prog.lift (.waitDma2 s srcw ((stage.slice (Rect.unit (s := S2x1024x512) off S1x1024x512.size inb) (fun _ => rfl)).squeeze S1024x512 squeezes_S1x1024x512_S1024x512) hsrc hdst) >>= fun _ =>
              Prog.lift (.load stage (Rect.unit (s := S2x1024x512) off S1x1024x512.size inb).toLoadRect hl) >>= fun v =>
              Prog.lift (.load dst r.toLoadRect hl') >>= fun _ => Prog.lift (.store dst r (w v) Finset.univ hx hm) >>= k) K) := by
  iintro ⟨HB, HW, HD⟩ Hk
  iapply (wp_arrive c q fs hN) $$ [HB HW]
  · isplitl [HB]; · iexact HB
    iexact HW
  iintro ⟨HS, Hs, Ha, HW⟩
  iapply (wp_fetch c _) $$ HS
  iintro %v %hv HS
  iapply (wp_keep c (w' := w' (src.view.read (Elt F) fs)) (by rw [hw, hv])) $$ HD
  iintro HD
  iapply Hk
  isplitl [HS]; · iexact HS
  isplitl [Hs]; · iexact Hs
  isplitl [Ha]; · iexact Ha
  isplitl [HW]; · iexact HW
  iexact HD

end slot

end Cert.KernelIdeal.Mix

end
-- ==== Proof.MaskRun.lean ====
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The masking of the mixing matrices: the last of what the body does at the first point only. -/
noncomputable def maskProg (i : grid0.Coords) (arg1 : Memref sig .tc .vmem S512x1024 .f32) (harg1 : arg1.IsWhole) (arg2 : Memref sig .tc .vmem S1x1024 .f32) (harg2 : arg2.IsWhole) (arg3 : Memref sig .tc .hbm S1024x6144 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg8 : Memref sig .tc .hbm S2048x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole) (arg18 : DmaSems sig S2)
    (v1709 : IVec S128x128 32) (v1723 : IVec S128x128 1) (v1725 : IVec S128x128 32) :
    Prog (TpuEff nD τ sig (Elt F) Λ₀ .tc) PUnit := do
  let ⟨v1731, v1756, v1766⟩ : Σ' (v1731 : IVec S128x128 32) (v1756 : IVec S128x128 32), IVec S128x128 1 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1709 v1723 v1725
  let v1798 : FVec F S128x128 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1731 v1756 v1766
  let v1829 : IVec S128x128 1 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1731 v1756 v1798
  let v1861 : FVec F S128x128 .bf16 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1731 v1756 v1829
  let ⟨v1892, v1893⟩ : Σ' (v1892 : IVec S128x128 1), Vec F S1x128x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1731 v1756 v1861
  let v1898 : Vec F S1x128x128 .bf16 ← Prog.lift (.load arg16 (Rect.unit (s := S16x128x128) ![15, 0, 0] S1x128x128.size inb_S16x128x128_S1x128x128_15_0_0).toLoadRect (View.loadsAt_vmem h_S1x128x128))

  Prog.lift (.store arg16 (Rect.unit (s := S16x128x128) ![15, 0, 0] S1x128x128.size inb_S16x128x128_S1x128x128_15_0_0) (k0_pay43 v1892 v1893) Finset.univ (View.stores_vmem h_S1x128x128 (harg16.storeExact_slice rfl _ packedbf16_S16x128x128_S1x128x128_15_0_0) (fun _ => rfl)) (.inl rfl))
  pure ⟨⟩

/-- What the body does at the first point only: copies both weights in through the staging buffer, converting each
    block, and masks the mixing matrices. -/
noncomputable def initProg (i : grid0.Coords) (arg1 : Memref sig .tc .vmem S512x1024 .f32) (harg1 : arg1.IsWhole) (arg2 : Memref sig .tc .vmem S1x1024 .f32) (harg2 : arg2.IsWhole) (arg3 : Memref sig .tc .hbm S1024x6144 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg8 : Memref sig .tc .hbm S2048x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole) (arg18 : DmaSems sig S2) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  let ⟨v1709, v1723, v1725⟩ : Σ' (v1709 : IVec S128x128 32) (v1723 : IVec S128x128 1), IVec S128x128 32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  maskProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1709 v1723 v1725

-- (the run's proof term is large: the definition's epilogue walks it past the default budget)
set_option maxHeartbeats 3444000 in
/-- The masking's run: the pieces it leaves in the carried mixing matrices, and its triple. -/
noncomputable def maskRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .hbm S1024x6144 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg8 : Memref sig .tc .hbm S2048x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole) (arg18 : DmaSems sig S2)
    (v1709 : IVec S128x128 32) (v1723 : IVec S128x128 1) (v1725 : IVec S128x128 32) (x4 : Vec F S16x128x128 .f32) :
    { LS6 : List (View.Piece (Elt F) S16x128x128 .bf16) // ∀ (K : PUnit → sProp 𝕄),
        iprop(owns (c : Thread nD τ) arg6 fullShare x4 ∗ (∃ d, owns (c : Thread nD τ) arg16 fullShare d)
            ∗ (iprop(owns (c : Thread nD τ) arg6 fullShare x4 ∗ (∃ f, arg16.view.loc (c : Thread nD τ) ↦[arg16.view.set]{fullShare} arg16.view.writes (Elt F) f LS6)) -∗ K ⟨⟩))
          ⊢ wp frame (wpE (defs₀ (F := F)) Variants.none c none) Set.univ (maskProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1709 v1723 v1725) K } := by
  refine ⟨?_, fun K => ?run⟩
  case run =>
    unfold maskProg
    simp only [k0_part11_eq_skeleton, k0_part12_eq_skeleton, k0_part13_eq_skeleton, k0_part14_eq_skeleton, k0_part15_eq_skeleton]
    unfold owns
    iintro ⟨⟨%f4, %hf4, H4⟩, ⟨%ds6, %fs6, -, HS6⟩, Hk⟩
    obtain rfl := harg6.eq_unread hf4
    sl_exec
    sl_step
    iapply Hk
    isplitl [H4]
    · iexists _; isplitr; · ipureintro; exact harg6.read_unread _
      iexact H4
    iexists _; iexact HS6

end Cert.KernelIdeal.Mix

end
-- ==== Proof.Init.lean ====
module

public import proofs.«01_k».proof.Proof.Stream
public import proofs.«01_k».proof.Proof.MaskRun

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A block of the first weight, as the array holds it. -/
def inBlk (c : Dev nD) (fh : HbBuf0 (F := F) c hbM0_0) (off : Fin 2 → ℕ) (inb : ∀ a, off a + S1024x512.size a ≤ S1024x6144.size a) : Vec F S1024x512 .f32 :=
  (hbM0_0.slice (Rect.unit (s := S1024x6144) off S1024x512.size inb) (fun _ => rfl)).view.read (Elt F) fh
/-- A block of the second weight, as the array holds it. -/
def outBlk (c : Dev nD) (fh : HbBuf0 (F := F) c hbM0_1) (off : Fin 2 → ℕ) (inb : ∀ a, off a + S1024x512.size a ≤ S2048x1024.size a) : Vec F S1024x512 .f32 :=
  (hbM0_1.slice (Rect.unit (s := S2048x1024) off S1024x512.size inb) (fun _ => rfl)).view.read (Elt F) fh
/-- A block as it is kept. -/
def kept (v : Vec F S1024x512 .f32) : FVec F S1024x512 .bf16 := shapeCast S1024x512 (truncf .bf16 v bitsLt_bf16_f32) shapeCasts_S1024x512_S1024x512
/-- A block of the first weight kept, as a piece of the carried copy. -/
def inPiece (c : Dev nD) (fh : HbBuf0 (F := F) c hbM0_0) (off : Fin 2 → ℕ) (inb : ∀ a, off a + S1024x512.size a ≤ S1024x6144.size a) : View.Piece (Elt F) S1024x6144 .bf16 :=
  ⟨Rect.unit (s := S1024x6144) off S1024x512.size inb, kept (inBlk c fh off inb)⟩
/-- A block of the second weight kept, as a piece of the carried copy. -/
def outPiece (c : Dev nD) (fh : HbBuf0 (F := F) c hbM0_1) (off : Fin 2 → ℕ) (inb : ∀ a, off a + S1024x512.size a ≤ S2048x1024.size a) : View.Piece (Elt F) S2048x1024 .bf16 :=
  ⟨Rect.unit (s := S2048x1024) off S1024x512.size inb, kept (outBlk c fh off inb)⟩

/-- What the first point leaves in the carried copy of the first weight. -/
def winPieces (c : Dev nD) (fh : HbBuf0 (F := F) c hbM0_0) : List (View.Piece (Elt F) S1024x6144 .bf16) :=
  [inPiece c fh ![0, 5632] inb_S1024x6144_S1024x512_0_5632,
    inPiece c fh ![0, 5120] inb_S1024x6144_S1024x512_0_5120,
    inPiece c fh ![0, 4608] inb_S1024x6144_S1024x512_0_4608,
    inPiece c fh ![0, 4096] inb_S1024x6144_S1024x512_0_4096,
    inPiece c fh ![0, 3584] inb_S1024x6144_S1024x512_0_3584,
    inPiece c fh ![0, 3072] inb_S1024x6144_S1024x512_0_3072,
    inPiece c fh ![0, 2560] inb_S1024x6144_S1024x512_0_2560,
    inPiece c fh ![0, 2048] inb_S1024x6144_S1024x512_0_2048,
    inPiece c fh ![0, 1536] inb_S1024x6144_S1024x512_0_1536,
    inPiece c fh ![0, 1024] inb_S1024x6144_S1024x512_0_1024,
    inPiece c fh ![0, 512] inb_S1024x6144_S1024x512_0_512,
    inPiece c fh ![0, 0] inb_S1024x6144_S1024x512_0_0]
/-- What the first point leaves in the carried copy of the second weight. -/
def woutPieces (c : Dev nD) (fh : HbBuf0 (F := F) c hbM0_1) : List (View.Piece (Elt F) S2048x1024 .bf16) :=
  [outPiece c fh ![1024, 512] inb_S2048x1024_S1024x512_1024_512, outPiece c fh ![1024, 0] inb_S2048x1024_S1024x512_1024_0,
    outPiece c fh ![0, 512] inb_S2048x1024_S1024x512_0_512, outPiece c fh ![0, 0] inb_S2048x1024_S1024x512_0_0]

/-- Slot 0 of the staging buffer. -/
abbrev slot0 (stage : Memref sig .tc .vmem S2x1024x512 .f32) : Memref sig .tc .vmem S1024x512 .f32 :=
  (stage.slice (Rect.unit (s := S2x1024x512) ![0, 0, 0] S1x1024x512.size inb_S2x1024x512_S1x1024x512_0_0_0) (fun _ => rfl)).squeeze S1024x512 squeezes_S1x1024x512_S1024x512
theorem amount0 (stage : Memref sig .tc .vmem S2x1024x512 .f32) : (slot0 stage).view.amount (SemLoc.dma 9) = 65536 := rfl
theorem credit0 (stage : Memref sig .tc .vmem S2x1024x512 .f32) : (slot0 stage).view.dmaCredit = 65536 := rfl

/-- Slot 1 of the staging buffer. -/
abbrev slot1 (stage : Memref sig .tc .vmem S2x1024x512 .f32) : Memref sig .tc .vmem S1024x512 .f32 :=
  (stage.slice (Rect.unit (s := S2x1024x512) ![1, 0, 0] S1x1024x512.size inb_S2x1024x512_S1x1024x512_1_0_0) (fun _ => rfl)).squeeze S1024x512 squeezes_S1x1024x512_S1024x512
theorem amount1 (stage : Memref sig .tc .vmem S2x1024x512 .f32) : (slot1 stage).view.amount (SemLoc.dma 10) = 65536 := rfl
theorem credit1 (stage : Memref sig .tc .vmem S2x1024x512 .f32) : (slot1 stage).view.dmaCredit = 65536 := rfl

/-- The two slots' elements are apart. -/
theorem slots_apart (stage : Memref sig .tc .vmem S2x1024x512 .f32) :
    Disjoint (stage.view.setOn (Rect.unit (s := S2x1024x512) ![0, 0, 0] S1x1024x512.size inb_S2x1024x512_S1x1024x512_0_0_0).set)
      (stage.view.setOn (Rect.unit (s := S2x1024x512) ![1, 0, 0] S1x1024x512.size inb_S2x1024x512_S1x1024x512_1_0_0).set) := by
  unfold View.setOn
  exact (Finset.disjoint_map _).mpr (Rect.unit_disjoint (0 : Fin 3) (Or.inl (by decide)))

set_option maxHeartbeats 4000000 in
/-- The first point's set-up: the blocks it leaves in the carried weights and in the carried mixing matrices. -/
theorem initRun (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole)
    (x4 : Vec F S16x128x128 .f32) (fh0 : HbBuf0 (F := F) c hbM0_0) (fh1 : HbBuf0 (F := F) c hbM0_1) (K : PUnit → sProp 𝕄) :
        iprop(owns (c : Thread nD τ) arg6 fullShare x4 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 9) 0 ∗ semVal ((c : Thread nD τ), SemLoc.dma 10) 0 ∗ hbPt0 c hbM0_0 fh0 ∗ hbPt0 c hbM0_1 fh1 ∗ (∃ W, owes (c : Thread nD τ) 0 W)
            ∗ (iprop(owns (c : Thread nD τ) arg6 fullShare x4 ∗ (∃ f, arg14.view.loc (c : Thread nD τ) ↦[arg14.view.set]{fullShare} arg14.view.writes (Elt F) f (winPieces c fh0)) ∗ (∃ f, arg15.view.loc (c : Thread nD τ) ↦[arg15.view.set]{fullShare} arg15.view.writes (Elt F) f (woutPieces c fh1))
                ∗ (∃ f, arg16.view.loc (c : Thread nD τ) ↦[arg16.view.set]{fullShare} arg16.view.writes (Elt F) f (maskRun c i arg1 harg1 arg2 harg2 (Memref.whole main_v3) (Memref.isWhole_whole _) arg4 harg4 arg5 harg5 arg6 harg6 arg7 harg7 (Memref.whole main_v11) (Memref.isWhole_whole _) arg9 harg9 arg10 harg10 arg11 harg11 arg12 harg12 arg13 harg13 arg14 harg14 arg15 harg15 arg16 harg16 arg17 harg17 cc0_scratch8 k0_pay18 k0_pay19 k0_pay20 x4).1)
                ∗ (∃ d, owns (c : Thread nD τ) arg17 fullShare d) ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (initProg i arg1 harg1 arg2 harg2 (Memref.whole main_v3) (Memref.isWhole_whole _) arg4 harg4 arg5 harg5 arg6 harg6 arg7 harg7 (Memref.whole main_v11) (Memref.isWhole_whole _) arg9 harg9 arg10 harg10 arg11 harg11 arg12 harg12 arg13 harg13 arg14 harg14 arg15 harg15 arg16 harg16 arg17 harg17 cc0_scratch8) K := by
    have hB : arg17.view.setOn (Rect.unit (s := S2x1024x512) ![1, 0, 0] S1x1024x512.size inb_S2x1024x512_S1x1024x512_1_0_0).set
        ⊆ arg17.view.set \ arg17.view.setOn (Rect.unit (s := S2x1024x512) ![0, 0, 0] S1x1024x512.size inb_S2x1024x512_S1x1024x512_0_0_0).set :=
      Finset.subset_sdiff.mpr ⟨arg17.view.setOn_subset_set _, (slots_apart arg17).symm⟩
    unfold initProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold k0_part1_skel k0_part2_skel k0_part3_skel k0_part4_skel k0_part5_skel k0_part6_skel k0_part7_skel k0_part8_skel k0_part9_skel k0_part10_skel
    simp only [bind_assoc, pure_bind]
    iintro ⟨H4, ⟨%ds4, HS4⟩, ⟨%ds5, HS5⟩, HS6, ⟨%ds7, HS7⟩, HcA, HcB, HI, HO, HW, Hk⟩
    unfold owns
    icases HS4 with ⟨%f4, -, HS4⟩
    icases HS5 with ⟨%f5, -, HS5⟩
    icases HS7 with ⟨%f7, -, HS7⟩
    ihave HI' := (pointsTo_share (PosShare.mem_left_op_right fullShare)).1 $$ HI
    icases HI' with ⟨HIA, HIB⟩
    ihave HO' := (pointsTo_share (PosShare.mem_left_op_right fullShare)).1 $$ HO
    icases HO' with ⟨HOA, HOB⟩
    ihave HS7' := (pointsTo_split_subset (arg17.view.setOn_subset_set _)).1 $$ HS7
    icases HS7' with ⟨HfA, HR⟩
    ihave HR' := (pointsTo_split_subset hB).1 $$ HR
    icases HR' with ⟨HfB, HR⟩
    ihave HsA : (Holds c ((arg17.slice (Rect.unit (s := S2x1024x512) ![0, 0, 0] S1x1024x512.size inb_S2x1024x512_S1x1024x512_0_0_0) (fun _ => rfl)).squeeze S1024x512 squeezes_S1x1024x512_S1024x512) _) $$ [HfA]
    · unfold Holds; rw [set_slot]
      iexists f7; isplitr; swap; · iexact HfA
      ipureintro; rfl
    ihave HsB : (Holds c ((arg17.slice (Rect.unit (s := S2x1024x512) ![1, 0, 0] S1x1024x512.size inb_S2x1024x512_S1x1024x512_1_0_0) (fun _ => rfl)).squeeze S1024x512 squeezes_S1x1024x512_S1024x512) _) $$ [HfB]
    · unfold Holds; rw [set_slot]
      iexists f7; isplitr; swap; · iexact HfB
      ipureintro; rfl
    iapply (wp_start c (s := 9) (slot := slot0 arg17) (src := (hbM0_0.slice (Rect.unit (s := S1024x6144) ![0, 0] S1024x512.size inb_S1024x6144_S1024x512_0_0) (fun _ => rfl))) fullShare.left fh0 _ (amount0 arg17)) $$ [HsA HcA HIA]
    · isplitl [HsA]; · iexact HsA
      isplitl [HcA]; · iexact HcA
      iexact HIA
    iintro HbA
    iapply (wp_start c (s := 10) (slot := slot1 arg17) (src := (hbM0_0.slice (Rect.unit (s := S1024x6144) ![0, 512] S1024x512.size inb_S1024x6144_S1024x512_0_512) (fun _ => rfl))) fullShare.right fh0 _ (amount1 arg17)) $$ [HsB HcB HIB]
    · isplitl [HsB]; · iexact HsB
      isplitl [HcB]; · iexact HcB
      iexact HIB
    iintro HbB
    iapply (wp_take c (s := 9) (stage := arg17) (off := ![0, 0, 0]) (inb := inb_S2x1024x512_S1x1024x512_0_0_0) (src := (hbM0_0.slice (Rect.unit (s := S1024x6144) ![0, 0] S1024x512.size inb_S1024x6144_S1024x512_0_0) (fun _ => rfl))) (srcw := (hbM0_0.slice (Rect.unit (s := S1024x6144) ![0, 0] S1024x512.size inb_S1024x6144_S1024x512_0_0) (fun _ => rfl))) (dst := arg14) (r := (Rect.unit (s := S1024x6144) ![0, 0] S1024x512.size inb_S1024x6144_S1024x512_0_0)) (w := k0_pay2) (w' := kept) (f := f4) (L := []) fullShare.left fh0 (credit0 arg17) (fun _ => rfl)) $$ [HbA HW HS4]
    · isplitl [HbA]; · iexact HbA
      isplitl [HW]; · iexact HW
      iexact HS4
    iintro ⟨HsA, HcA, HIA, HW, HS4⟩
    iapply (wp_start c (s := 9) (slot := slot0 arg17) (src := (hbM0_0.slice (Rect.unit (s := S1024x6144) ![0, 1024] S1024x512.size inb_S1024x6144_S1024x512_0_1024) (fun _ => rfl))) fullShare.left fh0 _ (amount0 arg17)) $$ [HsA HcA HIA]
    · isplitl [HsA]; · iexact HsA
      isplitl [HcA]; · iexact HcA
      iexact HIA
    iintro HbA
    iapply (wp_take c (s := 10) (stage := arg17) (off := ![1, 0, 0]) (inb := inb_S2x1024x512_S1x1024x512_1_0_0) (src := (hbM0_0.slice (Rect.unit (s := S1024x6144) ![0, 512] S1024x512.size inb_S1024x6144_S1024x512_0_512) (fun _ => rfl))) (srcw := (hbM0_0.slice (Rect.unit (s := S1024x6144) ![0, 512] S1024x512.size inb_S1024x6144_S1024x512_0_512) (fun _ => rfl))) (dst := arg14) (r := (Rect.unit (s := S1024x6144) ![0, 512] S1024x512.size inb_S1024x6144_S1024x512_0_512)) (w := k0_pay3) (w' := kept) (f := f4) fullShare.right fh0 (credit1 arg17) (fun _ => rfl)) $$ [HbB HW HS4]
    · isplitl [HbB]; · iexact HbB
      isplitl [HW]; · iexact HW
      iexact HS4
    iintro ⟨HsB, HcB, HIB, HW, HS4⟩
    iapply (wp_start c (s := 10) (slot := slot1 arg17) (src := (hbM0_0.slice (Rect.unit (s := S1024x6144) ![0, 1536] S1024x512.size inb_S1024x6144_S1024x512_0_1536) (fun _ => rfl))) fullShare.right fh0 _ (amount1 arg17)) $$ [HsB HcB HIB]
    · isplitl [HsB]; · iexact HsB
      isplitl [HcB]; · iexact HcB
      iexact HIB
    iintro HbB
    iapply (wp_take c (s := 9) (stage := arg17) (off := ![0, 0, 0]) (inb := inb_S2x1024x512_S1x1024x512_0_0_0) (src := (hbM0_0.slice (Rect.unit (s := S1024x6144) ![0, 1024] S1024x512.size inb_S1024x6144_S1024x512_0_1024) (fun _ => rfl))) (srcw := (hbM0_0.slice (Rect.unit (s := S1024x6144) ![0, 1024] S1024x512.size inb_S1024x6144_S1024x512_0_1024) (fun _ => rfl))) (dst := arg14) (r := (Rect.unit (s := S1024x6144) ![0, 1024] S1024x512.size inb_S1024x6144_S1024x512_0_1024)) (w := k0_pay4) (w' := kept) (f := f4) fullShare.left fh0 (credit0 arg17) (fun _ => rfl)) $$ [HbA HW HS4]
    · isplitl [HbA]; · iexact HbA
      isplitl [HW]; · iexact HW
      iexact HS4
    iintro ⟨HsA, HcA, HIA, HW, HS4⟩
    iapply (wp_start c (s := 9) (slot := slot0 arg17) (src := (hbM0_0.slice (Rect.unit (s := S1024x6144) ![0, 2048] S1024x512.size inb_S1024x6144_S1024x512_0_2048) (fun _ => rfl))) fullShare.left fh0 _ (amount0 arg17)) $$ [HsA HcA HIA]
    · isplitl [HsA]; · iexact HsA
      isplitl [HcA]; · iexact HcA
      iexact HIA
    iintro HbA
    iapply (wp_take c (s := 10) (stage := arg17) (off := ![1, 0, 0]) (inb := inb_S2x1024x512_S1x1024x512_1_0_0) (src := (hbM0_0.slice (Rect.unit (s := S1024x6144) ![0, 1536] S1024x512.size inb_S1024x6144_S1024x512_0_1536) (fun _ => rfl))) (srcw := (hbM0_0.slice (Rect.unit (s := S1024x6144) ![0, 1536] S1024x512.size inb_S1024x6144_S1024x512_0_1536) (fun _ => rfl))) (dst := arg14) (r := (Rect.unit (s := S1024x6144) ![0, 1536] S1024x512.size inb_S1024x6144_S1024x512_0_1536)) (w := k0_pay5) (w' := kept) (f := f4) fullShare.right fh0 (credit1 arg17) (fun _ => rfl)) $$ [HbB HW HS4]
    · isplitl [HbB]; · iexact HbB
      isplitl [HW]; · iexact HW
      iexact HS4
    iintro ⟨HsB, HcB, HIB, HW, HS4⟩
    iapply (wp_start c (s := 10) (slot := slot1 arg17) (src := (hbM0_0.slice (Rect.unit (s := S1024x6144) ![0, 2560] S1024x512.size inb_S1024x6144_S1024x512_0_2560) (fun _ => rfl))) fullShare.right fh0 _ (amount1 arg17)) $$ [HsB HcB HIB]
    · isplitl [HsB]; · iexact HsB
      isplitl [HcB]; · iexact HcB
      iexact HIB
    iintro HbB
    iapply (wp_take c (s := 9) (stage := arg17) (off := ![0, 0, 0]) (inb := inb_S2x1024x512_S1x1024x512_0_0_0) (src := (hbM0_0.slice (Rect.unit (s := S1024x6144) ![0, 2048] S1024x512.size inb_S1024x6144_S1024x512_0_2048) (fun _ => rfl))) (srcw := (hbM0_0.slice (Rect.unit (s := S1024x6144) ![0, 2048] S1024x512.size inb_S1024x6144_S1024x512_0_2048) (fun _ => rfl))) (dst := arg14) (r := (Rect.unit (s := S1024x6144) ![0, 2048] S1024x512.size inb_S1024x6144_S1024x512_0_2048)) (w := k0_pay6) (w' := kept) (f := f4) fullShare.left fh0 (credit0 arg17) (fun _ => rfl)) $$ [HbA HW HS4]
    · isplitl [HbA]; · iexact HbA
      isplitl [HW]; · iexact HW
      iexact HS4
    iintro ⟨HsA, HcA, HIA, HW, HS4⟩
    iapply (wp_start c (s := 9) (slot := slot0 arg17) (src := (hbM0_0.slice (Rect.unit (s := S1024x6144) ![0, 3072] S1024x512.size inb_S1024x6144_S1024x512_0_3072) (fun _ => rfl))) fullShare.left fh0 _ (amount0 arg17)) $$ [HsA HcA HIA]
    · isplitl [HsA]; · iexact HsA
      isplitl [HcA]; · iexact HcA
      iexact HIA
    iintro HbA
    iapply (wp_take c (s := 10) (stage := arg17) (off := ![1, 0, 0]) (inb := inb_S2x1024x512_S1x1024x512_1_0_0) (src := (hbM0_0.slice (Rect.unit (s := S1024x6144) ![0, 2560] S1024x512.size inb_S1024x6144_S1024x512_0_2560) (fun _ => rfl))) (srcw := (hbM0_0.slice (Rect.unit (s := S1024x6144) ![0, 2560] S1024x512.size inb_S1024x6144_S1024x512_0_2560) (fun _ => rfl))) (dst := arg14) (r := (Rect.unit (s := S1024x6144) ![0, 2560] S1024x512.size inb_S1024x6144_S1024x512_0_2560)) (w := k0_pay7) (w' := kept) (f := f4) fullShare.right fh0 (credit1 arg17) (fun _ => rfl)) $$ [HbB HW HS4]
    · isplitl [HbB]; · iexact HbB
      isplitl [HW]; · iexact HW
      iexact HS4
    iintro ⟨HsB, HcB, HIB, HW, HS4⟩
    iapply (wp_start c (s := 10) (slot := slot1 arg17) (src := (hbM0_0.slice (Rect.unit (s := S1024x6144) ![0, 3584] S1024x512.size inb_S1024x6144_S1024x512_0_3584) (fun _ => rfl))) fullShare.right fh0 _ (amount1 arg17)) $$ [HsB HcB HIB]
    · isplitl [HsB]; · iexact HsB
      isplitl [HcB]; · iexact HcB
      iexact HIB
    iintro HbB
    iapply (wp_take c (s := 9) (stage := arg17) (off := ![0, 0, 0]) (inb := inb_S2x1024x512_S1x1024x512_0_0_0) (src := (hbM0_0.slice (Rect.unit (s := S1024x6144) ![0, 3072] S1024x512.size inb_S1024x6144_S1024x512_0_3072) (fun _ => rfl))) (srcw := (hbM0_0.slice (Rect.unit (s := S1024x6144) ![0, 3072] S1024x512.size inb_S1024x6144_S1024x512_0_3072) (fun _ => rfl))) (dst := arg14) (r := (Rect.unit (s := S1024x6144) ![0, 3072] S1024x512.size inb_S1024x6144_S1024x512_0_3072)) (w := k0_pay8) (w' := kept) (f := f4) fullShare.left fh0 (credit0 arg17) (fun _ => rfl)) $$ [HbA HW HS4]
    · isplitl [HbA]; · iexact HbA
      isplitl [HW]; · iexact HW
      iexact HS4
    iintro ⟨HsA, HcA, HIA, HW, HS4⟩
    iapply (wp_start c (s := 9) (slot := slot0 arg17) (src := (hbM0_0.slice (Rect.unit (s := S1024x6144) ![0, 4096] S1024x512.size inb_S1024x6144_S1024x512_0_4096) (fun _ => rfl))) fullShare.left fh0 _ (amount0 arg17)) $$ [HsA HcA HIA]
    · isplitl [HsA]; · iexact HsA
      isplitl [HcA]; · iexact HcA
      iexact HIA
    iintro HbA
    iapply (wp_take c (s := 10) (stage := arg17) (off := ![1, 0, 0]) (inb := inb_S2x1024x512_S1x1024x512_1_0_0) (src := (hbM0_0.slice (Rect.unit (s := S1024x6144) ![0, 3584] S1024x512.size inb_S1024x6144_S1024x512_0_3584) (fun _ => rfl))) (srcw := (hbM0_0.slice (Rect.unit (s := S1024x6144) ![0, 3584] S1024x512.size inb_S1024x6144_S1024x512_0_3584) (fun _ => rfl))) (dst := arg14) (r := (Rect.unit (s := S1024x6144) ![0, 3584] S1024x512.size inb_S1024x6144_S1024x512_0_3584)) (w := k0_pay9) (w' := kept) (f := f4) fullShare.right fh0 (credit1 arg17) (fun _ => rfl)) $$ [HbB HW HS4]
    · isplitl [HbB]; · iexact HbB
      isplitl [HW]; · iexact HW
      iexact HS4
    iintro ⟨HsB, HcB, HIB, HW, HS4⟩
    iapply (wp_start c (s := 10) (slot := slot1 arg17) (src := (hbM0_0.slice (Rect.unit (s := S1024x6144) ![0, 4608] S1024x512.size inb_S1024x6144_S1024x512_0_4608) (fun _ => rfl))) fullShare.right fh0 _ (amount1 arg17)) $$ [HsB HcB HIB]
    · isplitl [HsB]; · iexact HsB
      isplitl [HcB]; · iexact HcB
      iexact HIB
    iintro HbB
    iapply (wp_take c (s := 9) (stage := arg17) (off := ![0, 0, 0]) (inb := inb_S2x1024x512_S1x1024x512_0_0_0) (src := (hbM0_0.slice (Rect.unit (s := S1024x6144) ![0, 4096] S1024x512.size inb_S1024x6144_S1024x512_0_4096) (fun _ => rfl))) (srcw := (hbM0_0.slice (Rect.unit (s := S1024x6144) ![0, 4096] S1024x512.size inb_S1024x6144_S1024x512_0_4096) (fun _ => rfl))) (dst := arg14) (r := (Rect.unit (s := S1024x6144) ![0, 4096] S1024x512.size inb_S1024x6144_S1024x512_0_4096)) (w := k0_pay10) (w' := kept) (f := f4) fullShare.left fh0 (credit0 arg17) (fun _ => rfl)) $$ [HbA HW HS4]
    · isplitl [HbA]; · iexact HbA
      isplitl [HW]; · iexact HW
      iexact HS4
    iintro ⟨HsA, HcA, HIA, HW, HS4⟩
    iapply (wp_start c (s := 9) (slot := slot0 arg17) (src := (hbM0_0.slice (Rect.unit (s := S1024x6144) ![0, 5120] S1024x512.size inb_S1024x6144_S1024x512_0_5120) (fun _ => rfl))) fullShare.left fh0 _ (amount0 arg17)) $$ [HsA HcA HIA]
    · isplitl [HsA]; · iexact HsA
      isplitl [HcA]; · iexact HcA
      iexact HIA
    iintro HbA
    iapply (wp_take c (s := 10) (stage := arg17) (off := ![1, 0, 0]) (inb := inb_S2x1024x512_S1x1024x512_1_0_0) (src := (hbM0_0.slice (Rect.unit (s := S1024x6144) ![0, 4608] S1024x512.size inb_S1024x6144_S1024x512_0_4608) (fun _ => rfl))) (srcw := (hbM0_0.slice (Rect.unit (s := S1024x6144) ![0, 4608] S1024x512.size inb_S1024x6144_S1024x512_0_4608) (fun _ => rfl))) (dst := arg14) (r := (Rect.unit (s := S1024x6144) ![0, 4608] S1024x512.size inb_S1024x6144_S1024x512_0_4608)) (w := k0_pay11) (w' := kept) (f := f4) fullShare.right fh0 (credit1 arg17) (fun _ => rfl)) $$ [HbB HW HS4]
    · isplitl [HbB]; · iexact HbB
      isplitl [HW]; · iexact HW
      iexact HS4
    iintro ⟨HsB, HcB, HIB, HW, HS4⟩
    iapply (wp_start c (s := 10) (slot := slot1 arg17) (src := (hbM0_0.slice (Rect.unit (s := S1024x6144) ![0, 5632] S1024x512.size inb_S1024x6144_S1024x512_0_5632) (fun _ => rfl))) fullShare.right fh0 _ (amount1 arg17)) $$ [HsB HcB HIB]
    · isplitl [HsB]; · iexact HsB
      isplitl [HcB]; · iexact HcB
      iexact HIB
    iintro HbB
    iapply (wp_take c (s := 9) (stage := arg17) (off := ![0, 0, 0]) (inb := inb_S2x1024x512_S1x1024x512_0_0_0) (src := (hbM0_0.slice (Rect.unit (s := S1024x6144) ![0, 5120] S1024x512.size inb_S1024x6144_S1024x512_0_5120) (fun _ => rfl))) (srcw := (hbM0_0.slice (Rect.unit (s := S1024x6144) ![0, 5120] S1024x512.size inb_S1024x6144_S1024x512_0_5120) (fun _ => rfl))) (dst := arg14) (r := (Rect.unit (s := S1024x6144) ![0, 5120] S1024x512.size inb_S1024x6144_S1024x512_0_5120)) (w := k0_pay12) (w' := kept) (f := f4) fullShare.left fh0 (credit0 arg17) (fun _ => rfl)) $$ [HbA HW HS4]
    · isplitl [HbA]; · iexact HbA
      isplitl [HW]; · iexact HW
      iexact HS4
    iintro ⟨HsA, HcA, HIA, HW, HS4⟩
    iapply (wp_start c (s := 9) (slot := slot0 arg17) (src := (hbM0_1.slice (Rect.unit (s := S2048x1024) ![0, 0] S1024x512.size inb_S2048x1024_S1024x512_0_0) (fun _ => rfl))) fullShare.left fh1 _ (amount0 arg17)) $$ [HsA HcA HOA]
    · isplitl [HsA]; · iexact HsA
      isplitl [HcA]; · iexact HcA
      iexact HOA
    iintro HbA
    iapply (wp_take c (s := 10) (stage := arg17) (off := ![1, 0, 0]) (inb := inb_S2x1024x512_S1x1024x512_1_0_0) (src := (hbM0_0.slice (Rect.unit (s := S1024x6144) ![0, 5632] S1024x512.size inb_S1024x6144_S1024x512_0_5632) (fun _ => rfl))) (srcw := (hbM0_0.slice (Rect.unit (s := S1024x6144) ![0, 5632] S1024x512.size inb_S1024x6144_S1024x512_0_5632) (fun _ => rfl))) (dst := arg14) (r := (Rect.unit (s := S1024x6144) ![0, 5632] S1024x512.size inb_S1024x6144_S1024x512_0_5632)) (w := k0_pay13) (w' := kept) (f := f4) fullShare.right fh0 (credit1 arg17) (fun _ => rfl)) $$ [HbB HW HS4]
    · isplitl [HbB]; · iexact HbB
      isplitl [HW]; · iexact HW
      iexact HS4
    iintro ⟨HsB, HcB, HIB, HW, HS4⟩
    iapply (wp_start c (s := 10) (slot := slot1 arg17) (src := (hbM0_1.slice (Rect.unit (s := S2048x1024) ![0, 512] S1024x512.size inb_S2048x1024_S1024x512_0_512) (fun _ => rfl))) fullShare.right fh1 _ (amount1 arg17)) $$ [HsB HcB HOB]
    · isplitl [HsB]; · iexact HsB
      isplitl [HcB]; · iexact HcB
      iexact HOB
    iintro HbB
    iapply (wp_take c (s := 9) (stage := arg17) (off := ![0, 0, 0]) (inb := inb_S2x1024x512_S1x1024x512_0_0_0) (src := (hbM0_1.slice (Rect.unit (s := S2048x1024) ![0, 0] S1024x512.size inb_S2048x1024_S1024x512_0_0) (fun _ => rfl))) (srcw := (hbM0_1.slice (Rect.unit (s := S2048x1024) ![0, 0] S1024x512.size inb_S2048x1024_S1024x512_0_0) (fun _ => rfl))) (dst := arg15) (r := (Rect.unit (s := S2048x1024) ![0, 0] S1024x512.size inb_S2048x1024_S1024x512_0_0)) (w := k0_pay14) (w' := kept) (f := f5) (L := []) fullShare.left fh1 (credit0 arg17) (fun _ => rfl)) $$ [HbA HW HS5]
    · isplitl [HbA]; · iexact HbA
      isplitl [HW]; · iexact HW
      iexact HS5
    iintro ⟨HsA, HcA, HOA, HW, HS5⟩
    iapply (wp_start c (s := 9) (slot := slot0 arg17) (src := (hbM0_1.slice (Rect.unit (s := S2048x1024) ![1024, 0] S1024x512.size inb_S2048x1024_S1024x512_1024_0) (fun _ => rfl))) fullShare.left fh1 _ (amount0 arg17)) $$ [HsA HcA HOA]
    · isplitl [HsA]; · iexact HsA
      isplitl [HcA]; · iexact HcA
      iexact HOA
    iintro HbA
    iapply (wp_take c (s := 10) (stage := arg17) (off := ![1, 0, 0]) (inb := inb_S2x1024x512_S1x1024x512_1_0_0) (src := (hbM0_1.slice (Rect.unit (s := S2048x1024) ![0, 512] S1024x512.size inb_S2048x1024_S1024x512_0_512) (fun _ => rfl))) (srcw := (hbM0_1.slice (Rect.unit (s := S2048x1024) ![0, 512] S1024x512.size inb_S2048x1024_S1024x512_0_512) (fun _ => rfl))) (dst := arg15) (r := (Rect.unit (s := S2048x1024) ![0, 512] S1024x512.size inb_S2048x1024_S1024x512_0_512)) (w := k0_pay15) (w' := kept) (f := f5) fullShare.right fh1 (credit1 arg17) (fun _ => rfl)) $$ [HbB HW HS5]
    · isplitl [HbB]; · iexact HbB
      isplitl [HW]; · iexact HW
      iexact HS5
    iintro ⟨HsB, HcB, HOB, HW, HS5⟩
    iapply (wp_start c (s := 10) (slot := slot1 arg17) (src := (hbM0_1.slice (Rect.unit (s := S2048x1024) ![1024, 512] S1024x512.size inb_S2048x1024_S1024x512_1024_512) (fun _ => rfl))) fullShare.right fh1 _ (amount1 arg17)) $$ [HsB HcB HOB]
    · isplitl [HsB]; · iexact HsB
      isplitl [HcB]; · iexact HcB
      iexact HOB
    iintro HbB
    iapply (wp_take c (s := 9) (stage := arg17) (off := ![0, 0, 0]) (inb := inb_S2x1024x512_S1x1024x512_0_0_0) (src := (hbM0_1.slice (Rect.unit (s := S2048x1024) ![1024, 0] S1024x512.size inb_S2048x1024_S1024x512_1024_0) (fun _ => rfl))) (srcw := (hbM0_1.slice (Rect.unit (s := S2048x1024) ![1024, 0] S1024x512.size inb_S2048x1024_S1024x512_1024_0) (fun _ => rfl))) (dst := arg15) (r := (Rect.unit (s := S2048x1024) ![1024, 0] S1024x512.size inb_S2048x1024_S1024x512_1024_0)) (w := k0_pay16) (w' := kept) (f := f5) fullShare.left fh1 (credit0 arg17) (fun _ => rfl)) $$ [HbA HW HS5]
    · isplitl [HbA]; · iexact HbA
      isplitl [HW]; · iexact HW
      iexact HS5
    iintro ⟨HsA, HcA, HOA, HW, HS5⟩
    iapply (wp_take c (s := 10) (stage := arg17) (off := ![1, 0, 0]) (inb := inb_S2x1024x512_S1x1024x512_1_0_0) (src := (hbM0_1.slice (Rect.unit (s := S2048x1024) ![1024, 512] S1024x512.size inb_S2048x1024_S1024x512_1024_512) (fun _ => rfl))) (srcw := (hbM0_1.slice (Rect.unit (s := S2048x1024) ![1024, 512] S1024x512.size inb_S2048x1024_S1024x512_1024_512) (fun _ => rfl))) (dst := arg15) (r := (Rect.unit (s := S2048x1024) ![1024, 512] S1024x512.size inb_S2048x1024_S1024x512_1024_512)) (w := k0_pay17) (w' := kept) (f := f5) fullShare.right fh1 (credit1 arg17) (fun _ => rfl)) $$ [HbB HW HS5]
    · isplitl [HbB]; · iexact HbB
      isplitl [HW]; · iexact HW
      iexact HS5
    iintro ⟨HsB, HcB, HOB, HW, HS5⟩
    have HM := (maskRun c i arg1 harg1 arg2 harg2 (Memref.whole main_v3) (Memref.isWhole_whole _) arg4 harg4 arg5 harg5 arg6 harg6 arg7 harg7 (Memref.whole main_v11) (Memref.isWhole_whole _) arg9 harg9 arg10 harg10 arg11 harg11 arg12 harg12 arg13 harg13 arg14 harg14 arg15 harg15 arg16 harg16 arg17 harg17 cc0_scratch8 k0_pay18 k0_pay19 k0_pay20 x4).2 K
    unfold owns at HM
    iapply HM
    isplitl [H4]; · iexact H4
    isplitl [HS6]; · iexact HS6
    iintro ⟨H4, HS6⟩
    iapply Hk
    isplitl [H4]; · iexact H4
    isplitl [HS4]; · iexists f4; iexact HS4
    isplitl [HS5]; · iexists f5; iexact HS5
    isplitl [HS6]; · iexact HS6
    isplitl [HsA HsB HR]
    · unfold Holds; rw [set_slot, set_slot]
      icases HsA with ⟨%fA, -, HfA⟩
      icases HsB with ⟨%fB, -, HfB⟩
      ihave HR := (pointsTo_join_subset (ℓ := arg17.view.loc (c : Thread nD τ)) hB) $$ [HfB HR]
      · isplitl [HfB]; · iexact HfB
        iexact HR
      ihave HR := (pointsTo_join_subset (ℓ := arg17.view.loc (c : Thread nD τ)) (arg17.view.setOn_subset_set _)) $$ [HfA HR]
      · isplitl [HfA]; · iexact HfA
        iexact HR
      iexists _, _; isplitr; swap; · iexact HR
      ipureintro; rfl
    isplitl [HcA]; · iexact HcA
    isplitl [HcB]; · iexact HcB
    isplitl [HIA HIB]
    · iapply (pointsTo_share (PosShare.mem_left_op_right fullShare)).2
      isplitl [HIA]; · iexact HIA
      iexact HIB
    isplitl [HOA HOB]
    · iapply (pointsTo_share (PosShare.mem_left_op_right fullShare)).2
      isplitl [HOA]; · iexact HOA
      iexact HOB
    iexact HW

end Cert.KernelIdeal.Mix

end
-- ==== Proof.Body.lean ====
module

public import proofs.«01_k».proof.Proof.MaskRun

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first segment of the body at the first point: the set-up, then the segment as at any other point. -/
theorem part16_split (i i' : grid0.Coords) (h : cond0_0 i) (h' : ¬cond0_0 i') (arg1 : Memref sig .tc .vmem S512x1024 .f32) (harg1 : arg1.IsWhole) (arg2 : Memref sig .tc .vmem S1x1024 .f32) (harg2 : arg2.IsWhole) (arg3 : Memref sig .tc .hbm S1024x6144 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg8 : Memref sig .tc .hbm S2048x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole) (arg18 : DmaSems sig S2)  :
    k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 = initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 >>= fun _ => k0_part16 i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 := by
  rw [k0_part16_eq_skeleton]
  unfold k0_part16_skel initProg maskProg
  dsimp only
  rw [dif_pos h, dif_neg h']
  simp only [bind_assoc, pure_bind]

/-- The body at the first point: the set-up, then the body as at any other point. -/
theorem body_split (i i' : grid0.Coords) (h : cond0_0 i) (h' : ¬cond0_0 i') (arg1 : Memref sig .tc .vmem S512x1024 .f32) (harg1 : arg1.IsWhole) (arg2 : Memref sig .tc .vmem S1x1024 .f32) (harg2 : arg2.IsWhole) (arg3 : Memref sig .tc .hbm S1024x6144 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg8 : Memref sig .tc .hbm S2048x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole) (arg18 : DmaSems sig S2)  :
    cc0_layer_a_gmlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 = initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 >>= fun _ => cc0_layer_a_gmlp i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 := by
  unfold cc0_layer_a_gmlp k0_part52
  rw [part16_split i i' h h' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18]
  simp only [bind_assoc]
  rfl

end Cert.KernelIdeal.Mix

end
-- ==== Proof.RestRun.lean ====
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2044000 in
/-- The body at a point past the first, on the carried weights `xs4`, `xs5` and the carried mixing matrices `xs6`: the
    pieces it leaves in the output block, and the body's triple. -/
noncomputable def restRun (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S128x16 .f32) (harg7 : arg7.IsWhole) (arg9 : Memref sig .tc .vmem S512x1024 .f32) (harg9 : arg9.IsWhole) (arg10 : Memref sig .tc .vmem S512x1024 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S1024x6144 .bf16) (harg14 : arg14.IsWhole) (arg15 : Memref sig .tc .vmem S2048x1024 .bf16) (harg15 : arg15.IsWhole) (arg16 : Memref sig .tc .vmem S16x128x128 .bf16) (harg16 : arg16.IsWhole) (arg17 : Memref sig .tc .vmem S2x1024x512 .f32) (harg17 : arg17.IsWhole) (hc0 : ¬cond0_0 i)
    (x0 : Vec F S512x1024 .f32) (x1 : Vec F S1x1024 .f32) (x2 : Vec F S1x2048 .f32) (x3 : Vec F S1x2048 .f32) (x4 : Vec F S16x128x128 .f32) (x5 : Vec F S128x16 .f32) (xs4 : Vec F S1024x6144 .bf16) (xs5 : Vec F S2048x1024 .bf16) (xs6 : Vec F S16x128x128 .bf16) (fh0 : HbBuf0 (F := F) c hbM0_0) (fh1 : HbBuf0 (F := F) c hbM0_1) :
    { L6 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ owns (c : Thread nD τ) arg15 fullShare xs5 ∗ owns (c : Thread nD τ) arg16 fullShare xs6 ∗ (∃ d, owns (c : Thread nD τ) arg17 fullShare d) ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ owns (c : Thread nD τ) arg15 fullShare xs5 ∗ owns (c : Thread nD τ) arg16 fullShare xs6 ∗ (∃ d, owns (c : Thread nD τ) arg17 fullShare d) ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_layer_a_gmlp i arg1 harg1 arg2 harg2 (Memref.whole main_v3) (Memref.isWhole_whole _) arg4 harg4 arg5 harg5 arg6 harg6 arg7 harg7 (Memref.whole main_v11) (Memref.isWhole_whole _) arg9 harg9 arg10 harg10 arg11 harg11 arg12 harg12 arg13 harg13 arg14 harg14 arg15 harg15 arg16 harg16 arg17 harg17 cc0_scratch8) K } := by
  refine ⟨?_, fun W K => ?run⟩
  case run =>
    simp only [cc0_layer_a_gmlp_eq_skeleton]; unfold cc0_layer_a_gmlp_skel
    simp only [k0_part52_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%ds7, %fs7, -, HS7⟩, Hq0, Hq1, Hh0, Hh1, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg14.eq_unread hfs4; obtain rfl := harg15.eq_unread hfs5; obtain rfl := harg16.eq_unread hfs6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; · ipureintro; exact harg14.read_unread _
      iexact HS4
    isplitl [HS5]
    · iexists _; isplitr; · ipureintro; exact harg15.read_unread _
      iexact HS5
    isplitl [HS6]
    · iexists _; isplitr; · ipureintro; exact harg16.read_unread _
      iexact HS6
    isplitl [HS7]
    · iexists _, _; isplitr; swap; · iexact HS7
      ipureintro; rfl
    isplitl [Hq0]; · iexact Hq0
    isplitl [Hq1]; · iexact Hq1
    isplitl [Hh0]; · iexact Hh0
    isplitl [Hh1]; · iexact Hh1
    iexists _; iexact HW

end Cert.KernelIdeal.Mix

end
-- ==== Proof.Run.lean ====
module

public import proofs.«01_k».proof.Proof.Init
public import proofs.«01_k».proof.Proof.Body
public import proofs.«01_k».proof.Proof.RestRun

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is carried from the first point on -/

/-- The first point, and a point past it. -/
abbrev t0 : Fin cfg0.N := ⟨0, by rw [show cfg0.N = 32 from N_0]; decide⟩
abbrev t1 : Fin cfg0.N := ⟨1, by rw [show cfg0.N = 32 from N_0]; decide⟩

/-- The coordinates the main part of the body is run at: a point past the first stands for the first, whose main part is the same. -/
def pt (t : Fin cfg0.N) : grid0.Coords := grid0.coords (if t.val = 0 then t1 else t)

theorem pt_not (t : Fin cfg0.N) : ¬cond0_0 (pt t) := by
  have hN : t.val < 32 := lt_of_lt_of_eq t.isLt (show cfg0.N = 32 from N_0)
  unfold pt
  rw [hcond0_0]
  split
  · decide
  · omega

/-- The carried copy of the first weight. -/
def win (c : Dev nD) : Vec F S1024x6144 .bf16 := View.canon (winPieces c (V m c main_v3))
/-- The carried copy of the second weight. -/
def wout (c : Dev nD) : Vec F S2048x1024 .bf16 := View.canon (woutPieces c (V m c main_v11))
/-- The pieces the first point leaves in the carried mixing matrices, -/
def maskPieces (c : Dev nD) : List (View.Piece (Elt F) S16x128x128 .bf16) :=
  (maskRun c (grid0.coords t0) (ms0_0 t0) (hs0_0 t0) (ms0_1 t0) (hs0_1 t0) (Memref.whole main_v3) (Memref.isWhole_whole _) (ms0_2 t0) (hs0_2 t0) (ms0_3 t0) (hs0_3 t0) (ms0_4 t0) (hs0_4 t0) (ms0_5 t0) (hs0_5 t0) (Memref.whole main_v11) (Memref.isWhole_whole _) (ms0_6 t0) (hs0_6 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8 k0_pay18 k0_pay19 k0_pay20 (iblk m c 4 t0)).1
/-- and what they hold. -/
def wmask (c : Dev nD) : Vec F S16x128x128 .bf16 := View.canon (maskPieces m c)

theorem win_cover (c : Dev nD) (fh : HbBuf0 (F := F) c hbM0_0) (y : S1024x6144.Idx) : ∃ p ∈ winPieces c fh, y ∈ p.1.set :=
  View.cover_of_tiledL (winPieces c fh) S1024x512.size (by sl_kernel_rfl) y
theorem wout_cover (c : Dev nD) (fh : HbBuf0 (F := F) c hbM0_1) (y : S2048x1024.Idx) : ∃ p ∈ woutPieces c fh, y ∈ p.1.set :=
  View.cover_of_tiledL (woutPieces c fh) S1024x512.size (by sl_kernel_rfl) y
theorem mask_cover (c : Dev nD) (y : S16x128x128.Idx) : ∃ p ∈ maskPieces m c, y ∈ p.1.set :=
  View.cover_of_tiledL (maskPieces m c) S1x128x128.size (by sl_kernel_rfl) y

/-! ## What a point leaves in the output block -/

/-- The main part's run at point `t`. -/
def mainRun (c : Dev nD) (t : Fin cfg0.N) :=
  restRun c (pt t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (pt_not t) (iblk m c 0 t) (iblk m c 1 t) (iblk m c 2 t) (iblk m c 3 t) (iblk m c 4 t) (iblk m c 5 t) (win m c) (wout m c) (wmask m c) (V m c main_v3) (V m c main_v11)

/-- What point `t` leaves in the output block. -/
def outAt (c : Dev nD) (t : Fin cfg0.N) : Vec F S512x1024 .f32 := View.canon (mainRun m c t).1

theorem out_cover (c : Dev nD) (t : Fin cfg0.N) (y : S512x1024.Idx) : ∃ p ∈ (mainRun m c t).1, y ∈ p.1.set :=
  View.cover_of_tiledL (mainRun m c t).1 S512x1024.size (by sl_kernel_rfl) y

/-! ## The proof data -/

/-- The invariant before position `n`: before the first point what the launch hands over; afterwards the carried copies named. -/
def PhiS (c : Dev nD) : (n : ℕ) → n ≤ cfg0.N → sProp 𝕄
  | 0, _ => Pipeline.ΦD osem0 spec0 H0 (V m) c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (win m c) ∗ owns (c : Thread nD τ) scM0_5 fullShare (wout m c) ∗ owns (c : Thread nD τ) scM0_6 fullShare (wmask m c) ∗ (∃ d, owns (c : Thread nD τ) scM0_7 fullShare d)) ∗ (∃ r, prngReg c r) ∗ iprop(semVal ((c : Thread nD τ), SemLoc.dma 9) 0 ∗ semVal ((c : Thread nD τ), SemLoc.dma 10) 0) ∗ iprop(hbPt0 c hbM0_0 (V m c main_v3) ∗ hbPt0 c hbM0_1 (V m c main_v11)))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (win m c) ∗ owns (c : Thread nD τ) scM0_5 fullShare (wout m c) ∗ owns (c : Thread nD τ) scM0_6 fullShare (wmask m c) ∗ (∃ d, owns (c : Thread nD τ) scM0_7 fullShare d)) ∗ (∃ r, prngReg c r) ∗ iprop(semVal ((c : Thread nD τ), SemLoc.dma 9) 0 ∗ semVal ((c : Thread nD τ), SemLoc.dma 10) 0) ∗ iprop(hbPt0 c hbM0_0 (V m c main_v3) ∗ hbPt0 c hbM0_1 (V m c main_v11))) := by
  cases n with
  | zero => exact absurd rfl hz
  | succ n => rfl

/-- The proof data of the pipeline on core `c`: each input's buffer at its block after every point, the output's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- Everything the main part of the body holds before it, but its inputs. -/
theorem main_body (c : Dev nD) (t : Fin cfg0.N) :
    iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (win m c) ∗ owns (c : Thread nD τ) scM0_5 fullShare (wout m c) ∗ owns (c : Thread nD τ) scM0_6 fullShare (wmask m c) ∗ (∃ d, owns (c : Thread nD τ) scM0_7 fullShare d)) ∗ (∃ r, prngReg c r) ∗ iprop(semVal ((c : Thread nD τ), SemLoc.dma 9) 0 ∗ semVal ((c : Thread nD τ), SemLoc.dma 10) 0) ∗ iprop(hbPt0 c hbM0_0 (V m c main_v3) ∗ hbPt0 c hbM0_1 (V m c main_v11))
        ∗ (∃ W, owes (c : Thread nD τ) 0 W)
        ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t)
        ∗ (∃ d, owns (c : Thread nD τ) (ms0_6 t) fullShare d))
      ⊢ wp frame (wpE (defs₀ (F := F)) Variants.none c none) Set.univ (cc0_layer_a_gmlp (pt t) (ms0_0 t) (hs0_0 t) (ms0_1 t) (hs0_1 t) (Memref.whole main_v3) (Memref.isWhole_whole _) (ms0_2 t) (hs0_2 t) (ms0_3 t) (hs0_3 t) (ms0_4 t) (hs0_4 t) (ms0_5 t) (hs0_5 t) (Memref.whole main_v11) (Memref.isWhole_whole _) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8) (fun _ =>
        iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (win m c) ∗ owns (c : Thread nD τ) scM0_5 fullShare (wout m c) ∗ owns (c : Thread nD τ) scM0_6 fullShare (wmask m c) ∗ (∃ d, owns (c : Thread nD τ) scM0_7 fullShare d)) ∗ (∃ r, prngReg c r) ∗ iprop(semVal ((c : Thread nD τ), SemLoc.dma 9) 0 ∗ semVal ((c : Thread nD τ), SemLoc.dma 10) 0) ∗ iprop(hbPt0 c hbM0_0 (V m c main_v3) ∗ hbPt0 c hbM0_1 (V m c main_v11))) ∗ (dats m 0 c).owesAt () t.succ
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t)
          ∗ owns (c : Thread nD τ) (ms0_6 t) fullShare (outAt m c t))) := by
  unfold Dat.owesAt Pipeline.owesWithin
  rw [show (dats m 0 c).owed t.succ = 0 from rfl]
  iintro ⟨⟨HS0, HS1, HS2, HS3, HS4, HS5, HS6, HS7⟩, Hg, ⟨Hq0, Hq1⟩, ⟨Hh0, Hh1⟩, ⟨%W, HW⟩, H0, H1, H2, H3, H4, H5, H6⟩
  iapply ((mainRun m c t).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, ⟨%f6, H6⟩, HS0, HS1, HS2, HS3, HS4, HS5, HS6, HS7, Hq0, Hq1, Hh0, Hh1, ⟨%W', HW'⟩⟩
  isplitl [HS0 HS1 HS2 HS3 HS4 HS5 HS6 HS7 Hg Hq0 Hq1 Hh0 Hh1]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_eq_canon _ _ _ (out_cover m c t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = PhiS m c (t.val + 1) t.isLt from rfl, PhiS_pos m c _ _ (Nat.succ_ne_zero _),
    after0_0, after0_1, after0_2, after0_3, after0_4, after0_5, after0_6]
  rw [show (dats m 0 c).owesAt () t.castSucc = Pipeline.owesWithin c 0 _ from rfl]
  unfold Pipeline.owesWithin
  by_cases hz : t.val = 0
  · obtain rfl : t = t0 := Fin.ext hz
    rw [PhiS_castSucc m c t0, PhiS_zero m c _ _ rfl, PhiD0_eq]
    rw [show bodyAt0 (F := F) t0 = _ from body_split (grid0.coords t0) (pt t0) ((hcond0_0 t0).mpr rfl) (pt_not t0) (ms0_0 t0) (hs0_0 t0) (ms0_1 t0) (hs0_1 t0) (Memref.whole main_v3) (Memref.isWhole_whole _) (ms0_2 t0) (hs0_2 t0) (ms0_3 t0) (hs0_3 t0) (ms0_4 t0) (hs0_4 t0) (ms0_5 t0) (hs0_5 t0) (Memref.whole main_v11) (Memref.isWhole_whole _) (ms0_6 t0) (hs0_6 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8]
    rw [wp_bind]
    iintro ⟨⟨⟨HS0, HS1, HS2, HS3, HS4, HS5, HS6, HS7⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (initRun c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 4 t0) (V m c main_v3) (V m c main_v11) _)
    isplitl [H4]; · iexact H4
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [Hh0]; · iexact Hh0
    isplitl [Hh1]; · iexact Hh1
    isplitl [HW]; · iexists W; iexact HW
    iintro ⟨H4, ⟨%es4, HS4⟩, ⟨%es5, HS5⟩, ⟨%es6, HS6⟩, HS7, Hq0, Hq1, Hh0, Hh1, HW⟩
    iapply (main_body m c t0)
    isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]
      · unfold owns; iexists _; isplitr
        swap; · iexact HS4
        ipureintro; exact View.read_writes_eq_canon _ _ _ (win_cover c _)
      isplitl [HS5]
      · unfold owns; iexists _; isplitr
        swap; · iexact HS5
        ipureintro; exact View.read_writes_eq_canon _ _ _ (wout_cover c _)
      isplitl [HS6]
      · unfold owns; iexists _; isplitr
        swap; · iexact HS6
        ipureintro; exact View.read_writes_eq_canon _ _ _ (mask_cover m c)
      iexact HS7
    isplitl [Hg]; · iexact Hg
    isplitl [Hq0 Hq1]
    · isplitl [Hq0]; · iexact Hq0
      iexact Hq1
    isplitl [Hh0 Hh1]
    · isplitl [Hh0]; · iexact Hh0
      iexact Hh1
    isplitl [HW]; · iexact HW
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_castSucc m c t, PhiS_pos m c _ _ hz]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    have hp : grid0.coords t = pt t := by unfold pt; rw [if_neg hz]
    have HB := main_body m c t
    rw [← hp] at HB
    iapply HB
    isplitl [HS]; · iexact HS
    isplitl [Hg]; · iexact Hg
    isplitl [Hq]; · iexact Hq
    isplitl [Hh]; · iexact Hh
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- and after the last the carried copies' contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiD0_eq]
  iintro ⟨⟨HS0, HS1, HS2, HS3, HS4, HS5, HS6, HS7⟩, Hg, Hq, Hh⟩
  isplitl [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexists _; iexact HS4
    isplitl [HS5]; · iexists _; iexact HS5
    isplitl [HS6]; · iexists _; iexact HS6
    iexact HS7
  isplitl [Hg]; · iexact Hg
  isplitl [Hq]; · iexact Hq
  iexact Hh

/-! ## The run -/

-- the launch's implicit arguments are found by unifying its conclusion with this one, which takes unfolding plain
-- definitions in a metavariable's type
set_option backward.isDefEq.respectTransparency.types false in
/-- The launch: the region's post, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run ends with every semaphore counter at zero and the arguments unchanged; the result is the array the
    pipeline's output window wrote. -/
theorem frame : θ_run defs (onTc (τ := τ) (main (F := F))) ⟨m, fun _ => 0, ρ⟩ (fun r => (∀ c : Dev nD,
      r.2.mem ((c.tc : Thread nD τ).loc main_v12) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 6,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.KernelIdeal.Mix

end
-- ==== Proof.Frames.lean ====
/- The frames: the kernel's and the idealized kernel's from the one run of Proof/Run.lean, the reference's from its generated run. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

/-- The idealized kernel ends with its arguments unchanged and every counter at zero. -/
theorem frame_ideal : Cert.quiescent_KernelIdeal := fun m ρ _ =>
  (θ_run Cert.KernelIdeal.defs _ _).mono (fun _ h => ⟨fun c => (h.1 c).2, h.2⟩) (Cert.KernelIdeal.Mix.frame (F := Ideal) m ρ)

section
-- the two programs' texts are compared by unfolding their definitions
set_option maxRecDepth 100000
set_option backward.isDefEq.respectTransparency false

variable {F : FTy → Type} [FloatOps F]

/-- The two programs' kernels are one text, -/
theorem rows : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- and so are their tables of bodies. -/
theorem tables : Cert.Kernel.defs (F := F) = Cert.KernelIdeal.defs (F := F) := by
  unfold Cert.Kernel.defs Cert.KernelIdeal.defs
  exact congrArg _ rows

/-- So does the kernel, whose text is the same. -/
theorem frame_kernel : Cert.quiescent_Kernel := fun m ρ _ =>
  (congrArg (fun d => θ_run d (onTc (τ := Cert.Kernel.τ) (Cert.Kernel.main (F := Bits))) ⟨m, fun _ => 0, ρ⟩ _) tables).mpr
    ((θ_run Cert.KernelIdeal.defs _ _).mono (fun _ h => And.intro (fun c => (h.1 c).2) h.2) (Cert.KernelIdeal.Mix.frame (F := Bits) m ρ))

end

/-- So does the reference. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Stages.lean ====
module

public import proofs.«01_k».proof.Proof.RestRun

@[expose] public section

-- membership in a rectangle of production extents (`View.cover_of_tiled`): the elaborator's structural look
-- recurses once per coordinate of the long axes
set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The main part's stages

The body handles the token's row in blocks of 256 columns, and the rows in groups of 128. Each of its stages is named here, once for every block `q`,
group `g` and head `n`; that the body's own words are these is by unfolding. -/

/-! ## The operations of a stage -/

/-- The cut of a 512 × 1024 operand's product with 256 columns, through the gated-error unit. -/
abbrev act (h : Vec F S512x1024 .bf16) (w : Vec F S1024x256 .bf16) : FVec F S512x256 .f32 := k0_pay50 h w
/-- The same through the sigmoid unit. -/
abbrev gate (h : Vec F S512x1024 .bf16) (w : Vec F S1024x256 .bf16) : FVec F S512x256 .f32 := k0_pay96 (k0_pay88 h w)

/-- The two halves of a block's columns, added. -/
def halves (z : FVec F S512x256 .f32) : FVec F S512x128 .f32 :=
  addf (extractStridedSlice S512x128 ![0, 0] z slices_S512x256_o0_0_S512x128) (extractStridedSlice S512x128 ![0, 128] z slices_S512x256_o0_128_S512x128)

/-- A row's mean over the eight blocks of its columns: the halves of the blocks added lane by lane, then the lanes, then the division. -/
def rowMean (z : Fin 8 → FVec F S512x256 .f32) : FVec F S512x1 .f32 :=
  mulf (shapeCast S512x1 (multiReduction .add [1] S512
    (addf (addf (addf (addf (addf (addf (addf (addf k0_pay45 (halves (z 0))) (halves (z 1))) (halves (z 2))) (halves (z 3))) (halves (z 4))) (halves (z 5))) (halves (z 6))) (halves (z 7)))
    0x00000000#32 reduces_S512x128_S512 (.inl rfl) rfl) shapeCasts_S512_S512x1) (broadcast S512x1 (Scalar.ofBits .f32 0x3A000000#32))

/-- A block's squared distance to the rows' means. -/
def dist (mean : FVec F S512x1 .f32) (z : FVec F S512x256 .f32) : FVec F S512x256 .f32 :=
  mulf (subf z (broadcastTo S512x256 mean broadcasts_S512x1_S512x256)) (subf z (broadcastTo S512x256 mean broadcasts_S512x1_S512x256))

/-- One over the rows' standard deviation, from the mean squared distance. -/
def invDev (var : FVec F S512x1 .f32) : FVec F S512x1 .f32 := rsqrt (addf var (broadcast S512x1 (Scalar.ofBits .f32 0x358637BD#32)))

/-- The mixing product of one head: its matrix against the four groups side by side. -/
abbrev mixed (w : Vec F S1x128x128 .bf16) (a b d e : Vec F S128x128 .bf16) : FVec F S128x512 .f32 := k0_pay98 w a b d e

theorem fits_cols (q : Fin 24) : ∀ a, (![0, 256 * q.val] : Fin 2 → ℕ) a + S1024x256.size a ≤ S1024x6144.size a := fun a => by
  match a with
  | 0 => show 0 + 1024 ≤ 1024; omega
  | 1 => show 256 * q.val + 256 ≤ 6144; omega
theorem fits_block (q : Fin 8) : ∀ a, (![0, 256 * q.val] : Fin 2 → ℕ) a + S512x256.size a ≤ S512x2048.size a := fun a => by
  match a with
  | 0 => show 0 + 512 ≤ 512; omega
  | 1 => show 256 * q.val + 256 ≤ 2048; omega
theorem fits_row (q : Fin 8) : ∀ a, (![0, 256 * q.val] : Fin 2 → ℕ) a + S1x256.size a ≤ S1x2048.size a := fun a => by
  match a with
  | 0 => show 0 + 1 ≤ 1; omega
  | 1 => show 256 * q.val + 256 ≤ 2048; omega
theorem fits_tile (g : Fin 4) (n : Fin 16) : ∀ a, (![128 * g.val, 128 * n.val] : Fin 2 → ℕ) a + S128x128.size a ≤ S512x2048.size a := fun a => by
  match a with
  | 0 => show 128 * g.val + 128 ≤ 512; omega
  | 1 => show 128 * n.val + 128 ≤ 2048; omega
theorem fits_bias (n : Fin 16) : ∀ a, (![0, n.val] : Fin 2 → ℕ) a + S128x1.size a ≤ S128x16.size a := fun a => by
  match a with
  | 0 => show 0 + 128 ≤ 128; omega
  | 1 => show n.val + 1 ≤ 16; omega
theorem fits_mix (n : Fin 16) : ∀ a, (![n.val, 0, 0] : Fin 3 → ℕ) a + S1x128x128.size a ≤ S16x128x128.size a := fun a => by
  match a with
  | 0 => show n.val + 1 ≤ 16; omega
  | 1 => show 0 + 128 ≤ 128; omega
  | 2 => show 0 + 128 ≤ 128; omega
theorem cut_mixed (g : Fin 4) : S128x512.Slices ![0, 128 * g.val] S128x128 := ⟨rfl, fun a => by
  match a with
  | 0 => show 0 + 128 ≤ 128; omega
  | 1 => show 128 * g.val + 128 ≤ 512; omega⟩
theorem cut_act (g : Fin 4) (e : Fin 2) : S512x256.Slices ![128 * g.val, 128 * e.val] S128x128 := ⟨rfl, fun a => by
  match a with
  | 0 => show 128 * g.val + 128 ≤ 512; omega
  | 1 => show 128 * e.val + 128 ≤ 256; omega⟩

/-- What one head `n` gives one group `g`: the mixed channels with their bias, between the two activations. -/
def tile (u z : FVec F S512x256 .f32) (b : Vec F S128x1 .f32) (mx : FVec F S128x512 .f32) (g : Fin 4) (e : Fin 2) : FVec F S128x128 .bf16 :=
  shapeCast S128x128 (truncf .bf16 (mulf (mulf (extractStridedSlice S128x128 ![128 * g.val, 128 * e.val] u (cut_act g e))
    (addf (extractStridedSlice S128x128 ![0, 128 * g.val] mx (cut_mixed g)) (k0_pay97 b)))
    (extractStridedSlice S128x128 ![128 * g.val, 128 * e.val] z (cut_act g e))) bitsLt_bf16_f32) shapeCasts_S128x128_S128x128

/-! ## The stages -/

section
variable (c : Dev nD) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg7 : Memref sig .tc .vmem S128x16 .f32) (harg7 : arg7.IsWhole) (arg10 : Memref sig .tc .vmem S512x1024 .bf16) (arg11 : Memref sig .tc .vmem S512x2048 .f32) (arg12 : Memref sig .tc .vmem S512x2048 .bf16) (arg13 : Memref sig .tc .vmem S512x2048 .bf16) (arg14 : Memref sig .tc .vmem S1024x6144 .bf16) (harg14 : arg14.IsWhole) (arg16 : Memref sig .tc .vmem S16x128x128 .bf16) (harg16 : arg16.IsWhole)
  (x0 : Vec F S512x1024 .f32) (x1 : Vec F S1x1024 .f32) (x2 : Vec F S1x2048 .f32) (x3 : Vec F S1x2048 .f32) (x5 : Vec F S128x16 .f32) (xs4 : Vec F S1024x6144 .bf16) (xs6 : Vec F S16x128x128 .bf16)

/-- The 256 columns `q` of the first weight. -/
def colsAt (q : Fin 24) : Vec F S1024x256 .bf16 := View.readAt (Elt F) arg14.view (Rect.unit (s := S1024x6144) ![0, 256 * q.val] S1024x256.size (fits_cols q)).toLoadRect (harg14.unread xs4)

/-- The normed rows. -/
abbrev normed : Vec F S512x1024 .bf16 := restRun.sl.v24 c arg1 harg1 arg2 harg2 arg10 x0 x1

/-- The activation blocks that are normed, as they are stored. -/
def actPiece (q : Fin 8) : View.Piece (Elt F) S512x2048 .f32 :=
  ⟨Rect.unit ![0, 256 * q.val] S512x256.size (fits_block q), k0_pay51 (normed c arg1 harg1 arg2 harg2 arg10 x0 x1) (colsAt arg14 harg14 xs4 ⟨8 + q.val, by omega⟩)⟩

theorem actPieces_eq : restRun.sl.HS1_8 c arg1 harg1 arg2 harg2 arg10 arg14 harg14 x0 x1 xs4 = [7, 6, 5, 4, 3, 2, 1, 0].map (actPiece c arg1 harg1 arg2 harg2 arg10 arg14 harg14 x0 x1 xs4) := rfl

/-- The same blocks read back. -/
def actAt (q : Fin 8) : Vec F S512x256 .f32 :=
  arg11.view.readCov (restRun.sl.HS1_8 c arg1 harg1 arg2 harg2 arg10 arg14 harg14 x0 x1 xs4) (Rect.unit (s := S512x2048) ![0, 256 * q.val] S512x256.size (fits_block q)).toLoadRect

/-- The rows' means, -/
abbrev means : FVec F S512x1 .f32 := restRun.sl.r_11 c arg1 harg1 arg2 harg2 arg10 arg14 harg14 x0 x1 xs4

theorem means_eq : means c arg1 harg1 arg2 harg2 arg10 arg14 harg14 x0 x1 xs4 = rowMean fun q => act (normed c arg1 harg1 arg2 harg2 arg10 x0 x1) (colsAt arg14 harg14 xs4 ⟨8 + q.val, by omega⟩) := rfl

/-- and one over their deviations. -/
abbrev devs : FVec F S512x1 .f32 := restRun.sl.r_13 c arg1 harg1 arg2 harg2 arg10 arg11 arg14 harg14 x0 x1 xs4

theorem devs_eq : devs c arg1 harg1 arg2 harg2 arg10 arg11 arg14 harg14 x0 x1 xs4 = invDev (rowMean fun q => dist (means c arg1 harg1 arg2 harg2 arg10 arg14 harg14 x0 x1 xs4) (actAt c arg1 harg1 arg2 harg2 arg10 arg11 arg14 harg14 x0 x1 xs4 q)) := rfl

/-- A piece of a row of 2048. -/
def rowAt (arg : Memref sig .tc .vmem S1x2048 .f32) (harg : arg.IsWhole) (x : Vec F S1x2048 .f32) (q : Fin 8) : Vec F S1x256 .f32 :=
  View.readAt (Elt F) arg.view (Rect.unit (s := S1x2048) ![0, 256 * q.val] S1x256.size (fits_row q)).toLoadRect (harg.unread x)

/-- The normed activation blocks, as they are stored, -/
def scaledPiece (q : Fin 8) : View.Piece (Elt F) S512x2048 .bf16 :=
  ⟨Rect.unit ![0, 256 * q.val] S512x256.size (fits_block q),
    k0_pay76 (means c arg1 harg1 arg2 harg2 arg10 arg14 harg14 x0 x1 xs4) (devs c arg1 harg1 arg2 harg2 arg10 arg11 arg14 harg14 x0 x1 xs4) (actAt c arg1 harg1 arg2 harg2 arg10 arg11 arg14 harg14 x0 x1 xs4 q) (rowAt arg4 harg4 x2 q) (rowAt arg5 harg5 x3 q)⟩

theorem scaledPieces_eq : restRun.sl.HS2_8 c arg1 harg1 arg2 harg2 arg4 harg4 arg5 harg5 arg10 arg11 arg14 harg14 x0 x1 x2 x3 xs4 = [7, 6, 5, 4, 3, 2, 1, 0].map (scaledPiece c arg1 harg1 arg2 harg2 arg4 harg4 arg5 harg5 arg10 arg11 arg14 harg14 x0 x1 x2 x3 xs4) := rfl

/-- and read back by group and head. -/
def scaledAt (n : Fin 16) (g : Fin 4) : Vec F S128x128 .bf16 :=
  arg12.view.readCov (restRun.sl.HS2_8 c arg1 harg1 arg2 harg2 arg4 harg4 arg5 harg5 arg10 arg11 arg14 harg14 x0 x1 x2 x3 xs4) (Rect.unit (s := S512x2048) ![128 * g.val, 128 * n.val] S128x128.size (fits_tile g n)).toLoadRect

/-- A head's bias, -/
def biasAt (n : Fin 16) : Vec F S128x1 .f32 := View.readAt (Elt F) arg7.view (Rect.unit (s := S128x16) ![0, n.val] S128x1.size (fits_bias n)).toLoadRect (harg7.unread x5)
/-- and its mixing matrix. -/
def mixAt (n : Fin 16) : Vec F S1x128x128 .bf16 := View.readAt (Elt F) arg16.view (Rect.unit (s := S16x128x128) ![n.val, 0, 0] S1x128x128.size (fits_mix n)).toLoadRect (harg16.unread xs6)

/-- The gated tile of group `g` and head `n`, as it is stored. -/
def tilePiece (n : Fin 16) (g : Fin 4) : View.Piece (Elt F) S512x2048 .bf16 :=
  ⟨Rect.unit ![128 * g.val, 128 * n.val] S128x128.size (fits_tile g n),
    tile (act (normed c arg1 harg1 arg2 harg2 arg10 x0 x1) (colsAt arg14 harg14 xs4 ⟨n.val / 2, by omega⟩))
      (gate (normed c arg1 harg1 arg2 harg2 arg10 x0 x1) (colsAt arg14 harg14 xs4 ⟨16 + n.val / 2, by omega⟩))
      (biasAt arg7 harg7 x5 n)
      (mixed (mixAt arg16 harg16 xs6 n) (scaledAt c arg1 harg1 arg2 harg2 arg4 harg4 arg5 harg5 arg10 arg11 arg12 arg14 harg14 x0 x1 x2 x3 xs4 n 0) (scaledAt c arg1 harg1 arg2 harg2 arg4 harg4 arg5 harg5 arg10 arg11 arg12 arg14 harg14 x0 x1 x2 x3 xs4 n 1) (scaledAt c arg1 harg1 arg2 harg2 arg4 harg4 arg5 harg5 arg10 arg11 arg12 arg14 harg14 x0 x1 x2 x3 xs4 n 2) (scaledAt c arg1 harg1 arg2 harg2 arg4 harg4 arg5 harg5 arg10 arg11 arg12 arg14 harg14 x0 x1 x2 x3 xs4 n 3))
      g ⟨n.val % 2, by omega⟩⟩

set_option maxHeartbeats 4000000 in
theorem tilePieces_eq : restRun.sl.HS3_64 c arg1 harg1 arg2 harg2 arg4 harg4 arg5 harg5 arg7 harg7 arg10 arg11 arg12 arg14 harg14 arg16 harg16 x0 x1 x2 x3 x5 xs4 xs6 =
    [15, 14, 13, 12, 11, 10, 9, 8, 7, 6, 5, 4, 3, 2, 1, 0].flatMap fun n => [3, 2, 1, 0].map (tilePiece c arg1 harg1 arg2 harg2 arg4 harg4 arg5 harg5 arg7 harg7 arg10 arg11 arg12 arg14 harg14 arg16 harg16 x0 x1 x2 x3 x5 xs4 xs6 n) := rfl

end

end Cert.KernelIdeal.Mix

end
-- ==== Proof.Spec.lean ====
module

public import Idealize.ShloMosaic.Lib.Pointwise
public import Idealize.ShloMosaic.Lib.IdealHost

@[expose] public section

noncomputable section

namespace Cert.Spec

open Idealize.ShloMosaic

/-! # The gated mixer, row by row

The mathematics both programs come down to, on rows of extended reals: `x` a token's 1024 channels, `g` the first norm's gain, `w` the first weight,
`a` the 2048 channels that are normed and mixed. -/

/-- The gated-error unit. -/
def gelu (p : EReal) : EReal :=
  p * (Ideal.ofBits .f32 0x3F000000#32 * (1 + Ideal.tanh (Ideal.ofBits .f32 0x3F4C422A#32 * (p + Ideal.ofBits .f32 0x3D372713#32 * (p * (p * p))))))

/-- The sigmoid unit, through the hyperbolic tangent of the half. -/
def silu (p : EReal) : EReal :=
  Ideal.ofBits .f32 0x3F000000#32 * p + Ideal.ofBits .f32 0x3F000000#32 * p * Ideal.tanh (Ideal.ofBits .f32 0x3F000000#32 * p)

/-- The first norm: each channel over the root of the mean square, times the gain. -/
def norm (x g : Fin 1024 → EReal) (k : Fin 1024) : EReal :=
  x k * Ideal.rsqrt (Ideal.div (∑ k, x k * x k) (Ideal.ofBits .f32 0x44800000#32) + Ideal.ofBits .f32 0x358637BD#32) * g k

/-- The first product. -/
def proj (h : Fin 1024 → EReal) (w : Fin 1024 → Fin 6144 → EReal) (o : Fin 6144) : EReal := ∑ k, h k * w k o

/-- The three parts of the product's columns. -/
abbrev colU (k : Fin 2048) : Fin 6144 := ⟨k.val, by omega⟩
abbrev colA (k : Fin 2048) : Fin 6144 := ⟨2048 + k.val, by omega⟩
abbrev colZ (k : Fin 2048) : Fin 6144 := ⟨4096 + k.val, by omega⟩

/-- The mean of a row of 2048. -/
def mean (a : Fin 2048 → EReal) : EReal := (∑ i, a i) * Ideal.ofBits .f32 0x3A000000#32
/-- One over its deviation. -/
def dev (a : Fin 2048 → EReal) : EReal := Ideal.rsqrt (mean (fun i => (a i - mean a) * (a i - mean a)) + Ideal.ofBits .f32 0x358637BD#32)
/-- The second norm. -/
def scale (a lg lb : Fin 2048 → EReal) (i : Fin 2048) : EReal := (a i - mean a) * dev a * lg i + lb i

/-- The normed channels of a token that are mixed over the tokens of its group. -/
def chan (x g : Fin 1024 → EReal) (w : Fin 1024 → Fin 6144 → EReal) (lg lb : Fin 2048 → EReal) (k : Fin 2048) : EReal :=
  scale (fun i => gelu (proj (norm x g) w (colA i))) lg lb k

/-- The gated channels of token `i` of a group `xs`: `wm` and `bs` are the mixing matrices and their bias. -/
def gated (xs : Fin 128 → Fin 1024 → EReal) (g : Fin 1024 → EReal) (w : Fin 1024 → Fin 6144 → EReal) (lg lb : Fin 2048 → EReal)
    (wm : Fin 16 → Fin 128 → Fin 128 → EReal) (bs : Fin 16 → Fin 128 → EReal) (i : Fin 128) (k : Fin 2048) : EReal :=
  gelu (proj (norm (xs i) g) w (colU k))
    * ((∑ j, wm ⟨k.val / 128, by omega⟩ i j * chan (xs j) g w lg lb k) + bs ⟨k.val / 128, by omega⟩ i)
    * silu (proj (norm (xs i) g) w (colZ k))

/-- The mixer's result for token `i` of the group. -/
def out (xs : Fin 128 → Fin 1024 → EReal) (g : Fin 1024 → EReal) (w : Fin 1024 → Fin 6144 → EReal) (lg lb : Fin 2048 → EReal)
    (wm : Fin 16 → Fin 128 → Fin 128 → EReal) (bs : Fin 16 → Fin 128 → EReal) (wo : Fin 2048 → Fin 1024 → EReal) (i : Fin 128) (n : Fin 1024) : EReal :=
  xs i n + ∑ k, gated xs g w lg lb wm bs i k * wo k n

/-- The mixing matrix that is used: blocks of 64 tokens see themselves and those before. -/
def masked (ws : Fin 16 → Fin 128 → Fin 128 → EReal) (n : Fin 16) (i j : Fin 128) : EReal := if j.val / 64 ≤ i.val / 64 then ws n i j else 0

/-- The mixer's result at row `R` of the tokens' one list, the batch's sequences one after another: the row's group of 128 is mixed. -/
def result (x : Fin 4 → Fin 4096 → Fin 1024 → EReal) (g : Fin 1024 → EReal) (w : Fin 1024 → Fin 6144 → EReal) (lg lb : Fin 2048 → EReal)
    (ws : Fin 16 → Fin 128 → Fin 128 → EReal) (bs : Fin 16 → Fin 128 → EReal) (wo : Fin 2048 → Fin 1024 → EReal) (R : Fin 16384) (n : Fin 1024) : EReal :=
  out (fun j => x ⟨R.val / 4096, by omega⟩ ⟨128 * (R.val % 4096 / 128) + j.val, by omega⟩) g w lg lb (masked ws) bs wo ⟨R.val % 128, by omega⟩ n

/-- A sum over 2048 by its sixteen stretches of 128. -/
theorem sum_stretches (f : Fin 2048 → EReal) :
    ∑ i, f i = ∑ l : Fin 128, ∑ s : Fin 16, f ⟨128 * s.val + l.val, by omega⟩ := by
  rw [← Equiv.sum_comp (finProdFinEquiv : Fin 16 × Fin 128 ≃ Fin 2048), Fintype.sum_prod_type_right]
  refine Finset.sum_congr rfl fun l _ => Finset.sum_congr rfl fun s _ => congrArg f (Fin.ext ?_)
  show l.val + 128 * s.val = 128 * s.val + l.val
  omega

/-! ## The constants -/

theorem half_eq : Ideal.ofBits .f32 0x3F000000#32 = ((1 / 2 : ℝ) : EReal) := by
  simp [Ideal.ofBits, Ideal.ieee, -EReal.coe_mul]; norm_num
theorem d1024_eq : Ideal.ofBits .f32 0x44800000#32 = ((1024 : ℝ) : EReal) := by
  simp [Ideal.ofBits, Ideal.ieee, -EReal.coe_mul]; norm_num
theorem d2048_eq : Ideal.ofBits .f32 0x45000000#32 = ((2048 : ℝ) : EReal) := by
  simp [Ideal.ofBits, Ideal.ieee, -EReal.coe_mul]; norm_num
theorem r2048_eq : Ideal.ofBits .f32 0x3A000000#32 = ((1 / 2048 : ℝ) : EReal) := by
  simp [Ideal.ofBits, Ideal.ieee, -EReal.coe_mul]; norm_num
theorem eps_pos : ∃ r : ℝ, 0 < r ∧ Ideal.ofBits .f32 0x358637BD#32 = (r : EReal) := by
  refine ⟨_, ?_, by simp [Ideal.ofBits, Ideal.ieee, -EReal.coe_mul]; rfl⟩
  norm_num

/-- A mean by division. -/
theorem mean_div (a : Fin 2048 → EReal) : Ideal.div (∑ i, a i) (Ideal.ofBits .f32 0x45000000#32) = mean a := by
  rw [d2048_eq, Ideal.div_coe (by norm_num), mean, r2048_eq]

/-! ## The sigmoid unit on reals -/

/-- Where its argument is real the sigmoid unit is the argument times the logistic function of it. -/
theorem silu_coe (r : ℝ) : (r : EReal) * Ideal.div 1 (1 + Ideal.exp (-(r : EReal))) = silu r := by
  have h1 : (1 : EReal) + Ideal.exp (-(r : EReal)) = ((1 + Real.exp (-r) : ℝ) : EReal) := by
    rw [← EReal.coe_neg, Ideal.exp_coe, EReal.coe_add, EReal.coe_one]
  have hp : 0 < Real.exp (-r) := Real.exp_pos _
  rw [h1, Ideal.div_coe (by positivity), silu, half_eq, ← EReal.coe_mul, Ideal.tanh_coe, one_mul, ← EReal.coe_mul, ← EReal.coe_mul, ← EReal.coe_add]
  congr 1
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [e1]
  generalize Real.exp (1 / 2 * r) = a at *
  generalize Real.exp (-(1 / 2 * r)) = b at *
  field_simp
  linear_combination (-2 * r * b) * e2

/-! ## Where the gate's argument is real -/

/-- A real number among the extended reals. -/
def IsReal (e : EReal) : Prop := ∃ r : ℝ, e = r

theorem IsReal.mul {a b : EReal} (ha : IsReal a) (hb : IsReal b) : IsReal (a * b) := by
  obtain ⟨r, rfl⟩ := ha; obtain ⟨s, rfl⟩ := hb; exact ⟨r * s, (EReal.coe_mul _ _).symm⟩
theorem IsReal.add {a b : EReal} (ha : IsReal a) (hb : IsReal b) : IsReal (a + b) := by
  obtain ⟨r, rfl⟩ := ha; obtain ⟨s, rfl⟩ := hb; exact ⟨r + s, (EReal.coe_add _ _).symm⟩
theorem IsReal.sum {n : ℕ} {f : Fin n → EReal} (hf : ∀ i, IsReal (f i)) : IsReal (∑ i, f i) :=
  Finset.sum_induction f IsReal (fun _ _ => IsReal.add) ⟨0, rfl⟩ fun i _ => hf i

theorem mul_self_nonneg' (e : EReal) : 0 ≤ e * e := by
  induction e with
  | bot => simp
  | top => simp
  | coe r => rw [← EReal.coe_mul]; exact EReal.coe_nonneg.mpr (mul_self_nonneg r)

/-- A normed channel is real where its gain is: a row with an infinite entry has an infinite mean square, and so is normed to zero. -/
theorem norm_isReal (x g : Fin 1024 → EReal) (hg : ∀ k, IsReal (g k)) (k : Fin 1024) : IsReal (norm x g k) := by
  refine IsReal.mul ?_ (hg k)
  obtain ⟨e, he, hee⟩ := eps_pos
  rw [hee, d1024_eq, Ideal.div_coe (by norm_num)]
  have h0 : 0 ≤ ∑ k, x k * x k := Finset.sum_nonneg fun i _ => mul_self_nonneg' _
  by_cases ht : ∑ k, x k * x k = ⊤
  · rw [ht, EReal.top_mul_coe_of_pos (by norm_num), EReal.top_add_coe, Ideal.rsqrt_top, mul_zero]
    exact ⟨0, rfl⟩
  · obtain ⟨s, hs⟩ : IsReal (∑ k, x k * x k) := ⟨(∑ k, x k * x k).toReal, (EReal.coe_toReal ht (ne_bot_of_le_ne_bot (by simp) h0)).symm⟩
    have hx : IsReal (x k) := by
      have hle : x k * x k ≤ ∑ k, x k * x k := Finset.single_le_sum (f := fun k => x k * x k) (fun i _ => mul_self_nonneg' _) (Finset.mem_univ k)
      rw [hs] at hle
      refine ⟨(x k).toReal, (EReal.coe_toReal ?_ ?_).symm⟩ <;> intro h <;> rw [h] at hle <;> simp at hle
    refine hx.mul ?_
    rw [hs] at h0 ⊢
    have hs0 : 0 ≤ s := EReal.coe_nonneg.mp h0
    have hp : 0 < s * (1 / 1024) + e := by positivity
    rw [← EReal.coe_mul, ← EReal.coe_add, Ideal.rsqrt_coe, if_neg (not_lt.mpr hp.le), if_neg hp.ne']
    exact ⟨_, rfl⟩

theorem proj_isReal (h : Fin 1024 → EReal) (w : Fin 1024 → Fin 6144 → EReal) (o : Fin 6144) (hh : ∀ k, IsReal (h k)) (hw : ∀ k, IsReal (w k o)) : IsReal (proj h w o) :=
  IsReal.sum fun k => (hh k).mul (hw k)

end Cert.Spec

end
-- ==== Proof.Ops.lean ====
module

public import proofs.«01_k».proof.Proof.Stages
public import proofs.«01_k».proof.Proof.Spec

@[expose] public section

set_option maxRecDepth 16384

noncomputable section

namespace Cert.KernelIdeal.Mix

open Idealize.ShloMosaic Cert.KernelIdeal Cert.KernelIdeal.Gen

/-! # The stages' operations at an index -/

theorem norm_apply (x : Vec Ideal S512x1024 .f32) (g : Vec Ideal S1x1024 .f32) (r : Fin 512) (l : Fin 1024) :
    k0_pay44 x g (ix2 r l) = Spec.norm (fun k => x (ix2 r k)) (fun k => g (ix2 0 k)) l := by
  pointwise [k0_pay44]
  rfl

theorem act_apply (h : Vec Ideal S512x1024 .bf16) (w : Vec Ideal S1024x256 .bf16) (r : Fin 512) (l : Fin 256) :
    act h w (ix2 r l) = Spec.gelu (∑ k, h (ix2 r k) * w (ix2 k l)) := by
  pointwise [act, k0_pay50]
  rfl

theorem stored_apply (h : Vec Ideal S512x1024 .bf16) (w : Vec Ideal S1024x256 .bf16) (r : Fin 512) (l : Fin 256) :
    k0_pay51 h w (ix2 r l) = Spec.gelu (∑ k, h (ix2 r k) * w (ix2 k l)) := by
  pointwise [k0_pay51, k0_pay50]
  rfl

theorem gate_apply (h : Vec Ideal S512x1024 .bf16) (w : Vec Ideal S1024x256 .bf16) (r : Fin 512) (l : Fin 256) :
    gate h w (ix2 r l) = Spec.silu (∑ k, h (ix2 r k) * w (ix2 k l)) := by
  pointwise [gate, k0_pay96, k0_pay88]
  rfl

theorem rowMean_apply (z : Fin 8 → FVec Ideal S512x256 .f32) (r : Fin 512) :
    rowMean z (ix2 r 0) = Spec.mean fun i => z ⟨i.val / 256, by omega⟩ (ix2 r ⟨i.val % 256, by omega⟩) := by
  unfold Spec.mean
  rw [Spec.sum_stretches]
  pointwise [rowMean, halves, k0_pay45]
  refine congrArg (· * _) (Finset.sum_congr rfl fun l _ => ?_)
  have e : ∀ s : Fin 16, z ⟨(128 * s.val + l.val) / 256, by omega⟩ (ix2 r ⟨(128 * s.val + l.val) % 256, by omega⟩)
      = z ⟨s.val / 2, by omega⟩ (ix2 r ⟨128 * (s.val % 2) + l.val, by omega⟩) := fun s => by
    have h0 : (⟨(128 * s.val + l.val) / 256, by omega⟩ : Fin 8) = ⟨s.val / 2, by omega⟩ := Fin.ext (by dsimp only; omega)
    have h1 : (⟨(128 * s.val + l.val) % 256, by omega⟩ : Fin 256) = ⟨128 * (s.val % 2) + l.val, by omega⟩ := Fin.ext (by dsimp only; omega)
    rw [h0, h1]
  refine Eq.trans ?_ (Finset.sum_congr rfl fun s _ => (e s).symm)
  simp only [Fin.sum_univ_castSucc, Finset.univ_eq_empty, Finset.sum_empty, zero_add, ← add_assoc]
  have e0 : (⟨l.val, by omega⟩ : Fin 256) = ⟨0 + l.val, by omega⟩ := Fin.ext (by dsimp only; omega)
  rw [e0]
  rfl

theorem dist_apply (mean : FVec Ideal S512x1 .f32) (z : FVec Ideal S512x256 .f32) (r : Fin 512) (l : Fin 256) :
    dist mean z (ix2 r l) = (z (ix2 r l) - mean (ix2 r 0)) * (z (ix2 r l) - mean (ix2 r 0)) := by
  pointwise [dist]

theorem invDev_apply (var : FVec Ideal S512x1 .f32) (r : Fin 512) :
    invDev var (ix2 r 0) = Ideal.rsqrt (var (ix2 r 0) + Ideal.ofBits .f32 0x358637BD#32) := by
  pointwise [invDev]

theorem scale_apply (m d : FVec Ideal S512x1 .f32) (v : Vec Ideal S512x256 .f32) (a b : Vec Ideal S1x256 .f32) (r : Fin 512) (l : Fin 256) :
    k0_pay76 m d v a b (ix2 r l) = (v (ix2 r l) - m (ix2 r 0)) * d (ix2 r 0) * a (ix2 0 l) + b (ix2 0 l) := by
  pointwise [k0_pay76]

theorem mixed_apply (w : Vec Ideal S1x128x128 .bf16) (a : Fin 4 → Vec Ideal S128x128 .bf16) (g : Fin 4) (i l : Fin 128) :
    mixed w (a 0) (a 1) (a 2) (a 3) (ix2 i ⟨128 * g.val + l.val, by omega⟩) = ∑ j, w (ix3 0 i j) * a g (ix2 j l) := by
  match g with
  | 0 | 1 => pointwise [mixed, k0_pay98]
  | 2 =>
    pointwise [mixed, k0_pay98]
    refine Finset.sum_congr rfl fun x _ => ?_
    rw [dif_neg (by omega), dif_neg (by omega), dif_pos (by omega)]
    exact congrArg (fun t => w (ix3 0 i x) * a 2 (ix2 x t)) (Fin.ext (by dsimp only; omega))
  | 3 =>
    pointwise [mixed, k0_pay98]
    refine Finset.sum_congr rfl fun x _ => ?_
    rw [dif_neg (by omega), dif_neg (by omega), dif_neg (by omega)]
    exact congrArg (fun t => w (ix3 0 i x) * a 3 (ix2 x t)) (Fin.ext (by dsimp only; omega))

theorem tile_apply (u z : FVec Ideal S512x256 .f32) (b : Vec Ideal S128x1 .f32) (mx : FVec Ideal S128x512 .f32) (g : Fin 4) (e : Fin 2) (i l : Fin 128) :
    tile u z b mx g e (ix2 i l) = u (ix2 ⟨128 * g.val + i.val, by omega⟩ ⟨128 * e.val + l.val, by omega⟩)
      * (mx (ix2 i ⟨128 * g.val + l.val, by omega⟩) + b (ix2 i 0)) * z (ix2 ⟨128 * g.val + i.val, by omega⟩ ⟨128 * e.val + l.val, by omega⟩) := by
  pointwise [tile, k0_pay97]

theorem last_apply (x : Vec Ideal S512x1024 .f32) (y : Vec Ideal S512x2048 .bf16) (w : Vec Ideal S2048x1024 .bf16) (r : Fin 512) (n : Fin 1024) :
    k0_pay1 x y w (ix2 r n) = x (ix2 r n) + ∑ k, y (ix2 r k) * w (ix2 k n) := by
  pointwise [k0_pay1]

end Cert.KernelIdeal.Mix

end
-- ==== Proof.Pieces.lean ====
module

public import Idealize.ShloMosaic.Lib.Pointwise
public import Idealize.ShloMosaic.Lib.WholeRead

@[expose] public section

set_option maxRecDepth 16384

noncomputable section

namespace Cert.Pieces

open Idealize.ShloMosaic

/-! # Rectangles, pieces and loads at an index -/

/-- The place of a rectangle's element in the whole. -/
theorem idx_unit2 {n0 n1 m0 m1 : ℕ} (o0 o1 : ℕ) (h) (i : Fin m0) (j : Fin m1) :
    (Rect.unit (s := ⟨2, ![n0, n1]⟩) ![o0, o1] ![m0, m1] h).idx (ix2 i j)
      = ix2 ⟨o0 + i.val, lt_of_lt_of_le (Nat.add_lt_add_left i.isLt o0) (h 0)⟩ ⟨o1 + j.val, lt_of_lt_of_le (Nat.add_lt_add_left j.isLt o1) (h 1)⟩ := by
  funext a
  match a with
  | 0 => exact Fin.ext (by show o0 + 1 * i.val = o0 + i.val; omega)
  | 1 => exact Fin.ext (by show o1 + 1 * j.val = o1 + j.val; omega)

/-- The same of a matrix in a stack of them. -/
theorem idx_unit3 {n0 n1 n2 m0 m1 m2 : ℕ} (o0 o1 o2 : ℕ) (h) (i : Fin m0) (j : Fin m1) (k : Fin m2) :
    (Rect.unit (s := ⟨3, ![n0, n1, n2]⟩) ![o0, o1, o2] ![m0, m1, m2] h).idx (ix3 i j k)
      = ix3 ⟨o0 + i.val, lt_of_lt_of_le (Nat.add_lt_add_left i.isLt o0) (h 0)⟩ ⟨o1 + j.val, lt_of_lt_of_le (Nat.add_lt_add_left j.isLt o1) (h 1)⟩
        ⟨o2 + k.val, lt_of_lt_of_le (Nat.add_lt_add_left k.isLt o2) (h 2)⟩ := by
  funext a
  match a with
  | 0 => exact Fin.ext (by show o0 + 1 * i.val = o0 + i.val; omega)
  | 1 => exact Fin.ext (by show o1 + 1 * j.val = o1 + j.val; omega)
  | 2 => exact Fin.ext (by show o2 + 1 * k.val = o2 + k.val; omega)

/-- A piece that holds a matrix's elements at their places. -/
theorem piece2 {n0 n1 m0 m1 : ℕ} {e : EltTy} (G : Fin n0 → Fin n1 → Elt Ideal e) (o0 o1 : ℕ) (h) (f : Vec Ideal ⟨2, ![m0, m1]⟩ e)
    (hf : ∀ (i : Fin m0) (j : Fin m1), f (ix2 i j) = G ⟨o0 + i.val, lt_of_lt_of_le (Nat.add_lt_add_left i.isLt o0) (h 0)⟩ ⟨o1 + j.val, lt_of_lt_of_le (Nat.add_lt_add_left j.isLt o1) (h 1)⟩)
    (x : (⟨2, ![m0, m1]⟩ : Shape).Idx) :
    f x = (fun y : (⟨2, ![n0, n1]⟩ : Shape).Idx => G (y 0) (y 1)) ((Rect.unit (s := ⟨2, ![n0, n1]⟩) ![o0, o1] ![m0, m1] h).idx x) := by
  obtain ⟨i, j, rfl⟩ : ∃ (i : Fin m0) (j : Fin m1), x = ix2 i j := ⟨x 0, x 1, eq_ix2 x⟩
  exact (hf i j).trans (congrArg (fun y : (⟨2, ![n0, n1]⟩ : Shape).Idx => G (y 0) (y 1)) (idx_unit2 o0 o1 h i j).symm)

/-- What is read back of pieces that hold a matrix's elements at their places. -/
theorem readCov2 {sg : RefSig} {sp : Space} {n0 n1 m0 m1 : ℕ} {e : EltTy} (v : View sg .tc sp ⟨2, ![n0, n1]⟩ e) (L : List (View.Piece (Elt Ideal) ⟨2, ![n0, n1]⟩ e)) (G : Fin n0 → Fin n1 → Elt Ideal e)
    (hL : ∀ p ∈ L, ∀ x : p.1.shape.Idx, p.2 x = (fun y : (⟨2, ![n0, n1]⟩ : Shape).Idx => G (y 0) (y 1)) (p.1.emb x)) (hc : ∀ y, ∃ p ∈ L, y ∈ p.1.set)
    (o0 o1 : ℕ) (h) (i : Fin m0) (j : Fin m1) :
    v.readCov L (Rect.unit (s := ⟨2, ![n0, n1]⟩) ![o0, o1] ![m0, m1] h).toLoadRect (ix2 i j)
      = G ⟨o0 + i.val, lt_of_lt_of_le (Nat.add_lt_add_left i.isLt o0) (h 0)⟩ ⟨o1 + j.val, lt_of_lt_of_le (Nat.add_lt_add_left j.isLt o1) (h 1)⟩ := by
  rw [View.readCov_eq_canon']
  exact (View.canon_apply_of_pieces (fun y : (⟨2, ![n0, n1]⟩ : Shape).Idx => G (y 0) (y 1)) L hL _ (hc _)).trans (congrArg (fun y : (⟨2, ![n0, n1]⟩ : Shape).Idx => G (y 0) (y 1)) (idx_unit2 o0 o1 h i j))

/-- The same where the pieces cover the place that is read. -/
theorem readCov_at {sg : RefSig} {sp : Space} {n0 n1 m0 m1 : ℕ} {e : EltTy} (v : View sg .tc sp ⟨2, ![n0, n1]⟩ e) (L : List (View.Piece (Elt Ideal) ⟨2, ![n0, n1]⟩ e)) (G : Fin n0 → Fin n1 → Elt Ideal e)
    (hL : ∀ p ∈ L, ∀ x : p.1.shape.Idx, p.2 x = (fun y : (⟨2, ![n0, n1]⟩ : Shape).Idx => G (y 0) (y 1)) (p.1.emb x))
    (o0 o1 : ℕ) (h) (i : Fin m0) (j : Fin m1)
    (hc : ∃ p ∈ L, (ix2 ⟨o0 + i.val, lt_of_lt_of_le (Nat.add_lt_add_left i.isLt o0) (h 0)⟩ ⟨o1 + j.val, lt_of_lt_of_le (Nat.add_lt_add_left j.isLt o1) (h 1)⟩ : (⟨2, ![n0, n1]⟩ : Shape).Idx) ∈ p.1.set) :
    v.readCov L (Rect.unit (s := ⟨2, ![n0, n1]⟩) ![o0, o1] ![m0, m1] h).toLoadRect (ix2 i j)
      = G ⟨o0 + i.val, lt_of_lt_of_le (Nat.add_lt_add_left i.isLt o0) (h 0)⟩ ⟨o1 + j.val, lt_of_lt_of_le (Nat.add_lt_add_left j.isLt o1) (h 1)⟩ := by
  rw [View.readCov_eq_canon']
  refine (View.canon_apply_of_pieces (fun y : (⟨2, ![n0, n1]⟩ : Shape).Idx => G (y 0) (y 1)) L hL _ ?_).trans (congrArg (fun y : (⟨2, ![n0, n1]⟩ : Shape).Idx => G (y 0) (y 1)) (idx_unit2 o0 o1 h i j))
  exact (idx_unit2 o0 o1 h i j).symm ▸ hc

/-- The places of a rectangle. -/
theorem mem_unit2 {n0 n1 m0 m1 : ℕ} (o0 o1 : ℕ) (h) (i : Fin n0) (j : Fin n1) (hi : o0 ≤ i.val ∧ i.val < o0 + m0) (hj : o1 ≤ j.val ∧ j.val < o1 + m1) :
    (ix2 i j : (⟨2, ![n0, n1]⟩ : Shape).Idx) ∈ (Rect.unit (s := ⟨2, ![n0, n1]⟩) ![o0, o1] ![m0, m1] h).set :=
  (Rect.mem_set_unit (inb := h)).mpr fun a => match a with
    | 0 => hi
    | 1 => hj

/-- A load of part of a whole buffer. -/
theorem readAt2 {sg : RefSig} {n0 n1 m0 m1 : ℕ} {e : EltTy} (arg : Memref sg .tc .vmem ⟨2, ![n0, n1]⟩ e) (harg : arg.IsWhole) (x : Vec Ideal ⟨2, ![n0, n1]⟩ e) (o0 o1 : ℕ) (h) (i : Fin m0) (j : Fin m1) :
    View.readAt (Elt Ideal) arg.view (Rect.unit (s := ⟨2, ![n0, n1]⟩) ![o0, o1] ![m0, m1] h).toLoadRect (harg.unread x) (ix2 i j)
      = x (ix2 ⟨o0 + i.val, lt_of_lt_of_le (Nat.add_lt_add_left i.isLt o0) (h 0)⟩ ⟨o1 + j.val, lt_of_lt_of_le (Nat.add_lt_add_left j.isLt o1) (h 1)⟩) :=
  (harg.readAt_unread x _ _).trans (congrArg x (idx_unit2 o0 o1 h i j))

theorem fin_zero_add {n : ℕ} (i : Fin n) (h : 0 + i.val < n) : (⟨0 + i.val, h⟩ : Fin n) = i := Fin.ext (Nat.zero_add _)

/-- A load of a whole buffer. -/
theorem readAt_whole2 {sg : RefSig} {n0 n1 : ℕ} {e : EltTy} (arg : Memref sg .tc .vmem ⟨2, ![n0, n1]⟩ e) (harg : arg.IsWhole) (x : Vec Ideal ⟨2, ![n0, n1]⟩ e) (h) :
    View.readAt (Elt Ideal) arg.view (Rect.unit (s := ⟨2, ![n0, n1]⟩) ![0, 0] ![n0, n1] h).toLoadRect (harg.unread x) = x := by
  funext y
  obtain ⟨i, j, rfl⟩ : ∃ (i : Fin n0) (j : Fin n1), y = ix2 i j := ⟨y 0, y 1, eq_ix2 y⟩
  exact (readAt2 arg harg x 0 0 h i j).trans (by rw [fin_zero_add, fin_zero_add])

/-- A load of part of a stack of matrices. -/
theorem readAt3 {sg : RefSig} {n0 n1 n2 m0 m1 m2 : ℕ} {e : EltTy} (arg : Memref sg .tc .vmem ⟨3, ![n0, n1, n2]⟩ e) (harg : arg.IsWhole) (x : Vec Ideal ⟨3, ![n0, n1, n2]⟩ e) (o0 o1 o2 : ℕ) (h) (i : Fin m0) (j : Fin m1) (k : Fin m2) :
    View.readAt (Elt Ideal) arg.view (Rect.unit (s := ⟨3, ![n0, n1, n2]⟩) ![o0, o1, o2] ![m0, m1, m2] h).toLoadRect (harg.unread x) (ix3 i j k)
      = x (ix3 ⟨o0 + i.val, lt_of_lt_of_le (Nat.add_lt_add_left i.isLt o0) (h 0)⟩ ⟨o1 + j.val, lt_of_lt_of_le (Nat.add_lt_add_left j.isLt o1) (h 1)⟩ ⟨o2 + k.val, lt_of_lt_of_le (Nat.add_lt_add_left k.isLt o2) (h 2)⟩) :=
  (harg.readAt_unread x _ _).trans (congrArg x (idx_unit3 o0 o1 o2 h i j k))

end Cert.Pieces

end
-- ==== Proof.Value.lean ====
module

public import proofs.«01_k».proof.Proof.Ops
public import proofs.«01_k».proof.Proof.Pieces

@[expose] public section

set_option maxRecDepth 16384

noncomputable section

namespace Cert.KernelIdeal.Mix

open Idealize.ShloMosaic Cert.KernelIdeal Cert.KernelIdeal.Gen Cert.Pieces

/-! # The stages of the main part at an index -/

section
variable (c : Dev nD) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg7 : Memref sig .tc .vmem S128x16 .f32) (harg7 : arg7.IsWhole) (arg10 : Memref sig .tc .vmem S512x1024 .bf16) (arg11 : Memref sig .tc .vmem S512x2048 .f32) (arg12 : Memref sig .tc .vmem S512x2048 .bf16) (arg13 : Memref sig .tc .vmem S512x2048 .bf16) (arg14 : Memref sig .tc .vmem S1024x6144 .bf16) (harg14 : arg14.IsWhole) (arg16 : Memref sig .tc .vmem S16x128x128 .bf16) (harg16 : arg16.IsWhole)
  (x0 : Vec Ideal S512x1024 .f32) (x1 : Vec Ideal S1x1024 .f32) (x2 : Vec Ideal S1x2048 .f32) (x3 : Vec Ideal S1x2048 .f32) (x5 : Vec Ideal S128x16 .f32) (xs4 : Vec Ideal S1024x6144 .bf16) (xs6 : Vec Ideal S16x128x128 .bf16)

/-- The rows of a block and of the operands, as functions. -/
abbrev rowOf (r : Fin 512) (k : Fin 1024) : EReal := x0 (ix2 r k)
abbrev gain (k : Fin 1024) : EReal := x1 (ix2 0 k)
abbrev wcol (k : Fin 1024) (o : Fin 6144) : EReal := xs4 (ix2 k o)
abbrev line (x : Vec Ideal S1x2048 .f32) (k : Fin 2048) : EReal := x (ix2 0 k)
/-- A row's normed channels, and its activations that are mixed. -/
abbrev nrow (r : Fin 512) : Fin 1024 → EReal := Spec.norm (rowOf x0 r) (gain x1)
abbrev arow (r : Fin 512) (k : Fin 2048) : EReal := Spec.gelu (Spec.proj (nrow x0 x1 r) (wcol xs4) (Spec.colA k))

theorem normed_apply (r : Fin 512) (k : Fin 1024) : normed c arg1 harg1 arg2 harg2 arg10 x0 x1 (ix2 r k) = nrow x0 x1 r k := by
  refine (readCov2 arg10.view (restRun.sl.HS0_1 c arg1 harg1 arg2 harg2 x0 x1) (nrow x0 x1) (fun p hp => ?_) (View.cover_of_tiledL _ S512x1024.size (by sl_kernel_rfl)) 0 0 inb_S512x1024_S512x1024_0_0 r k).trans ?_
  · rw [List.mem_singleton.mp hp]
    refine piece2 (e := .bf16) (nrow x0 x1) 0 0 inb_S512x1024_S512x1024_0_0 _ fun i j => ?_
    rw [fin_zero_add, fin_zero_add]
    exact (congrFun (congrArg₂ k0_pay44 (readAt_whole2 arg1 harg1 x0 _) (readAt_whole2 arg2 harg2 x1 _)) _).trans (norm_apply x0 x1 i j)
  · rw [fin_zero_add, fin_zero_add]

theorem colsAt_apply (q : Fin 24) (k : Fin 1024) (l : Fin 256) : colsAt arg14 harg14 xs4 q (ix2 k l) = xs4 (ix2 k ⟨256 * q.val + l.val, by omega⟩) :=
  (readAt2 arg14 harg14 xs4 0 (256 * q.val) (fits_cols q) k l).trans (by rw [fin_zero_add])

theorem proj_apply (q : Fin 24) (r : Fin 512) (l : Fin 256) (o : Fin 6144) (ho : o.val = 256 * q.val + l.val) :
    ∑ k, normed c arg1 harg1 arg2 harg2 arg10 x0 x1 (ix2 r k) * colsAt arg14 harg14 xs4 q (ix2 k l) = Spec.proj (nrow x0 x1 r) (wcol xs4) o := by
  rw [show o = ⟨256 * q.val + l.val, by omega⟩ from Fin.ext ho]
  exact Finset.sum_congr rfl fun k _ => congrArg₂ (· * ·) (normed_apply c arg1 harg1 arg2 harg2 arg10 x0 x1 r k) (colsAt_apply arg14 harg14 xs4 q k l)

theorem actAt_apply (q : Fin 8) (r : Fin 512) (l : Fin 256) :
    actAt c arg1 harg1 arg2 harg2 arg10 arg11 arg14 harg14 x0 x1 xs4 q (ix2 r l) = arow x0 x1 xs4 r ⟨256 * q.val + l.val, by omega⟩ := by
  refine (readCov2 arg11.view (restRun.sl.HS1_8 c arg1 harg1 arg2 harg2 arg10 arg14 harg14 x0 x1 xs4) (arow x0 x1 xs4) (fun p hp => ?_) (View.cover_of_tiledL _ S512x256.size (by sl_kernel_rfl)) 0 (256 * q.val) (fits_block q) r l).trans ?_
  · rw [actPieces_eq] at hp
    obtain ⟨q, -, rfl⟩ := List.mem_map.mp hp
    refine piece2 (e := .f32) (arow x0 x1 xs4) 0 (256 * q.val) (fits_block q) _ fun i j => ?_
    rw [fin_zero_add]
    exact (stored_apply _ _ i j).trans (congrArg Spec.gelu (proj_apply c arg1 harg1 arg2 harg2 arg10 arg14 harg14 x0 x1 xs4 ⟨8 + q.val, by omega⟩ i j _ (by dsimp only; omega)))
  · rw [fin_zero_add]

theorem means_apply (r : Fin 512) : means c arg1 harg1 arg2 harg2 arg10 arg14 harg14 x0 x1 xs4 (ix2 r 0) = Spec.mean (arow x0 x1 xs4 r) := by
  rw [means_eq, rowMean_apply]
  refine congrArg Spec.mean (funext fun i => ?_)
  exact (act_apply _ _ _ _).trans (congrArg Spec.gelu (proj_apply c arg1 harg1 arg2 harg2 arg10 arg14 harg14 x0 x1 xs4 _ r _ _ (by dsimp only; omega)))

theorem devs_apply (r : Fin 512) : devs c arg1 harg1 arg2 harg2 arg10 arg11 arg14 harg14 x0 x1 xs4 (ix2 r 0) = Spec.dev (arow x0 x1 xs4 r) := by
  rw [devs_eq, invDev_apply, rowMean_apply]
  refine congrArg (fun t => Ideal.rsqrt (Spec.mean t + _)) (funext fun i => ?_)
  rw [dist_apply, means_apply, actAt_apply]
  have e : (⟨256 * (i.val / 256) + i.val % 256, by omega⟩ : Fin 2048) = i := Fin.ext (by dsimp only; omega)
  rw [e]

theorem rowAt_apply (arg : Memref sig .tc .vmem S1x2048 .f32) (harg : arg.IsWhole) (x : Vec Ideal S1x2048 .f32) (q : Fin 8) (l : Fin 256) :
    rowAt arg harg x q (ix2 0 l) = line x ⟨256 * q.val + l.val, by omega⟩ :=
  readAt2 arg harg x 0 (256 * q.val) (fits_row q) 0 l

/-- A row's channels that are mixed, normed. -/
abbrev crow (r : Fin 512) (k : Fin 2048) : EReal := Spec.chan (rowOf x0 r) (gain x1) (wcol xs4) (line x2) (line x3) k

theorem scaledAt_apply (n : Fin 16) (g : Fin 4) (i l : Fin 128) :
    scaledAt c arg1 harg1 arg2 harg2 arg4 harg4 arg5 harg5 arg10 arg11 arg12 arg14 harg14 x0 x1 x2 x3 xs4 n g (ix2 i l)
      = crow x0 x1 x2 x3 xs4 ⟨128 * g.val + i.val, by omega⟩ ⟨128 * n.val + l.val, by omega⟩ := by
  refine readCov2 arg12.view (restRun.sl.HS2_8 c arg1 harg1 arg2 harg2 arg4 harg4 arg5 harg5 arg10 arg11 arg14 harg14 x0 x1 x2 x3 xs4) (crow x0 x1 x2 x3 xs4) (fun p hp => ?_) (View.cover_of_tiledL _ S512x256.size (by sl_kernel_rfl)) (128 * g.val) (128 * n.val) (fits_tile g n) i l
  rw [scaledPieces_eq] at hp
  obtain ⟨q, -, rfl⟩ := List.mem_map.mp hp
  refine piece2 (e := .bf16) (crow x0 x1 x2 x3 xs4) 0 (256 * q.val) (fits_block q) _ fun i j => ?_
  rw [fin_zero_add]
  refine (scale_apply _ _ _ _ _ i j).trans ?_
  rw [means_apply, devs_apply, actAt_apply, rowAt_apply, rowAt_apply]
  rfl

/-- The mixing matrices and their bias, as functions. -/
abbrev wmat (n : Fin 16) (i j : Fin 128) : EReal := xs6 (ix3 n i j)
abbrev brow (n : Fin 16) (i : Fin 128) : EReal := x5 (ix2 i n)

theorem biasAt_apply (n : Fin 16) (i : Fin 128) : biasAt arg7 harg7 x5 n (ix2 i 0) = brow x5 n i :=
  (readAt2 arg7 harg7 x5 0 n.val (fits_bias n) i 0).trans (by rw [fin_zero_add]; rfl)

theorem mixAt_apply (n : Fin 16) (i j : Fin 128) : mixAt arg16 harg16 xs6 n (ix3 0 i j) = wmat xs6 n i j :=
  (harg16.readAt_unread xs6 _ _).trans (congrArg xs6 ((idx_unit3 n.val 0 0 (fits_mix n) 0 i j).trans
    (congrArg₂ (fun (a b : Fin 128) => (ix3 n a b : S16x128x128.Idx)) (fin_zero_add i _) (fin_zero_add j _))))

/-- The rows of the group that a row belongs to. -/
abbrev groupOf (r : Fin 512) (j : Fin 128) : Fin 1024 → EReal := rowOf x0 ⟨128 * (r.val / 128) + j.val, by omega⟩
/-- A row's gated channels. -/
abbrev yrow (r : Fin 512) (k : Fin 2048) : EReal :=
  Spec.gated (groupOf x0 r) (gain x1) (wcol xs4) (line x2) (line x3) (wmat xs6) (brow x5) ⟨r.val % 128, by omega⟩ k

theorem tilePiece_apply (n : Fin 16) (g : Fin 4) (i l : Fin 128) :
    (tilePiece c arg1 harg1 arg2 harg2 arg4 harg4 arg5 harg5 arg7 harg7 arg10 arg11 arg12 arg14 harg14 arg16 harg16 x0 x1 x2 x3 x5 xs4 xs6 n g).2 (ix2 i l)
      = yrow x0 x1 x2 x3 x5 xs4 xs6 ⟨128 * g.val + i.val, by omega⟩ ⟨128 * n.val + l.val, by omega⟩ := by
  refine (tile_apply _ _ _ _ g _ i l).trans ?_
  have hn : (⟨(128 * n.val + l.val) / 128, by omega⟩ : Fin 16) = n := Fin.ext (by dsimp only; omega)
  have hi : (⟨(128 * g.val + i.val) % 128, by omega⟩ : Fin 128) = i := Fin.ext (by dsimp only; omega)
  have hg : groupOf x0 ⟨128 * g.val + i.val, by omega⟩ = fun j => rowOf x0 ⟨128 * g.val + j.val, by omega⟩ :=
    funext fun j => congrArg (rowOf x0) (Fin.ext (by dsimp only; omega))
  show _ = Spec.gated (groupOf x0 ⟨128 * g.val + i.val, by omega⟩) (gain x1) (wcol xs4) (line x2) (line x3) (wmat xs6) (brow x5) ⟨(128 * g.val + i.val) % 128, by omega⟩ ⟨128 * n.val + l.val, by omega⟩
  rw [hg, hi]
  unfold Spec.gated
  dsimp only
  simp only [hn]
  refine congrArg₂ (· * ·) (congrArg₂ (· * ·) ?_ (congrArg₂ (· + ·) ?_ ?_)) ?_
  · exact (act_apply _ _ _ _).trans (congrArg Spec.gelu (proj_apply c arg1 harg1 arg2 harg2 arg10 arg14 harg14 x0 x1 xs4 ⟨n.val / 2, by omega⟩ ⟨128 * g.val + i.val, by omega⟩ ⟨128 * (n.val % 2) + l.val, by omega⟩ (Spec.colU ⟨128 * n.val + l.val, by omega⟩) (by dsimp only; omega)))
  · refine (mixed_apply _ (fun g => scaledAt c arg1 harg1 arg2 harg2 arg4 harg4 arg5 harg5 arg10 arg11 arg12 arg14 harg14 x0 x1 x2 x3 xs4 n g) g i l).trans ?_
    exact Finset.sum_congr rfl fun j _ => congrArg₂ (· * ·) (mixAt_apply arg16 harg16 xs6 n i j) (scaledAt_apply c arg1 harg1 arg2 harg2 arg4 harg4 arg5 harg5 arg10 arg11 arg12 arg14 harg14 x0 x1 x2 x3 xs4 n g j l)
  · exact biasAt_apply arg7 harg7 x5 n i
  · exact (gate_apply _ _ _ _).trans (congrArg Spec.silu (proj_apply c arg1 harg1 arg2 harg2 arg10 arg14 harg14 x0 x1 xs4 ⟨16 + n.val / 2, by omega⟩ ⟨128 * g.val + i.val, by omega⟩ ⟨128 * (n.val % 2) + l.val, by omega⟩ (Spec.colZ ⟨128 * n.val + l.val, by omega⟩) (by dsimp only; omega)))

/-- The gated channels, read back whole. -/
theorem gatedAt_apply (r : Fin 512) (k : Fin 2048) :
    restRun.sl.v1446 c arg1 harg1 arg2 harg2 arg4 harg4 arg5 harg5 arg7 harg7 arg10 arg11 arg12 arg13 arg14 harg14 arg16 harg16 x0 x1 x2 x3 x5 xs4 xs6 (ix2 r k) = yrow x0 x1 x2 x3 x5 xs4 xs6 r k := by
  refine (readCov2 arg13.view (restRun.sl.HS3_64 c arg1 harg1 arg2 harg2 arg4 harg4 arg5 harg5 arg7 harg7 arg10 arg11 arg12 arg14 harg14 arg16 harg16 x0 x1 x2 x3 x5 xs4 xs6) (yrow x0 x1 x2 x3 x5 xs4 xs6) (fun p hp => ?_) (View.cover_of_tiledL _ S128x128.size (by sl_kernel_rfl)) 0 0 inb_S512x2048_S512x2048_0_0 r k).trans ?_
  · rw [tilePieces_eq] at hp
    obtain ⟨n, -, hp⟩ := List.mem_flatMap.mp hp
    obtain ⟨g, -, rfl⟩ := List.mem_map.mp hp
    exact piece2 (e := .bf16) (yrow x0 x1 x2 x3 x5 xs4 xs6) (128 * g.val) (128 * n.val) (fits_tile g n) _ fun i j => tilePiece_apply c arg1 harg1 arg2 harg2 arg4 harg4 arg5 harg5 arg7 harg7 arg10 arg11 arg12 arg14 harg14 arg16 harg16 x0 x1 x2 x3 x5 xs4 xs6 n g i j
  · rw [fin_zero_add, fin_zero_add]

end

end Cert.KernelIdeal.Mix

end
-- ==== Proof.Mask.lean ====
module

public import proofs.«01_k».proof.Proof.Run
public import proofs.«01_k».proof.Proof.Value

@[expose] public section

set_option maxRecDepth 16384

noncomputable section

namespace Cert.KernelIdeal.Mix

open Idealize.ShloMosaic Cert.KernelIdeal Cert.KernelIdeal.Gen Cert.Pieces
open Idealize.ShloMosaic.TcCoe

/-! # The carried copies at an index -/

/-- The block of 64 that a row, or a column, of the mask lies in. -/
theorem rowBlock_apply (i j : Fin 128) : k0_pay21 k0_pay18 k0_pay19 k0_pay20 (ix2 i j) = BitVec.ofNat 32 (i.val / 64) := by
  pointwise [k0_pay21, k0_pay18, k0_pay19, k0_pay20]
  revert i; decide +kernel
theorem colBlock_apply (i j : Fin 128) : k0_pay22 (ix2 i j) = BitVec.ofNat 32 (j.val / 64) := by
  pointwise [k0_pay22]
  revert j; decide +kernel

theorem maskWord_apply (w : Vec Ideal S1x128x128 .f32) (i j : Fin 128) :
    k0_pay27 (k0_pay21 k0_pay18 k0_pay19 k0_pay20) k0_pay22 w (ix3 0 i j) = if j.val / 64 ≤ i.val / 64 then w (ix3 0 i j) else 0 := by
  pointwise [k0_pay27]
  rw [rowBlock_apply, colBlock_apply]
  have key : ∀ a b : Fin 2, IntOp.cmpi .sge (BitVec.ofNat 32 a.val) (BitVec.ofNat 32 b.val) = if b.val ≤ a.val then 1#1 else 0#1 := by decide +kernel
  have := key ⟨i.val / 64, by omega⟩ ⟨j.val / 64, by omega⟩
  dsimp only at this
  rw [this]
  split <;> rfl

variable (m : (ℓ : Loc nD τ sig) → Buf (Elt Ideal) ℓ) (c : Dev nD)

/-- The matrix of head `n` masked, as it is stored. -/
def maskPiece (n : Fin 16) : View.Piece (Elt Ideal) S16x128x128 .bf16 :=
  ⟨Rect.unit ![n.val, 0, 0] S1x128x128.size (fits_mix n), k0_pay27 (k0_pay21 k0_pay18 k0_pay19 k0_pay20) k0_pay22
    (View.readAt (Elt Ideal) (ms0_4 t0).view (Rect.unit (s := S16x128x128) ![n.val, 0, 0] S1x128x128.size (fits_mix n)).toLoadRect ((hs0_4 t0).unread (iblk m c 4 t0)))⟩

theorem maskPieces_eq : maskPieces m c = [15, 14, 13, 12, 11, 10, 9, 8, 7, 6, 5, 4, 3, 2, 1, 0].map (maskPiece m c) := rfl

theorem wmask_apply (n : Fin 16) (i j : Fin 128) : wmask m c (ix3 n i j) = Spec.masked (fun n i j => iblk m c 4 t0 (ix3 n i j)) n i j := by
  refine View.canon_apply_of_pieces (fun y : S16x128x128.Idx => Spec.masked (fun n i j => iblk m c 4 t0 (ix3 n i j)) (y 0) (y 1) (y 2)) (maskPieces m c) (fun p hp => ?_) _ (mask_cover m c _)
  rw [maskPieces_eq] at hp
  obtain ⟨n, -, rfl⟩ := List.mem_map.mp hp
  intro x
  obtain ⟨z, i, j, rfl⟩ : ∃ (z : Fin 1) (i j : Fin 128), x = ix3 z i j := ⟨x 0, x 1, x 2, eq_ix3 x⟩
  obtain rfl : z = 0 := Subsingleton.elim _ _
  have e : (Rect.unit (s := S16x128x128) ![n.val, 0, 0] S1x128x128.size (fits_mix n)).idx (ix3 0 i j) = ix3 n i j :=
    (idx_unit3 n.val 0 0 (fits_mix n) 0 i j).trans
      (congrArg₂ (fun (a b : Fin 128) => (ix3 n a b : S16x128x128.Idx)) (fin_zero_add i _) (fin_zero_add j _))
  refine (maskWord_apply _ i j).trans (Eq.trans ?_ (congrArg (fun y : S16x128x128.Idx => Spec.masked (fun n i j => iblk m c 4 t0 (ix3 n i j)) (y 0) (y 1) (y 2)) e.symm))
  exact congrArg (fun y : EReal => if j.val / 64 ≤ i.val / 64 then y else 0) (((hs0_4 t0).readAt_unread _ _ _).trans (congrArg (iblk m c 4 t0) e))

theorem kept_apply (v : Vec Ideal S1024x512 .f32) (y : S1024x512.Idx) : kept v y = v y := by
  obtain ⟨i, j, rfl⟩ : ∃ (i : Fin 1024) (j : Fin 512), y = ix2 i j := ⟨y 0, y 1, eq_ix2 y⟩
  pointwise [kept]

/-- The weights as the call finds them. -/
abbrev weightIn : Vec Ideal S1024x6144 .f32 := V m c main_v3
abbrev weightOut : Vec Ideal S2048x1024 .f32 := V m c main_v11

/-- The first weight's carried copy is the weight. -/
theorem win_apply (y : S1024x6144.Idx) : win m c y = weightIn m c y := by
  refine View.canon_apply_of_pieces (S := S1024x6144) (e := .bf16) (weightIn m c) (winPieces c (V m c main_v3)) (fun p hp => ?_) _ (win_cover c _ _)
  have key : ∀ off inb, p = inPiece c (V m c main_v3) off inb → ∀ x : p.1.shape.Idx, p.2 x = weightIn m c (p.1.emb x) := by
    rintro off inb rfl x
    exact kept_apply _ x
  simp only [winPieces, List.mem_cons, List.not_mem_nil, or_false] at hp
  rcases hp with h | h | h | h | h | h | h | h | h | h | h | h <;> exact key _ _ h

/-- The second weight's carried copy is the weight. -/
theorem wout_apply (y : S2048x1024.Idx) : wout m c y = weightOut m c y := by
  refine View.canon_apply_of_pieces (S := S2048x1024) (e := .bf16) (weightOut m c) (woutPieces c (V m c main_v11)) (fun p hp => ?_) _ (wout_cover c _ _)
  have key : ∀ off inb, p = outPiece c (V m c main_v11) off inb → ∀ x : p.1.shape.Idx, p.2 x = weightOut m c (p.1.emb x) := by
    rintro off inb rfl x
    exact kept_apply _ x
  simp only [woutPieces, List.mem_cons, List.not_mem_nil, or_false] at hp
  rcases hp with h | h | h | h <;> exact key _ _ h

end Cert.KernelIdeal.Mix

end
-- ==== Proof.Out.lean ====
module

public import proofs.«01_k».proof.Proof.Mask
public import Idealize.ShloMosaic.Lib.Pipeline.ValueKit

@[expose] public section

set_option maxRecDepth 16384

noncomputable section

namespace Cert.KernelIdeal.Mix

open Idealize.ShloMosaic Cert.KernelIdeal Cert.KernelIdeal.Gen Cert.Pieces
open Idealize.ShloMosaic.TcCoe

/-! # The call's result -/

variable (m : (ℓ : Loc nD τ sig) → Buf (Elt Ideal) ℓ) (c : Dev nD)

/-! ## The operands, as the arguments hold them -/

/-- The arguments. -/
abbrev argX : Vec Ideal S4x4096x1024 .f32 := m ((c : Thread nD τ).loc main_arg0)
abbrev argG : Vec Ideal S1x1024 .f32 := m ((c : Thread nD τ).loc main_arg1)
abbrev argW : Vec Ideal S1x1024x6144 .f32 := m ((c : Thread nD τ).loc main_arg2)
abbrev argLg : Vec Ideal S1x2048 .f32 := m ((c : Thread nD τ).loc main_arg3)
abbrev argLb : Vec Ideal S1x2048 .f32 := m ((c : Thread nD τ).loc main_arg4)
abbrev argWs : Vec Ideal S1x16x128x128 .f32 := m ((c : Thread nD τ).loc main_arg5)
abbrev argBs : Vec Ideal S1x16x128 .f32 := m ((c : Thread nD τ).loc main_arg6)
abbrev argWo : Vec Ideal S1x2048x1024 .f32 := m ((c : Thread nD τ).loc main_arg7)

theorem V_v0 : V m c main_v0 = shapeCast S16384x1024 (argX m c) shapeCasts_S4x4096x1024_S16384x1024 := rfl
theorem V_v2 : V m c main_v2 = shapeCast S1x1024 (shapeCast S1024 (argG m c) shapeCasts_S1x1024_S1024) shapeCasts_S1024_S1x1024 := rfl
theorem V_v3 : V m c main_v3 = shapeCast S1024x6144 (argW m c) shapeCasts_S1x1024x6144_S1024x6144 := rfl
theorem V_v5 : V m c main_v5 = shapeCast S1x2048 (shapeCast S2048 (argLg m c) shapeCasts_S1x2048_S2048) shapeCasts_S2048_S1x2048 := rfl
theorem V_v7 : V m c main_v7 = shapeCast S1x2048 (shapeCast S2048 (argLb m c) shapeCasts_S1x2048_S2048) shapeCasts_S2048_S1x2048 := rfl
theorem V_v8 : V m c main_v8 = shapeCast S16x128x128 (argWs m c) shapeCasts_S1x16x128x128_S16x128x128 := rfl
theorem V_v10 : V m c main_v10 = transpose S128x16 [1, 0] (shapeCast S16x128 (argBs m c) shapeCasts_S1x16x128_S16x128) transposes_S16x128_S128x16_1_0 := rfl
theorem V_v11 : V m c main_v11 = shapeCast S2048x1024 (argWo m c) shapeCasts_S1x2048x1024_S2048x1024 := rfl

/-! ## The windows' places -/

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![0, 0] := by decide +kernel
theorem place3 : ∀ t : Fin cfg0.N, win0_3.index t = ![0, 0] := by decide +kernel
theorem place4 : ∀ t : Fin cfg0.N, win0_4.index t = ![0, 0, 0] := by decide +kernel
theorem place5 : ∀ t : Fin cfg0.N, win0_5.index t = ![0, 0] := by decide +kernel
theorem place6 : ∀ t : Fin cfg0.N, win0_6.index t = ![t.val, 0] := by decide +kernel

theorem points (t : Fin cfg0.N) : t.val < 32 := lt_of_lt_of_eq t.isLt (show cfg0.N = 32 from N_0)

/-- Row `r` of point `t`'s block, in the list of all the tokens. -/
abbrev rowIdx (t : Fin cfg0.N) (r : Fin 512) : Fin 16384 := ⟨512 * t.val + r.val, by have := points t; omega⟩

theorem tokens_apply (R : Fin 16384) (k : Fin 1024) : V m c main_v0 (ix2 R k) = argX m c (ix3 ⟨R.val / 4096, by omega⟩ ⟨R.val % 4096, by omega⟩ k) := by
  rw [V_v0]
  pointwise

theorem block0_apply (t : Fin cfg0.N) (r : Fin 512) (k : Fin 1024) :
    iblk m c 0 t (ix2 r k) = argX m c (ix3 ⟨(rowIdx t r).val / 4096, by have := (rowIdx t r).isLt; omega⟩ ⟨(rowIdx t r).val % 4096, by omega⟩ k) := by
  refine Eq.trans ?_ (tokens_apply m c (rowIdx t r) k)
  unfold iblk
  blk_ext [place0]

theorem block1_apply (t : Fin cfg0.N) (k : Fin 1024) : iblk m c 1 t (ix2 0 k) = argG m c (ix2 0 k) := by
  have e : V m c main_v2 (ix2 0 k) = argG m c (ix2 0 k) := by rw [V_v2]; pointwise
  refine Eq.trans ?_ e
  unfold iblk
  blk_ext [place1]

theorem block2_apply (t : Fin cfg0.N) (k : Fin 2048) : iblk m c 2 t (ix2 0 k) = argLg m c (ix2 0 k) := by
  have e : V m c main_v5 (ix2 0 k) = argLg m c (ix2 0 k) := by rw [V_v5]; pointwise
  refine Eq.trans ?_ e
  unfold iblk
  blk_ext [place2]

theorem block3_apply (t : Fin cfg0.N) (k : Fin 2048) : iblk m c 3 t (ix2 0 k) = argLb m c (ix2 0 k) := by
  have e : V m c main_v7 (ix2 0 k) = argLb m c (ix2 0 k) := by rw [V_v7]; pointwise
  refine Eq.trans ?_ e
  unfold iblk
  blk_ext [place3]

theorem block4_apply (t : Fin cfg0.N) (n : Fin 16) (i j : Fin 128) : iblk m c 4 t (ix3 n i j) = argWs m c (ix4 0 n i j) := by
  have e : V m c main_v8 (ix3 n i j) = argWs m c (ix4 0 n i j) := by rw [V_v8]; pointwise
  refine Eq.trans ?_ e
  unfold iblk
  blk_ext [place4]

theorem block5_apply (t : Fin cfg0.N) (i : Fin 128) (n : Fin 16) : iblk m c 5 t (ix2 i n) = argBs m c (ix3 0 n i) := by
  have e : V m c main_v10 (ix2 i n) = argBs m c (ix3 0 n i) := by rw [V_v10]; pointwise
  refine Eq.trans ?_ e
  unfold iblk
  blk_ext [place5]

theorem weightIn_apply (k : Fin 1024) (o : Fin 6144) : weightIn m c (ix2 k o) = argW m c (ix3 0 k o) := by
  rw [weightIn, V_v3]; pointwise
theorem weightOut_apply (k : Fin 2048) (n : Fin 1024) : weightOut m c (ix2 k n) = argWo m c (ix3 0 k n) := by
  rw [weightOut, V_v11]; pointwise

/-! ## The result -/

/-- The mixer of the arguments. -/
abbrev mixer (R : Fin 16384) (n : Fin 1024) : EReal :=
  Spec.result (fun b s k => argX m c (ix3 b s k)) (fun k => argG m c (ix2 0 k)) (fun k o => argW m c (ix3 0 k o)) (fun k => argLg m c (ix2 0 k)) (fun k => argLb m c (ix2 0 k))
    (fun n i j => argWs m c (ix4 0 n i j)) (fun n i => argBs m c (ix3 0 n i)) (fun k n => argWo m c (ix3 0 k n)) R n

/-- The gated channels of point `t`'s rows. -/
abbrev gatedOf (t : Fin cfg0.N) : Vec Ideal S512x2048 .bf16 :=
  restRun.sl.v1446 c (ms0_0 t) (hs0_0 t) (ms0_1 t) (hs0_1 t) (ms0_2 t) (hs0_2 t) (ms0_3 t) (hs0_3 t) (ms0_5 t) (hs0_5 t) scM0_0 scM0_1 scM0_2 scM0_3 scM0_4 (Memref.isWhole_whole _) scM0_6 (Memref.isWhole_whole _)
    (iblk m c 0 t) (iblk m c 1 t) (iblk m c 2 t) (iblk m c 3 t) (iblk m c 5 t) (win m c) (wmask m c)

/-- The block is stored whole: the rows plus the product of the gated channels with the second weight. -/
theorem outPieces_eq (t : Fin cfg0.N) : (mainRun m c t).1 = [⟨Rect.unit ![0, 0] S512x1024.size inb_S512x1024_S512x1024_0_0,
    k0_pay1 (View.readAt (Elt Ideal) (ms0_0 t).view (Rect.unit (s := S512x1024) ![0, 0] S512x1024.size inb_S512x1024_S512x1024_0_0).toLoadRect ((hs0_0 t).unread (iblk m c 0 t)))
      (gatedOf m c t)
      (View.readAt (Elt Ideal) scM0_5.view (Rect.unit (s := S2048x1024) ![0, 0] S2048x1024.size inb_S2048x1024_S2048x1024_0_0).toLoadRect ((Memref.isWhole_whole _ : scM0_5.IsWhole).unread (wout m c)))⟩] := rfl

theorem gatedOf_apply (t : Fin cfg0.N) (r : Fin 512) (k : Fin 2048) :
    gatedOf m c t (ix2 r k) = Spec.gated (fun j i => argX m c (ix3 ⟨(rowIdx t r).val / 4096, by have := (rowIdx t r).isLt; omega⟩ ⟨128 * ((rowIdx t r).val % 4096 / 128) + j.val, by omega⟩ i)) (fun k => argG m c (ix2 0 k)) (fun k o => argW m c (ix3 0 k o))
      (fun k => argLg m c (ix2 0 k)) (fun k => argLb m c (ix2 0 k)) (Spec.masked fun n i j => argWs m c (ix4 0 n i j)) (fun n i => argBs m c (ix3 0 n i)) ⟨(rowIdx t r).val % 128, by omega⟩ k := by
  refine (gatedAt_apply c (ms0_0 t) (hs0_0 t) (ms0_1 t) (hs0_1 t) (ms0_2 t) (hs0_2 t) (ms0_3 t) (hs0_3 t) (ms0_5 t) (hs0_5 t) scM0_0 scM0_1 scM0_2 scM0_3 scM0_4 (Memref.isWhole_whole _) scM0_6 (Memref.isWhole_whole _)
    (iblk m c 0 t) (iblk m c 1 t) (iblk m c 2 t) (iblk m c 3 t) (iblk m c 5 t) (win m c) (wmask m c) r k).trans ?_
  have ht := points t
  have hx : groupOf (iblk m c 0 t) r = fun j i => argX m c (ix3 ⟨(rowIdx t r).val / 4096, by have := (rowIdx t r).isLt; omega⟩ ⟨128 * ((rowIdx t r).val % 4096 / 128) + j.val, by omega⟩ i) := by
    funext j i
    refine (block0_apply m c t ⟨128 * (r.val / 128) + j.val, by omega⟩ i).trans ?_
    have e0 : (⟨(rowIdx t ⟨128 * (r.val / 128) + j.val, by omega⟩).val / 4096, by dsimp only; omega⟩ : Fin 4) = ⟨(rowIdx t r).val / 4096, by dsimp only; omega⟩ := Fin.ext (by dsimp only; omega)
    have e1 : (⟨(rowIdx t ⟨128 * (r.val / 128) + j.val, by omega⟩).val % 4096, by omega⟩ : Fin 4096) = ⟨128 * ((rowIdx t r).val % 4096 / 128) + j.val, by omega⟩ := Fin.ext (by dsimp only; omega)
    exact congrArg₂ (fun a b => argX m c (ix3 a b i)) e0 e1
  have hi : (⟨r.val % 128, by omega⟩ : Fin 128) = ⟨(rowIdx t r).val % 128, by omega⟩ := Fin.ext (by dsimp only; omega)
  have hg : gain (iblk m c 1 t) = fun k => argG m c (ix2 0 k) := funext fun k => block1_apply m c t k
  have hw : wcol (win m c) = fun k o => argW m c (ix3 0 k o) := funext fun k => funext fun o => (win_apply m c _).trans (weightIn_apply m c k o)
  have hlg : line (iblk m c 2 t) = fun k => argLg m c (ix2 0 k) := funext fun k => block2_apply m c t k
  have hlb : line (iblk m c 3 t) = fun k => argLb m c (ix2 0 k) := funext fun k => block3_apply m c t k
  have hm : wmat (wmask m c) = Spec.masked fun n i j => argWs m c (ix4 0 n i j) := funext fun n => funext fun i => funext fun j =>
    (wmask_apply m c n i j).trans (congrArg (fun z => Spec.masked z n i j) (funext fun n => funext fun i => funext fun j => block4_apply m c t0 n i j))
  have hb : brow (iblk m c 5 t) = fun n i => argBs m c (ix3 0 n i) := funext fun n => funext fun i => block5_apply m c t i n
  show Spec.gated (groupOf (iblk m c 0 t) r) (gain (iblk m c 1 t)) (wcol (win m c)) (line (iblk m c 2 t)) (line (iblk m c 3 t)) (wmat (wmask m c)) (brow (iblk m c 5 t)) ⟨r.val % 128, by omega⟩ k = _
  rw [hx, hi, hg, hw, hlg, hlb, hm, hb]

theorem outAt_apply (t : Fin cfg0.N) (r : Fin 512) (n : Fin 1024) : outAt m c t (ix2 r n) = mixer m c (rowIdx t r) n := by
  refine View.canon_apply_of_pieces (S := S512x1024) (e := .f32) (fun y => mixer m c (rowIdx t (y 0)) (y 1)) (mainRun m c t).1 (fun p hp => ?_) _ (out_cover m c t _)
  rw [outPieces_eq] at hp
  rw [List.mem_singleton.mp hp]
  refine piece2 (e := .f32) (fun r n => mixer m c (rowIdx t r) n) 0 0 inb_S512x1024_S512x1024_0_0 _ fun r n => ?_
  rw [fin_zero_add, fin_zero_add]
  refine (last_apply _ _ _ r n).trans ?_
  refine congrArg₂ (· + ·) ?_ (Finset.sum_congr rfl fun k _ => congrArg₂ (· * ·) (gatedOf_apply m c t r k) ?_)
  · refine (congrFun (readAt_whole2 (ms0_0 t) (hs0_0 t) (iblk m c 0 t) inb_S512x1024_S512x1024_0_0) (ix2 r n)).trans ((block0_apply m c t r n).trans ?_)
    exact congrArg (fun b => argX m c (ix3 _ b n)) (Fin.ext (by dsimp only; omega))
  · exact (congrFun (readAt_whole2 scM0_5 (Memref.isWhole_whole _) (wout m c) inb_S2048x1024_S2048x1024_0_0) (ix2 k n)).trans ((wout_apply m c _).trans (weightOut_apply m c k n))

theorem array_eq : (dats m 0 c).arrAt 6 cfg0.N = fun y : S16384x1024.Idx => mixer m c (y 0) (y 1) := by
  refine (dats m 0 c).arrAt_eq_of_covers 6 _ (by decide +kernel) fun t hf y => ?_
  obtain ⟨r, n, rfl⟩ : ∃ (r : Fin 512) (n : Fin 1024), y = ix2 r n := ⟨y 0, y 1, eq_ix2 y⟩
  blk_simp [after0_6]
  have e : (win0_6.blk t).view.emb (ix2 r n) = (ix2 (rowIdx t r) n : S16384x1024.Idx) := by blk_ext [place6]
  exact (outAt_apply m c t r n).trans (congrArg (fun y : S16384x1024.Idx => mixer m c (y 0) (y 1)) e.symm)

end Cert.KernelIdeal.Mix

end
-- ==== Proof.Ref.lean ====
module

public import proofs.«01_k».proof.Proof.Spec
public import proofs.«01_k».proof.Proof.Gen.ReferenceIdeal.Run

@[expose] public section

set_option maxRecDepth 16384

noncomputable section

namespace Cert.ReferenceIdeal.Mix

open Idealize.ShloMosaic Cert.ReferenceIdeal Cert.ReferenceIdeal.Gen Cert.ReferenceIdeal.Value
open Idealize.ShloMosaic.TcCoe

/-! # The reference, stage by stage -/

/-- The first product of the normed tokens. -/
def prod (x : FVec Ideal S4x4096x1024 .f32) (g : FVec Ideal S1x1024 .f32) (w : FVec Ideal S1x1024x6144 .f32) : FVec Ideal S4x4096x6144 .f32 :=
  Host.dotGeneral dot_S4x4096x1024_S1024x6144_S4x4096x6144_2_0_01_1_n_n none (mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_))
        (broadcastInDim S4x4096x1 ![] bcast_S_S4x4096x1 (constant S_ .f32 0x44800000#32))) (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 (shapeCast _ g shapeCasts_S1x1024_S1024))))
    (shapeCast _ w shapeCasts_S1x1024x6144_S1024x6144)

/-- The gated-error unit of an array. -/
def unitOf (p : FVec Ideal S4x4096x2048 .f32) : FVec Ideal S4x4096x2048 .f32 :=
  mulf p (mulf (broadcastInDim S4x4096x2048 ![] bcast_S_S4x4096x2048 (constant S_ .f32 0x3F000000#32)) (addf (broadcastInDim S4x4096x2048 ![] bcast_S_S4x4096x2048 (constant S_ .f32 0x3F800000#32))
    (Host.tanh (mulf (broadcastInDim S4x4096x2048 ![] bcast_S_S4x4096x2048 (constant S_ .f32 0x3F4C422A#32))
      (addf p (mulf (broadcastInDim S4x4096x2048 ![] bcast_S_S4x4096x2048 (constant S_ .f32 0x3D372713#32)) (mulf (mulf p p) p)))))))

/-- The sigmoid unit of an array. -/
def gateOf (p : FVec Ideal S4x4096x2048 .f32) : FVec Ideal S4x4096x2048 .f32 :=
  mulf p (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf p))))

/-- The rows' means, spread over the rows' columns. -/
def meanOf (a : FVec Ideal S4x4096x2048 .f32) : FVec Ideal S4x4096x1 .f32 :=
  Host.divf (broadcastInDim S4x4096x1 ![0, 1] bcast_S4x4096_S4x4096x1_0_1 (Host.reduceAdd a (constant S_ .f32 0x00000000#32) reducesTo_S4x4096x2048_S4x4096_d2 h_S_))
    (broadcastInDim S4x4096x1 ![] bcast_S_S4x4096x1 (constant S_ .f32 0x45000000#32))

/-- The rows less their means. -/
def centred (a : FVec Ideal S4x4096x2048 .f32) : FVec Ideal S4x4096x2048 .f32 :=
  subf a (broadcastInDim S4x4096x2048 ![0, 1, 2] bcast_S4x4096x1_S4x4096x2048_0_1_2 (meanOf a))

/-- The second norm. -/
def scaledOf (a : FVec Ideal S4x4096x2048 .f32) (lg lb : FVec Ideal S1x2048 .f32) : FVec Ideal S4x4096x2048 .f32 :=
  addf (mulf (mulf (centred a) (broadcastInDim S4x4096x2048 ![0, 1, 2] bcast_S4x4096x1_S4x4096x2048_0_1_2
      (Host.rsqrt (addf (meanOf (mulf (centred a) (centred a))) (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 (shapeCast _ lg shapeCasts_S1x2048_S2048))))
    (broadcastInDim S4x4096x2048 ![0, 1, 2] bcast_S1x1x2048_S4x4096x2048_0_1_2 (broadcastInDim S1x1x2048 ![2] bcast_S2048_S1x1x2048_2 (shapeCast _ lb shapeCasts_S1x2048_S2048)))

/-- The block of 64 of each of 128 positions. -/
def blockOf64 : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- The mixing matrices masked. -/
def maskedOf (ws : FVec Ideal S1x16x128x128 .f32) : FVec Ideal S16x128x128 .f32 :=
  select (broadcastInDim S16x128x128 ![0, 1, 2] bcast_S1x128x128_S16x128x128_0_1_2 (broadcastInDim S1x128x128 ![1, 2] bcast_S128x128_S1x128x128_1_2
      (cmpi .sge (broadcastInDim S128x128 ![0, 1] bcast_S128x1_S128x128_0_1 (broadcastInDim S128x1 ![0] bcast_S128_S128x1_0 blockOf64))
        (broadcastInDim S128x128 ![0, 1] bcast_S1x128_S128x128_0_1 (broadcastInDim S1x128 ![1] bcast_S128_S1x128_1 blockOf64)))))
    (shapeCast _ ws shapeCasts_S1x16x128x128_S16x128x128) (broadcastInDim S16x128x128 ![] bcast_S_S16x128x128 (constant S_ .f32 0x00000000#32))

/-- The channels mixed over the tokens of each group, with their bias. -/
def mixedOf (n : FVec Ideal S4x4096x2048 .f32) (w : FVec Ideal S16x128x128 .f32) (bs : FVec Ideal S1x16x128 .f32) : FVec Ideal S4x4096x2048 .f32 :=
  shapeCast _ (addf (transpose S4x32x128x16x128 [1, 2, 4, 0, 3] (Host.dotGeneral dot_S4x32x128x16x128_S16x128x128_S16x4x32x128x128_2_2_014_1_3_0 none
      (shapeCast _ n shapeCasts_S4x4096x2048_S4x32x128x16x128) w) transposes_S16x4x32x128x128_S4x32x128x16x128_1_2_4_0_3)
    (broadcastInDim S4x32x128x16x128 ![0, 1, 2, 3, 4] bcast_S1x1x128x16x1_S4x32x128x16x128_0_1_2_3_4 (broadcastInDim S1x1x128x16x1 ![2, 3, 4] bcast_S128x16x1_S1x1x128x16x1_2_3_4
      (broadcastInDim S128x16x1 ![0, 1] bcast_S128x16_S128x16x1_0_1 (transpose S128x16 [1, 0] (shapeCast _ bs shapeCasts_S1x16x128_S16x128) transposes_S16x128_S128x16_1_0))))) shapeCasts_S4x32x128x16x128_S4x4096x2048

/-- The three parts of the product's columns. -/
def partU (p : FVec Ideal S4x4096x6144 .f32) : FVec Ideal S4x4096x2048 .f32 := extractStridedSlice S4x4096x2048 ![0, 0, 0] p slices_S4x4096x6144_S4x4096x2048_0_0_0
def partA (p : FVec Ideal S4x4096x6144 .f32) : FVec Ideal S4x4096x2048 .f32 := extractStridedSlice S4x4096x2048 ![0, 0, 2048] p slices_S4x4096x6144_S4x4096x2048_0_0_2048
def partZ (p : FVec Ideal S4x4096x6144 .f32) : FVec Ideal S4x4096x2048 .f32 := extractStridedSlice S4x4096x2048 ![0, 0, 4096] p slices_S4x4096x6144_S4x4096x2048_0_0_4096

/-- The gated channels. -/
def gatedOf (p : FVec Ideal S4x4096x6144 .f32) (lg lb : FVec Ideal S1x2048 .f32) (ws : FVec Ideal S1x16x128x128 .f32) (bs : FVec Ideal S1x16x128 .f32) : FVec Ideal S4x4096x2048 .f32 :=
  mulf (mulf (unitOf (partU p)) (mixedOf (scaledOf (unitOf (partA p)) lg lb) (maskedOf ws) bs)) (gateOf (partZ p))

/-- The tokens plus the second product, as one list. -/
def outOf (x : FVec Ideal S4x4096x1024 .f32) (y : FVec Ideal S4x4096x2048 .f32) (wo : FVec Ideal S1x2048x1024 .f32) : FVec Ideal S16384x1024 .f32 :=
  shapeCast _ (addf x (Host.dotGeneral dot_S4x4096x2048_S2048x1024_S4x4096x1024_2_0_01_1_n_n none y (shapeCast _ wo shapeCasts_S1x2048x1024_S2048x1024))) shapeCasts_S4x4096x1024_S16384x1024

section
variable (m : (ℓ : Loc nD τ sig) → Buf (Elt Ideal) ℓ) (c : Dev nD)

/-- The arguments. -/
abbrev argX : Vec Ideal S4x4096x1024 .f32 := m ((c : Thread nD τ).loc main_arg0)
abbrev argG : Vec Ideal S1x1024 .f32 := m ((c : Thread nD τ).loc main_arg1)
abbrev argW : Vec Ideal S1x1024x6144 .f32 := m ((c : Thread nD τ).loc main_arg2)
abbrev argLg : Vec Ideal S1x2048 .f32 := m ((c : Thread nD τ).loc main_arg3)
abbrev argLb : Vec Ideal S1x2048 .f32 := m ((c : Thread nD τ).loc main_arg4)
abbrev argWs : Vec Ideal S1x16x128x128 .f32 := m ((c : Thread nD τ).loc main_arg5)
abbrev argBs : Vec Ideal S1x16x128 .f32 := m ((c : Thread nD τ).loc main_arg6)
abbrev argWo : Vec Ideal S1x2048x1024 .f32 := m ((c : Thread nD τ).loc main_arg7)

theorem result_eq : res_main_v96 m c = outOf (argX m c) (gatedOf (prod (argX m c) (argG m c) (argW m c)) (argLg m c) (argLb m c) (argWs m c) (argBs m c)) (argWo m c) := rfl
end

/-! ## The stages at an index -/

theorem prod_apply (x : FVec Ideal S4x4096x1024 .f32) (g : FVec Ideal S1x1024 .f32) (w : FVec Ideal S1x1024x6144 .f32) (b : Fin 4) (s : Fin 4096) (o : Fin 6144) :
    prod x g w (ix3 b s o) = Spec.proj (Spec.norm (fun k => x (ix3 b s k)) (fun k => g (ix2 0 k))) (fun k o => w (ix3 0 k o)) o := by
  pointwise [prod]
  rfl

theorem unitOf_apply (p : FVec Ideal S4x4096x2048 .f32) (b : Fin 4) (s : Fin 4096) (k : Fin 2048) : unitOf p (ix3 b s k) = Spec.gelu (p (ix3 b s k)) := by
  pointwise [unitOf]
  unfold Spec.gelu
  rw [mul_assoc (p (ix3 b s k)) (p (ix3 b s k)) (p (ix3 b s k))]

theorem gateOf_apply (p : FVec Ideal S4x4096x2048 .f32) (b : Fin 4) (s : Fin 4096) (k : Fin 2048) : gateOf p (ix3 b s k) = p (ix3 b s k) * Ideal.div 1 (1 + Ideal.exp (-p (ix3 b s k))) := by
  pointwise [gateOf]

theorem meanOf_apply (a : FVec Ideal S4x4096x2048 .f32) (b : Fin 4) (s : Fin 4096) : meanOf a (ix3 b s 0) = Spec.mean fun k => a (ix3 b s k) := by
  pointwise [meanOf]
  exact Spec.mean_div _

theorem centred_apply (a : FVec Ideal S4x4096x2048 .f32) (b : Fin 4) (s : Fin 4096) (k : Fin 2048) : centred a (ix3 b s k) = a (ix3 b s k) - meanOf a (ix3 b s 0) := by
  pointwise [centred]

theorem scaledOf_apply (a : FVec Ideal S4x4096x2048 .f32) (lg lb : FVec Ideal S1x2048 .f32) (b : Fin 4) (s : Fin 4096) (k : Fin 2048) :
    scaledOf a lg lb (ix3 b s k) = Spec.scale (fun k => a (ix3 b s k)) (fun k => lg (ix2 0 k)) (fun k => lb (ix2 0 k)) k := by
  pointwise [scaledOf]
  have hc : ∀ i, centred a (ix3 b s i) = a (ix3 b s i) - Spec.mean fun k => a (ix3 b s k) := fun i => by rw [centred_apply, meanOf_apply]
  have hv : (fun i => mulf (centred a) (centred a) (ix3 b s i)) = fun i => (a (ix3 b s i) - Spec.mean fun k => a (ix3 b s k)) * (a (ix3 b s i) - Spec.mean fun k => a (ix3 b s k)) :=
    funext fun i => by
      rw [← hc]
      rfl
  rw [hc, meanOf_apply, hv]
  rfl

theorem blockOf64_apply (i : Fin 128) : blockOf64 (ix1 i) = BitVec.ofNat 32 (i.val / 64) := by
  pointwise [blockOf64]
  revert i; decide +kernel

theorem maskedOf_apply (ws : FVec Ideal S1x16x128x128 .f32) (n : Fin 16) (i j : Fin 128) : maskedOf ws (ix3 n i j) = Spec.masked (fun n i j => ws (ix4 0 n i j)) n i j := by
  pointwise [maskedOf]
  rw [blockOf64_apply, blockOf64_apply]
  have key : ∀ a b : Fin 2, IntOp.cmpi .sge (BitVec.ofNat 32 a.val) (BitVec.ofNat 32 b.val) = if b.val ≤ a.val then 1#1 else 0#1 := by decide +kernel
  have := key ⟨i.val / 64, by omega⟩ ⟨j.val / 64, by omega⟩
  dsimp only at this
  rw [this]
  unfold Spec.masked
  split <;> rfl

theorem mixedOf_apply (n : FVec Ideal S4x4096x2048 .f32) (w : FVec Ideal S16x128x128 .f32) (bs : FVec Ideal S1x16x128 .f32) (b : Fin 4) (s : Fin 4096) (k : Fin 2048) :
    mixedOf n w bs (ix3 b s k) = (∑ j : Fin 128, w (ix3 ⟨k.val / 128, by omega⟩ ⟨s.val % 128, by omega⟩ j) * n (ix3 b ⟨128 * (s.val / 128) + j.val, by omega⟩ k)) + bs (ix3 0 ⟨k.val / 128, by omega⟩ ⟨s.val % 128, by omega⟩) := by
  pointwise [mixedOf]
  refine congrArg (· + _) (Finset.sum_congr rfl fun j _ => (mul_comm _ _).trans (congrArg (fun t => _ * n (ix3 b t k)) (Fin.ext ?_)))
  dsimp only
  omega

theorem outOf_apply (x : FVec Ideal S4x4096x1024 .f32) (y : FVec Ideal S4x4096x2048 .f32) (wo : FVec Ideal S1x2048x1024 .f32) (R : Fin 16384) (n : Fin 1024) :
    outOf x y wo (ix2 R n) = x (ix3 ⟨R.val / 4096, by omega⟩ ⟨R.val % 4096, by omega⟩ n) + ∑ k, y (ix3 ⟨R.val / 4096, by omega⟩ ⟨R.val % 4096, by omega⟩ k) * wo (ix3 0 k n) := by
  pointwise [outOf]

section
variable (x : FVec Ideal S4x4096x1024 .f32) (g : FVec Ideal S1x1024 .f32) (w : FVec Ideal S1x1024x6144 .f32) (lg lb : FVec Ideal S1x2048 .f32)
  (ws : FVec Ideal S1x16x128x128 .f32) (bs : FVec Ideal S1x16x128 .f32) (b : Fin 4) (s : Fin 4096) (k : Fin 2048)

/-- A token's first product, -/
def inner (o : Fin 6144) : EReal := Spec.proj (Spec.norm (fun k => x (ix3 b s k)) (fun k => g (ix2 0 k))) (fun k o => w (ix3 0 k o)) o

/-- and its three parts. -/
theorem partU_apply : partU (prod x g w) (ix3 b s k) = inner x g w b s (Spec.colU k) := by
  unfold inner; rw [← prod_apply]; pointwise [partU]
theorem partA_apply : partA (prod x g w) (ix3 b s k) = inner x g w b s (Spec.colA k) := by
  unfold inner; rw [← prod_apply]; pointwise [partA]
theorem partZ_apply : partZ (prod x g w) (ix3 b s k) = inner x g w b s (Spec.colZ k) := by
  unfold inner; rw [← prod_apply]; pointwise [partZ]

/-- A token's normed channels. -/
theorem chan_apply : scaledOf (unitOf (partA (prod x g w))) lg lb (ix3 b s k)
    = Spec.chan (fun i => x (ix3 b s i)) (fun k => g (ix2 0 k)) (fun k o => w (ix3 0 k o)) (fun k => lg (ix2 0 k)) (fun k => lb (ix2 0 k)) k := by
  rw [scaledOf_apply, show (fun i => unitOf (partA (prod x g w)) (ix3 b s i)) = fun i => Spec.gelu (inner x g w b s (Spec.colA i)) from
    funext fun i => by rw [unitOf_apply, partA_apply]]
  rfl

/-- Where its argument is real the gate is the one of the specification. -/
theorem gate_apply (hg : ∀ k, Spec.IsReal (g (ix2 0 k))) (hw : ∀ (k : Fin 1024) (o : Fin 2048), Spec.IsReal (w (ix3 0 k (Spec.colZ o)))) :
    gateOf (partZ (prod x g w)) (ix3 b s k) = Spec.silu (inner x g w b s (Spec.colZ k)) := by
  obtain ⟨z, hz⟩ : Spec.IsReal (inner x g w b s (Spec.colZ k)) :=
    Spec.proj_isReal (Spec.norm (fun k => x (ix3 b s k)) fun k => g (ix2 0 k)) (fun k o => w (ix3 0 k o)) (Spec.colZ k) (Spec.norm_isReal _ _ hg) fun i => hw i k
  rw [gateOf_apply, partZ_apply, hz, Spec.silu_coe]

/-- The product of the three factors. -/
theorem gatedOf_parts (p : FVec Ideal S4x4096x6144 .f32) :
    gatedOf p lg lb ws bs (ix3 b s k) = unitOf (partU p) (ix3 b s k) * mixedOf (scaledOf (unitOf (partA p)) lg lb) (maskedOf ws) bs (ix3 b s k) * gateOf (partZ p) (ix3 b s k) := rfl

/-- The gated channels of a token, where the gate's argument is real. -/
theorem gatedOf_apply (hg : ∀ k, Spec.IsReal (g (ix2 0 k))) (hw : ∀ (k : Fin 1024) (o : Fin 2048), Spec.IsReal (w (ix3 0 k (Spec.colZ o)))) :
    gatedOf (prod x g w) lg lb ws bs (ix3 b s k) = Spec.gated (fun j i => x (ix3 b ⟨128 * (s.val / 128) + j.val, by omega⟩ i)) (fun k => g (ix2 0 k)) (fun k o => w (ix3 0 k o))
      (fun k => lg (ix2 0 k)) (fun k => lb (ix2 0 k)) (Spec.masked fun n i j => ws (ix4 0 n i j)) (fun n i => bs (ix3 0 n i)) ⟨s.val % 128, by omega⟩ k := by
  have hs : (⟨128 * (s.val / 128) + s.val % 128, by omega⟩ : Fin 4096) = s := Fin.ext (Nat.div_add_mod _ _)
  rw [gatedOf_parts, gate_apply x g w b s k hg hw, unitOf_apply, partU_apply, mixedOf_apply,
    show inner x g w b s = inner x g w b ⟨128 * (s.val / 128) + s.val % 128, by omega⟩ from congrArg (inner x g w b) hs.symm]
  simp only [maskedOf_apply, chan_apply]
  unfold Spec.gated inner
  with_reducible rfl
end

/-- The reference's result, where the gate's argument is real. -/
theorem result_apply (x : FVec Ideal S4x4096x1024 .f32) (g : FVec Ideal S1x1024 .f32) (w : FVec Ideal S1x1024x6144 .f32) (lg lb : FVec Ideal S1x2048 .f32)
    (ws : FVec Ideal S1x16x128x128 .f32) (bs : FVec Ideal S1x16x128 .f32) (wo : FVec Ideal S1x2048x1024 .f32) (hg : ∀ k, Spec.IsReal (g (ix2 0 k))) (hw : ∀ (k : Fin 1024) (o : Fin 2048), Spec.IsReal (w (ix3 0 k (Spec.colZ o))))
    (R : Fin 16384) (n : Fin 1024) :
    outOf x (gatedOf (prod x g w) lg lb ws bs) wo (ix2 R n) = Spec.result (fun b s k => x (ix3 b s k)) (fun k => g (ix2 0 k)) (fun k o => w (ix3 0 k o)) (fun k => lg (ix2 0 k)) (fun k => lb (ix2 0 k))
      (fun n i j => ws (ix4 0 n i j)) (fun n i => bs (ix3 0 n i)) (fun k n => wo (ix3 0 k n)) R n := by
  rw [outOf_apply]
  unfold Spec.result Spec.out
  have hR : (⟨R.val % 4096 % 128, by omega⟩ : Fin 128) = ⟨R.val % 128, by omega⟩ := Fin.ext (by dsimp only; omega)
  refine congrArg₂ (· + ·) (congrArg (fun t => x (ix3 _ t n)) (Fin.ext (by dsimp only; omega))) (Finset.sum_congr rfl fun k _ => congrArg (· * _) ?_)
  rw [gatedOf_apply x g w lg lb ws bs _ _ _ hg hw]
  rw [hR]

end Cert.ReferenceIdeal.Mix

end
-- ==== Proof.Finite.lean ====
/- What the precondition says: the first norm's gain and the gate's columns of the first weight are real. -/
module

public import proofs.«01_k».proof.Defs
public import proofs.«01_k».proof.Proof.Spec
public import Idealize.ShloMosaic.Lib.ReduceAll
public import Idealize.ShloMosaic.Lib.Pipeline.ValueKit

@[expose] public section

set_option maxRecDepth 16384

noncomputable section

namespace Cert.Pre_gate_is_finite

open Idealize.ShloMosaic
open Cert

/-- The side conditions the predicate states. -/
instance facts : Facts where
  bcast_S_S1x1024 := by decide
  reducesTo_S1x1024_S_d0_1 := by decide
  h_S_ := by decide
  slices_S1x1024x6144_S1x1024x2048_0_0_4096 := by decide
  bcast_S_S1x1024x2048 := by decide
  reducesTo_S1x1024x2048_S_d0_1_2 := by decide

/-- The predicate's bound is the top element. -/
theorem bound_eq : Ideal.ofBits .f32 0x7F800000#32 = ⊤ := by
  simp [Ideal.ofBits, Ideal.ieee]

/-- An element whose absolute value is below the top element is real. -/
theorem isReal_of_lt (e : EReal) (h : max e (-e) < ⊤) : Spec.IsReal e := by
  refine ⟨e.toReal, (EReal.coe_toReal ?_ ?_).symm⟩ <;> intro he <;> rw [he] at h <;> simp at h

/-- As the predicate tests it. -/
theorem isReal_of_bit (e : EReal) (h : BitVec.ofBool (decide (max e (-e) < Ideal.ofBits .f32 0x7F800000#32)) = 1#1) : Spec.IsReal e := by
  rw [bound_eq] at h
  refine isReal_of_lt e (by_contra fun hn => ?_)
  rw [decide_eq_false hn] at h
  exact absurd h (by decide)

variable (x : FVec Ideal S4x4096x1024 .f32) (g : FVec Ideal S1x1024 .f32) (w : FVec Ideal S1x1024x6144 .f32) (lg lb : FVec Ideal S1x2048 .f32)
  (ws : FVec Ideal S1x16x128x128 .f32) (bs : FVec Ideal S1x16x128 .f32) (wo : FVec Ideal S1x2048x1024 .f32)

/-- Under the predicate every gain is real, and so is every entry of the gate's columns. -/
theorem real_of_fn (h : fn (F := Ideal) x g w lg lb ws bs wo = fun _ => 1#1) :
    (∀ k, Spec.IsReal (g (ix2 0 k))) ∧ ∀ (k : Fin 1024) (o : Fin 2048), Spec.IsReal (w (ix3 0 k (Spec.colZ o))) := by
  haveI : Subsingleton S_.Idx := ⟨fun _ _ => funext fun a => a.elim0⟩
  have h0 := congrFun h (fun a => a.elim0)
  obtain ⟨h1, h2⟩ := IntOp.andi_eq_one.1 h0
  constructor
  · intro k
    have := Host.reduce_andi_all _ _ _ _ _ h1 (ix2 0 k)
    exact isReal_of_bit (g (ix2 0 k)) this
  · intro k o
    have := Host.reduce_andi_all _ _ _ _ _ h2 (ix3 0 k o)
    rw [show w (ix3 0 k (Spec.colZ o)) = extractStridedSlice S1x1024x2048 ![0, 0, 4096] w Facts.slices_S1x1024x6144_S1x1024x2048_0_0_4096 (ix3 0 k o) by pointwise]
    exact isReal_of_bit _ this

end Cert.Pre_gate_is_finite

end
-- ==== Proof.Algebraic.lean ====
/- The algebraic claim: where the gate's argument is real the idealized kernel and the reference compute one function of the arguments, Proof/Spec.lean's. -/
module

public import proofs.«01_k».proof.Defs
public import proofs.«01_k».proof.Proof.Out
public import proofs.«01_k».proof.Proof.Ref
public import proofs.«01_k».proof.Proof.Finite

@[expose] public section

noncomputable section

namespace Cert.Proof

open Idealize.ShloMosaic Idealize.SL.Sem Idealize.ShloMosaic.TcCoe

/-- The reference's result is the kernel's array where the predicate holds of the arguments and the arguments agree. -/
theorem result_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_gate_is_finite.fn (F := Ideal) (Cert.KernelIdeal.Mix.argX m c) (Cert.KernelIdeal.Mix.argG m c) (Cert.KernelIdeal.Mix.argW m c) (Cert.KernelIdeal.Mix.argLg m c)
      (Cert.KernelIdeal.Mix.argLb m c) (Cert.KernelIdeal.Mix.argWs m c) (Cert.KernelIdeal.Mix.argBs m c) (Cert.KernelIdeal.Mix.argWo m c) = fun _ => 1#1)
    (h0 : Cert.ReferenceIdeal.Mix.argX m' c = Cert.KernelIdeal.Mix.argX m c) (h1 : Cert.ReferenceIdeal.Mix.argG m' c = Cert.KernelIdeal.Mix.argG m c)
    (h2 : Cert.ReferenceIdeal.Mix.argW m' c = Cert.KernelIdeal.Mix.argW m c) (h3 : Cert.ReferenceIdeal.Mix.argLg m' c = Cert.KernelIdeal.Mix.argLg m c)
    (h4 : Cert.ReferenceIdeal.Mix.argLb m' c = Cert.KernelIdeal.Mix.argLb m c) (h5 : Cert.ReferenceIdeal.Mix.argWs m' c = Cert.KernelIdeal.Mix.argWs m c)
    (h6 : Cert.ReferenceIdeal.Mix.argBs m' c = Cert.KernelIdeal.Mix.argBs m c) (h7 : Cert.ReferenceIdeal.Mix.argWo m' c = Cert.KernelIdeal.Mix.argWo m c) :
    Cert.ReferenceIdeal.Value.res_main_v96 m' c = (Cert.KernelIdeal.Mix.dats m 0 c).arrAt 6 Cert.KernelIdeal.cfg0.N := by
  obtain ⟨hg, hw⟩ := Cert.Pre_gate_is_finite.real_of_fn _ _ _ _ _ _ _ _ hp
  rw [Cert.KernelIdeal.Mix.array_eq, Cert.ReferenceIdeal.Mix.result_eq, h0, h1, h2, h3, h4, h5, h6, h7]
  funext y
  obtain ⟨R, n, rfl⟩ : ∃ (R : Fin 16384) (n : Fin 1024), y = ix2 R n := ⟨y 0, y 1, eq_ix2 y⟩
  exact Cert.ReferenceIdeal.Mix.result_apply _ _ _ _ _ _ _ _ hg hw R n

/-- The idealized kernel and the reference end with one result. -/
theorem algebraic : Cert.algebraic_KernelIdeal_ReferenceIdeal_pre_gate_is_finite := by
  intro m ρ m' ρ' hp ha
  refine ⟨fun c => (Cert.KernelIdeal.Mix.dats m 0 c).arrAt 6 Cert.KernelIdeal.cfg0.N,
    (θ_run Cert.KernelIdeal.defs _ _).mono (fun _ h => h.1) (Cert.KernelIdeal.Mix.frame (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7⟩ := ha c
  exact result_agrees m m' c (hp c) h0 h1 h2 h3 h4 h5 h6 h7

end Cert.Proof

end
-- ==== Proof.AttSetup.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- The host operations before the region, in order. -/
abbrev hostLists : List (List (HloOp τ sig (Elt F))) := [hostOps0, hostOps0_1, hostOps0_2]

/-- Core `c`'s TensorCore buffers when the region is entered: after the host operations (Launch.lean). -/
abbrev V (c : Dev nD) (b : Ref sig .tc) : Buf (Elt F) ((c : Thread nD τ).loc b) := StableHlo.after hostLists.flatten (fun b => m (c, b)) b

theorem host_sub : (hostLists : List (List (HloOp τ sig (Elt F)))).Forall fun ops => ops.Forall fun op => op.bufs ⊆ StableHlo.tcRefs τ sig :=
  ⟨hostOps0_sub, hostOps0_1_sub, hostOps0_2_sub⟩
theorem host_fresh : (hostLists : List (List (HloOp τ sig (Elt F)))).Forall fun ops => ops.Forall fun op => op.fresh = ∅ := by
  simp only [List.Forall]; repeat' constructor

set_option maxHeartbeats 800000 in
/-- @main up to the region, at the certificate's variants `𝒱₀`: the host operations then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main hostLists host_sub host_fresh main_chain

/-- A buffer no host operation writes: the region finds it as launched. -/
theorem V_of_ne (c : Dev nD) (b : Ref sig .tc)
    (h : ∀ y ∈ [main_v0, main_v1, main_c, main_call0_v0, main_call0_v1, main_call0_v2, main_call0_v3, main_call0_v4, main_call0_v5, main_call0_v6, main_call0_v7, main_call0_v8, main_call0_v9, main_call0_v10, main_call0_v11, main_call0_v12, main_v2, main_v3, main_v4, main_v5, main_v6, main_v7, main_v8], b ≠ y) :
    V m c b = m ((c : Thread nD τ).loc b) := by
  simp only [List.forall_mem_cons] at h
  refine StableHlo.after_of_forall_not_mem (b := Proc.devRef .tc b) _ _ (List.forall_iff_forall_mem.mp ?_)
  simp only [hostLists, hostOps0, hostOps0_1, hostOps0_2, List.flatten_cons, List.flatten_nil, List.append_nil, List.cons_append, List.nil_append, List.Forall]
  obtain ⟨h0, h1, h2, h3, h4, h5, h6, h7, h8, h9, h10, h11, h12, h13, h14, h15, h16, h17, h18, h19, h20, h21, h22, -⟩ := h
  refine ⟨?_, ?_, ?_, ?_, ?_, ?_, ?_, ?_, ?_, ?_, ?_, ?_, ?_, ?_, ?_, ?_, ?_, ?_, ?_, ?_, ?_, ?_, ?_⟩
  all_goals exact fun hm => StableHlo.devRef_ne_of_ne (by assumption) (Finset.mem_singleton.mp hm)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-! ## The body's branch conditions -/

/-- The condition of the body's `scf.if`s 0 and 2 (`k0_h1`, `k0_h3`), from the grid coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the body's `scf.if` 1 (`k0_h2`). -/
abbrev cond0_1 (i : grid0.Coords) : Prop := (Scalar.cmpi .ne (Scalar.extui (Scalar.cmpi .eq (BitVec.ofNat 32 (i 1).val) 0#32)) 0#32) = 1#1
theorem coord0 (t : Fin cfg0.N) : (grid0.coords t 0).val = t.val / 8 % 4 := Pipeline.Grid.coords_val t 0 (by decide) rfl
theorem coord1 (t : Fin cfg0.N) : (grid0.coords t 1).val = t.val / 1 % 8 := Pipeline.Grid.coords_val t 1 (by decide) rfl
/-- The first holds at the first point only, -/
theorem hcond0_0 (t : Fin cfg0.N) : cond0_0 (grid0.coords t) ↔ t.val = 0 := by
  have ht : t.val < 32 := Nat.lt_of_lt_of_eq t.isLt N_0
  simp only [cond0_0, coord0, coord1]
  generalize t.val = n at ht
  interval_cases n <;> decide
/-- and the second at each sequence's first point. -/
theorem hcond0_1 (t : Fin cfg0.N) : cond0_1 (grid0.coords t) ↔ t.val % 8 = 0 := by
  have ht : t.val < 32 := Nat.lt_of_lt_of_eq t.isLt N_0
  simp only [cond0_1, coord1]
  generalize t.val = n at ht
  interval_cases n <;> decide

/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x1024 .bf16 := Memref.whole cc0_scratch0
abbrev scM0_1 : Memref sig .tc .vmem S512x1024 .bf16 := Memref.whole cc0_scratch1
abbrev scM0_2 : Memref sig .tc .vmem S1024x1024 .bf16 := Memref.whole cc0_scratch2
abbrev scM0_3 : Memref sig .tc .vmem S1280x1024 .bf16 := Memref.whole cc0_scratch3
abbrev scM0_4 : Memref sig .tc .vmem S1024x512 .bf16 := Memref.whole cc0_scratch4
abbrev scM0_5 : Memref sig .tc .vmem S1024x512 .f32 := Memref.whole cc0_scratch5
abbrev scM0_6 : Memref sig .tc .vmem S1024x512 .bf16 := Memref.whole cc0_scratch6
abbrev scM0_7 : Memref sig .tc .vmem S4x640x512 .f32 := Memref.whole cc0_scratch7
abbrev scM0_8 : Memref sig .tc .vmem S1024x1024 .bf16 := Memref.whole cc0_scratch8
abbrev scM0_9 : Memref sig .tc .vmem S1024x1024 .bf16 := Memref.whole cc0_scratch9
abbrev scM0_10 : Memref sig .tc .vmem S1024x1024 .bf16 := Memref.whole cc0_scratch10
abbrev scM0_11 : Memref sig .tc .vmem S1024x1024 .bf16 := Memref.whole cc0_scratch11
abbrev scM0_12 : Memref sig .tc .vmem S1024x1024 .bf16 := Memref.whole cc0_scratch12
abbrev scM0_13 : Memref sig .tc .vmem S2x1024x512 .f32 := Memref.whole cc0_scratch13
/-- The operands left in HBM that the body copies into scratch itself, whole. -/
abbrev hbM0_0 : Memref sig .tc .hbm S1024x2048 .f32 := Memref.whole main_arg2
abbrev hbM0_1 : Memref sig .tc .hbm S1024x2048 .f32 := Memref.whole main_v6
abbrev hbM0_2 : Memref sig .tc .hbm S1024x1024 .f32 := Memref.whole main_v7
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 8, SemLoc.dma 9] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The HBM operands the body moves, as references: unscoped, no window's array (`Pipeline.restRefs`). -/
def H0 : Finset (Ref sig .tc) := {main_arg2, main_v6, main_v7}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_v6) ∗ hbPt0 c hbM0_2 (V m c main_v7)) := by
  rw [BI.bigSep_eq_bigSepL_of_eq [main_arg2, main_v6, main_v7] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, owns_whole]; try rfl

end Cert.Kernel2Ideal.Att

end
-- ==== Proof.AttBody.lean ====
module

public import proofs.«01_k».proof.Proof.AttSetup

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The body in parts: the first point's set-up, the beginning of a sequence, and the main part -/

/-- What the body does at the first point only, first: the bias table. -/
noncomputable def biasProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    Prog (TpuEff nD τ sig (Elt F) Λ₀ .tc) PUnit := do
  let ⟨v4658, v4683, v4685, v4704⟩ : Σ' (v4658 : IVec S128x128 32) (v4683 : IVec S128x128 32) (v4685 : IVec S128x128 32), IVec S128x128 1 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
  let ⟨v4714, v4741⟩ : Σ' (v4714 : IVec S128x128 1), Vec F S1x256 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4683 v4685 v4704
  let ⟨v4776, v4777⟩ : Σ' (v4776 : FVec F S128x128 .f32), Vec F S1x128x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4714 v4741
  let ⟨v4813, cst_961⟩ : Σ' (v4813 : FVec F S128x128 .f32), F .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4714 v4776 v4777
  let ⟨v4848, c0_i32_980⟩ : Σ' (v4848 : FVec F S128x256 .f32), BitVec 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4714 v4813 cst_961
  k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4714 v4848 c0_i32_980
  let v4919 : FVec F S128x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4714
  let ⟨v4953, v4963⟩ : Σ' (v4953 : IVec S128x128 1), FVec F S128x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4658 v4683 v4919
  let v4998 : FVec F S128x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4953 v4963
  let v5032 : Vec F S1x256 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4953 v4998
  let ⟨v5067, v5068⟩ : Σ' (v5067 : FVec F S128x128 .f32), Vec F S1x128x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4953 v5032
  let ⟨v5104, cst_1122⟩ : Σ' (v5104 : FVec F S128x128 .f32), F .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4953 v5067 v5068
  let ⟨v5139, c0_i32_1144⟩ : Σ' (v5139 : FVec F S128x256 .f32), BitVec 32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4953 v5104 cst_1122
  let ⟨v5163, v5177, v5179⟩ : Σ' (v5163 : IVec S128x128 32) (v5177 : IVec S128x128 1), IVec S128x128 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4658 v4953 v5139 c0_i32_1144
  let ⟨v5192, v5218⟩ : Σ' (v5192 : IVec S128x128 1), FVec F S1x128x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4683 v5163 v5177 v5179
  let v5254 : FVec F S128x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5192 v5218
  let v5289 : FVec F S128x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5192 v5254
  let v5323 : Vec F S1x256 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5192 v5289
  let ⟨v5358, v5359⟩ : Σ' (v5358 : FVec F S128x128 .f32), Vec F S1x128x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5192 v5323
  let ⟨v5395, cst_1290⟩ : Σ' (v5395 : FVec F S128x128 .f32), F .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5192 v5358 v5359
  let ⟨v5431, v5437, v5438⟩ : Σ' (v5431 : IVec S128x128 1) (v5437 : FVec F S128x128 .f32), FVec F S128x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4658 v4683 v5192 v5395 cst_1290
  let v5473 : FVec F S1x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5431 v5437 v5438
  let v5509 : FVec F S1x128x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5431 v5473
  let v5545 : FVec F S128x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5431 v5509
  let v5580 : FVec F S128x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5431 v5545
  let v5614 : Vec F S1x256 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5431 v5580
  let ⟨c64_i32_1430, v5641, v5648, v5653⟩ : Σ' (c64_i32_1430 : BitVec 32) (v5641 : IVec S128x128 32) (v5648 : IVec S128x128 32), BitVec 32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4658 v5431 v5614
  let ⟨v5670, v5693⟩ : Σ' (v5670 : IVec S128x128 1), FVec F S128x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4658 v4683 c64_i32_1430 v5641 v5648 v5653
  let ⟨v5728, v5729⟩ : Σ' (v5728 : FVec F S128x128 .f32), FVec F S128x128 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5670 v5693
  let v5764 : FVec F S1x256 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5670 v5728 v5729
  let v5800 : FVec F S1x128x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5670 v5764
  let v5836 : FVec F S128x128 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5670 v5800
  let v5871 : FVec F S128x128 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5670 v5836
  let v5876 : Vec F S1x128x128 .f32 ← Prog.lift (.load arg18 (Rect.unit (s := S4x640x512) ![3, 512, 384] S1x128x128.size inb_S4x640x512_S1x128x128_3_512_384).toLoadRect (View.loadsAt_vmem h_S1x128x128))
  Prog.lift (.store arg18 (Rect.unit (s := S4x640x512) ![3, 512, 384] S1x128x128.size inb_S4x640x512_S1x128x128_3_512_384) (k0_pay119 v5670 v5871) Finset.univ (View.stores_vmem_bits_univ h_S1x128x128 rfl) (.inl rfl))
  pure ⟨⟩

/-- Then: the weights copied in through the staging buffer, scaled, transposed and converted block by block. -/
noncomputable def streamProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    Prog (TpuEff nD τ sig (Elt F) Λ₀ .tc) PUnit := do
  let v5879 : DmaSems sig S1 := arg25.slice (Rect.unit (s := S2) ![0] S1.size inb_S2_S1_0)
  let v5880 : DmaSems sig S_ := v5879.squeeze S_ squeezes_S1_S_
  let v5881 : Memref sig .tc .vmem S1x1024x512 .f32 := arg24.slice (Rect.unit (s := S2x1024x512) ![0, 0, 0] S1x1024x512.size inb_S2x1024x512_S1x1024x512_0_0_0) (fun _ => rfl)
  let v5882 : Memref sig .tc .vmem S1024x512 .f32 := v5881.squeeze S1024x512 squeezes_S1x1024x512_S1024x512
  let v5883 : Memref sig .tc .hbm S1024x512 .f32 := arg5.slice (Rect.unit (s := S1024x2048) ![0, 0] S1024x512.size inb_S1024x2048_S1024x512_0_0) (fun _ => rfl)
  Prog.lift (.enqueueDma v5883 (.here v5882) (.dma v5880.sem) (View.wordExact_bits rfl) ((View.wordExact_bits rfl).reshape _ _) ⟨Or.inl rfl, trivial⟩)
  let v5884 : DmaSems sig S1 := arg25.slice (Rect.unit (s := S2) ![1] S1.size inb_S2_S1_1)
  let v5885 : DmaSems sig S_ := v5884.squeeze S_ squeezes_S1_S_
  let v5886 : Memref sig .tc .vmem S1x1024x512 .f32 := arg24.slice (Rect.unit (s := S2x1024x512) ![1, 0, 0] S1x1024x512.size inb_S2x1024x512_S1x1024x512_1_0_0) (fun _ => rfl)
  let v5887 : Memref sig .tc .vmem S1024x512 .f32 := v5886.squeeze S1024x512 squeezes_S1x1024x512_S1024x512
  let v5888 : Memref sig .tc .hbm S1024x512 .f32 := arg5.slice (Rect.unit (s := S1024x2048) ![0, 512] S1024x512.size inb_S1024x2048_S1024x512_0_512) (fun _ => rfl)
  Prog.lift (.enqueueDma v5888 (.here v5887) (.dma v5885.sem) (View.wordExact_bits rfl) ((View.wordExact_bits rfl).reshape _ _) ⟨Or.inl rfl, trivial⟩)
  let v5889 : DmaSems sig S1 := arg25.slice (Rect.unit (s := S2) ![0] S1.size inb_S2_S1_0)
  let v5890 : DmaSems sig S_ := v5889.squeeze S_ squeezes_S1_S_
  let v5891 : Memref sig .tc .vmem S1x1024x512 .f32 := arg24.slice (Rect.unit (s := S2x1024x512) ![0, 0, 0] S1x1024x512.size inb_S2x1024x512_S1x1024x512_0_0_0) (fun _ => rfl)
  let v5892 : Memref sig .tc .vmem S1024x512 .f32 := v5891.squeeze S1024x512 squeezes_S1x1024x512_S1024x512
  let v5893 : Memref sig .tc .hbm S1024x512 .f32 := arg5.slice (Rect.unit (s := S1024x2048) ![0, 0] S1024x512.size inb_S1024x2048_S1024x512_0_0) (fun _ => rfl)
  Prog.lift (.waitDma2 v5890.sem v5893 v5892 (View.wordExact_bits rfl) ((View.wordExact_bits rfl).reshape _ _))
  let v5894 : Vec F S1x1024x512 .f32 ← Prog.lift (.load arg24 (Rect.unit (s := S2x1024x512) ![0, 0, 0] S1x1024x512.size inb_S2x1024x512_S1x1024x512_0_0_0).toLoadRect (View.loadsAt_vmem h_S1x1024x512))
  let v5896 : Vec F S1024x1 .f32 ← Prog.lift (.load arg3 (Rect.unit (s := S1024x1) ![0, 0] S1024x1.size inb_S1024x1_S1024x1_0_0).toLoadRect (View.loadsAt_vmem h_S1024x1))
  let v5899 : FVec F S1024x512 .f32 := (k0_pay120 v5894 v5896)
  k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5899
  let v5955 : Vec F S1x1024x512 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
  k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v5955
  k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
  let v6045 : FVec F S1024x512 .bf16 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
  let v6072 : FVec F S1024x512 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v6045
  let v6074 : Vec F S1024x512 .bf16 ← Prog.lift (.load arg23 (Rect.unit (s := S1024x1024) ![0, 512] S1024x512.size inb_S1024x1024_S1024x512_0_512).toLoadRect (View.loadsAt_vmem h_S1024x512))
  Prog.lift (.store arg23 (Rect.unit (s := S1024x1024) ![0, 512] S1024x512.size inb_S1024x1024_S1024x512_0_512) (k0_pay148 v6072) Finset.univ (View.stores_vmem h_S1024x512 (harg23.storeExact_slice rfl _ packedbf16_S1024x1024_S1024x512_0_512) (fun _ => rfl)) (.inl rfl))
  pure ⟨⟩

/-- What the body does at the first point of each sequence: the history cleared. -/
noncomputable def zeroProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    Prog (TpuEff nD τ sig (Elt F) Λ₀ .tc) PUnit := do
  let v4659 : Vec F S512x1024 .bf16 ← Prog.lift (.load arg13 (Rect.unit (s := S1024x1024) ![0, 0] S512x1024.size inb_S1024x1024_S512x1024_0_0).toLoadRect (View.loadsAt_vmem h_S512x1024))
  Prog.lift (.store arg13 (Rect.unit (s := S1024x1024) ![0, 0] S512x1024.size inb_S1024x1024_S512x1024_0_0) (k0_pay149 (F := F)) Finset.univ (View.stores_vmem h_S512x1024 (harg13.storeExact_slice rfl _ packedbf16_S1024x1024_S512x1024_0_0) (fun _ => rfl)) (.inl rfl))
  let v4663 : Vec F S1280x512 .bf16 ← Prog.lift (.load arg14 (Rect.unit (s := S1280x1024) ![0, 0] S1280x512.size inb_S1280x1024_S1280x512_0_0).toLoadRect (View.loadsAt_vmem h_S1280x512))
  Prog.lift (.store arg14 (Rect.unit (s := S1280x1024) ![0, 0] S1280x512.size inb_S1280x1024_S1280x512_0_0) (k0_pay150 (F := F)) Finset.univ (View.stores_vmem h_S1280x512 (harg14.storeExact_slice rfl _ packedbf16_S1280x1024_S1280x512_0_0) (fun _ => rfl)) (.inl rfl))
  pure ⟨⟩

/-- What the body does last at the first point only: the rows of ones. -/
noncomputable def onesProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    Prog (TpuEff nD τ sig (Elt F) Λ₀ .tc) PUnit := do
  let v4686 : FVec F S16x1024 .bf16 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
  k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 v4686
  let v4719 : Vec F S16x1024 .bf16 ← Prog.lift (.load arg14 (Rect.unit (s := S1280x1024) ![1264, 0] S16x1024.size inb_S1280x1024_S16x1024_1264_0).toLoadRect (View.loadsAt_vmem h_S16x1024))
  Prog.lift (.store arg14 (Rect.unit (s := S1280x1024) ![1264, 0] S16x1024.size inb_S1280x1024_S16x1024_1264_0) (k0_pay151 (F := F)) Finset.univ (View.stores_vmem h_S16x1024 (harg14.storeExact_slice rfl _ packedbf16_S1280x1024_S16x1024_1264_0) (fun _ => rfl)) (.inl rfl))
  pure ⟨⟩

/-- The beginning of the main part: the rows normed. -/
noncomputable def headProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    Prog (TpuEff nD τ sig (Elt F) Λ₀ .tc) (Σ' (v30 : F .f32) (v31 : IVec S256x128 32) (c64_i32 : BitVec 32) (v33 : IVec S256x128 32), BitVec 32) := do
  let v13 : Vec F S512x1024 .f32 ← Prog.lift (.load arg2 (Rect.unit (s := S512x1024) ![0, 0] S512x1024.size inb_S512x1024_S512x1024_0_0).toLoadRect (View.loadsAt_vmem h_S512x1024))
  let v26 : Vec F S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay152 v13) Finset.univ (View.stores_vmem h_S512x1024 (harg11.storeExact_slice rfl _ packedbf16_S512x1024_S512x1024_0_0) (fun _ => rfl)) (.inl rfl))
  have v31 : IVec S256x128 32 := iota .tc S256x128 32 [0] iota_S256x128_d0_w32
  pure ⟨k0_pay153 (F := F) i, v31, 64#32, k0_pay154, 0#32⟩

/-- The main part's first half past its beginning, as the body has it. -/
noncomputable def restHalf (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    { K : (Σ' (v30 : F .f32) (v31 : IVec S256x128 32) (c64_i32 : BitVec 32) (v33 : IVec S256x128 32), BitVec 32) → Prog (TpuEff nD τ sig (Elt F) Λ₀ .tc) (Σ' (v30 : F .f32) (v55 : IVec S256x128 32) (v2712 : FVec F S640x512 .f32) (v2916 : FVec F S640x512 .bf16) (v2932 : Vec F S80x640 .bf16) (v2933 : FVec F S640x128 .bf16), FVec F S80x128 .f32) // k0_part137_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 = k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= K } := ⟨_, rfl⟩

/-- Its second half. -/
noncomputable def lastHalf (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    { K : (Σ' (v30 : F .f32) (v55 : IVec S256x128 32) (v2712 : FVec F S640x512 .f32) (v2916 : FVec F S640x512 .bf16) (v2932 : Vec F S80x640 .bf16) (v2933 : FVec F S640x128 .bf16), FVec F S80x128 .f32) → Prog (TpuEff nD τ sig (Elt F) Λ₀ .tc) PUnit // cc0_layer_b_attention_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 = k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= K } := ⟨_, rfl⟩

/-- The first half past its beginning, as a program. -/
noncomputable def restProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) : (Σ' (v30 : F .f32) (v31 : IVec S256x128 32) (c64_i32 : BitVec 32) (v33 : IVec S256x128 32), BitVec 32) → Prog (TpuEff nD τ sig (Elt F) Λ₀ .tc) (Σ' (v30 : F .f32) (v55 : IVec S256x128 32) (v2712 : FVec F S640x512 .f32) (v2916 : FVec F S640x512 .bf16) (v2932 : Vec F S80x640 .bf16) (v2933 : FVec F S640x128 .bf16), FVec F S80x128 .f32) := (restHalf i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25).1

/-- The second half, as a program. -/
noncomputable def lastProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) : (Σ' (v30 : F .f32) (v55 : IVec S256x128 32) (v2712 : FVec F S640x512 .f32) (v2916 : FVec F S640x512 .bf16) (v2932 : Vec F S80x640 .bf16) (v2933 : FVec F S640x128 .bf16), FVec F S80x128 .f32) → Prog (TpuEff nD τ sig (Elt F) Λ₀ .tc) PUnit := (lastHalf i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25).1

/-- The main part. -/
noncomputable def mainProg (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) : Prog (TpuEff nD τ sig (Elt F) Λ₀ .tc) PUnit :=
  headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= restProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= lastProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25

theorem body_eq (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    cc0_layer_b_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 = k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= restProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= lastProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 := by
  rw [cc0_layer_b_attention_eq_skeleton]
  refine (lastHalf i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25).2.trans (congrArg (· >>= lastProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25) ?_)
  rw [k0_part137_eq_skeleton]
  exact (restHalf i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25).2

/-- The body at a point within a sequence. -/
theorem body_within (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) (h0 : ¬cond0_0 i) (h1 : ¬cond0_1 i) :
    cc0_layer_b_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 = mainProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 := by
  rw [body_eq, k0_part43_eq_skeleton]
  unfold mainProg headProg k0_part43_skel
  dsimp only
  rw [dif_neg h0, dif_neg h1, dif_neg h0]

/-- The body at the first point of a sequence past the first. -/
theorem body_begin (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) (h0 : ¬cond0_0 i) (h1 : cond0_1 i) :
    cc0_layer_b_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 = zeroProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= fun _ => mainProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 := by
  rw [body_eq, k0_part43_eq_skeleton]
  unfold mainProg headProg k0_part43_skel zeroProg
  dsimp only
  rw [dif_neg h0, dif_pos h1, dif_neg h0]
  simp only [bind_assoc, pure_bind]

/-- The body at the first point. -/
theorem body_first (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) (h0 : cond0_0 i) (h1 : cond0_1 i) :
    cc0_layer_b_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 = biasProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= fun _ => streamProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= fun _ => zeroProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= fun _ => onesProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 >>= fun _ => mainProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 := by
  rw [body_eq, k0_part43_eq_skeleton]
  unfold mainProg headProg k0_part43_skel zeroProg biasProg streamProg onesProg
  simp only [k0_part34_eq_skeleton]
  unfold k0_part34_skel
  dsimp only
  rw [dif_pos h0, dif_pos h1, dif_pos h0]
  simp only [bind_assoc, pure_bind]

end Cert.Kernel2Ideal.Att

end
-- ==== Proof.AttMain.lean ====
module

public import proofs.«01_k».proof.Proof.AttBody

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The main part's run -/

/-- The history's rows of the keys, as one piece. -/
def histK (hk : Vec F S512x1024 .bf16) : View.Piece (Elt F) S1024x1024 .bf16 :=
  ⟨Rect.unit (s := S1024x1024) ![0, 0] S512x1024.size inb_S1024x1024_S512x1024_0_0, hk⟩

/-- The history's columns of the values, as one piece. -/
def histV (hv : Vec F S1280x512 .bf16) : View.Piece (Elt F) S1280x1024 .bf16 :=
  ⟨Rect.unit (s := S1280x1024) ![0, 0] S1280x512.size inb_S1280x1024_S1280x512_0_0, hv⟩

theorem fits_ones (h : Fin 16) : ∀ a, (![80 * h.val + 64, 512] : Fin 2 → ℕ) a + (![16, 512] : Fin 2 → ℕ) a ≤ S1280x1024.size a := fun a => by
  match a with
  | 0 => show 80 * h.val + 64 + 16 ≤ 1280; omega
  | 1 => show 512 + 512 ≤ 1024; omega

/-- One head's rows of ones, beside its new values. -/
def onesPiece (h : Fin 16) : View.Piece (Elt F) S1280x1024 .bf16 :=
  ⟨Rect.unit (s := S1280x1024) ![80 * h.val + 64, 512] ![16, 512] (fits_ones h), fun _ => Scalar.ofBits .bf16 0x3F80#16⟩

/-- All heads' rows of ones. -/
def ones : List (View.Piece (Elt F) S1280x1024 .bf16) := [15, 14, 13, 12, 11, 10, 9, 8, 7, 6, 5, 4, 3, 2, 1, 0].map onesPiece

-- (the run's proof term is large: the definition's epilogue walks it past the default budget)
set_option maxHeartbeats 4000000 in
/-- The main part, on the carried tables and the carried history: the pieces it leaves in the output block, in the keys
    and in the values, and its triple. -/
noncomputable def mainRun (c : Dev nD) (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2)
    (x0 : Vec F S512x1024 .f32) (x4 : Vec F S1x1024 .f32) (hk : Vec F S512x1024 .bf16) (hv : Vec F S1280x512 .bf16) (xs7 : Vec F S4x640x512 .f32) (xs8 : Vec F S1024x1024 .bf16) (xs9 : Vec F S1024x1024 .bf16) (xs10 : Vec F S1024x1024 .bf16) (xs11 : Vec F S1024x1024 .bf16) (xs12 : Vec F S1024x1024 .bf16) :
    { p : List (View.Piece (Elt F) S512x1024 .f32) × List (View.Piece (Elt F) S1024x1024 .bf16) × List (View.Piece (Elt F) S1280x1024 .bf16) //
      ∀ (W : Waits sig Unit) (K : PUnit → sProp 𝕄),
        iprop(owns (c : Thread nD τ) arg2 fullShare x0 ∗ owns (c : Thread nD τ) arg9 fullShare x4 ∗ (∃ d, owns (c : Thread nD τ) arg10 fullShare d) ∗ (∃ d, owns (c : Thread nD τ) arg11 fullShare d) ∗ (∃ f, arg13.view.loc (c : Thread nD τ) ↦[arg13.view.set]{fullShare} arg13.view.writes (Elt F) f [histK hk]) ∗ (∃ f, arg14.view.loc (c : Thread nD τ) ↦[arg14.view.set]{fullShare} arg14.view.writes (Elt F) f (histV hv :: ones)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs7 ∗ owns (c : Thread nD τ) arg19 fullShare xs8 ∗ owns (c : Thread nD τ) arg20 fullShare xs9 ∗ owns (c : Thread nD τ) arg21 fullShare xs10 ∗ owns (c : Thread nD τ) arg22 fullShare xs11 ∗ owns (c : Thread nD τ) arg23 fullShare xs12 ∗ owes (c : Thread nD τ) 0 W
            ∗ (iprop(owns (c : Thread nD τ) arg2 fullShare x0 ∗ owns (c : Thread nD τ) arg9 fullShare x4 ∗ (∃ f, arg10.view.loc (c : Thread nD τ) ↦[arg10.view.set]{fullShare} arg10.view.writes (Elt F) f p.1) ∗ (∃ d, owns (c : Thread nD τ) arg11 fullShare d) ∗ (∃ f, arg13.view.loc (c : Thread nD τ) ↦[arg13.view.set]{fullShare} arg13.view.writes (Elt F) f p.2.1) ∗ (∃ f, arg14.view.loc (c : Thread nD τ) ↦[arg14.view.set]{fullShare} arg14.view.writes (Elt F) f p.2.2) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs7 ∗ owns (c : Thread nD τ) arg19 fullShare xs8 ∗ owns (c : Thread nD τ) arg20 fullShare xs9 ∗ owns (c : Thread nD τ) arg21 fullShare xs10 ∗ owns (c : Thread nD τ) arg22 fullShare xs11 ∗ owns (c : Thread nD τ) arg23 fullShare xs12 ∗ (∃ W', owes (c : Thread nD τ) 0 W')) -∗ K ⟨⟩))
          ⊢ wp frame (wpE (defs₀ (F := F)) Variants.none c none) Set.univ (mainProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25) K } := by
  refine ⟨⟨?_, ?_, ?_⟩, fun W K => ?run⟩
  case run =>
    unfold mainProg restProg lastProg headProg restHalf lastHalf
    dsimp only
    simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton]
    unfold owns ones histK histV
    simp only [List.map]
    iintro ⟨⟨%f2, %hf2, H2⟩, ⟨%f9, %hf9, H9⟩, ⟨%d10, %f10, -, H10⟩, ⟨%d11, %f11, -, H11⟩, ⟨%f13, H13⟩, ⟨%f14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%f22, %hf22, H22⟩, ⟨%f23, %hf23, H23⟩, HW, Hk⟩
    obtain rfl := harg2.eq_unread hf2; obtain rfl := harg9.eq_unread hf9; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec
    sl_step
    iapply Hk
    isplitl [H2]
    · iexists _; isplitr; · ipureintro; exact harg2.read_unread _
      iexact H2
    isplitl [H9]
    · iexists _; isplitr; · ipureintro; exact harg9.read_unread _
      iexact H9
    isplitl [H10]; · iexists _; iexact H10
    isplitl [H11]
    · iexists _, _; isplitr; swap; · iexact H11
      ipureintro; rfl
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    iexists _; iexact HW

end Cert.Kernel2Ideal.Att

end
-- ==== Proof.AttStages.lean ====
module

public import proofs.«01_k».proof.Proof.AttMain

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem fits_knew (g : Fin 4) : ∀ k, (![512, 256 * g.val] : Fin 2 → ℕ) k + S512x256.size k ≤ S1024x1024.size k
  | 0 => by show 512 + 512 ≤ 1024; omega
  | 1 => by show 256 * g.val + 256 ≤ 1024; omega
theorem fits_cols (g : Fin 4) : ∀ k, (![0, 256 * g.val] : Fin 2 → ℕ) k + S1024x256.size k ≤ S1024x1024.size k
  | 0 => by show 0 + 1024 ≤ 1024; omega
  | 1 => by show 256 * g.val + 256 ≤ 1024; omega
theorem fits_rows (g : Fin 4) : ∀ k, (![256 * g.val, 0] : Fin 2 → ℕ) k + S256x1024.size k ≤ S1024x1024.size k
  | 0 => by show 256 * g.val + 256 ≤ 1024; omega
  | 1 => by show 0 + 1024 ≤ 1024; omega
theorem fits_group (g : Fin 4) : ∀ k, (![256 * g.val, 0] : Fin 2 → ℕ) k + S256x512.size k ≤ S1024x512.size k
  | 0 => by show 256 * g.val + 256 ≤ 1024; omega
  | 1 => by show 0 + 512 ≤ 512; omega
theorem fits_head (g a : Fin 4) : ∀ k, (![80 * (4 * g.val + a.val), 512] : Fin 2 → ℕ) k + S64x512.size k ≤ S1280x1024.size k
  | 0 => by show 80 * (4 * g.val + a.val) + 64 ≤ 1280; omega
  | 1 => by show 512 + 512 ≤ 1024; omega
theorem fits_part (a : Fin 4) : ∀ k, (![64 * a.val, 0] : Fin 2 → ℕ) k + S64x512.size k ≤ S256x512.size k
  | 0 => by show 64 * a.val + 64 ≤ 256; omega
  | 1 => by show 0 + 512 ≤ 512; omega
theorem fits_keys (j g : Fin 4) : ∀ k, (![128 * j.val, 256 * g.val] : Fin 2 → ℕ) k + S640x256.size k ≤ S1024x1024.size k
  | 0 => by show 128 * j.val + 640 ≤ 1024; omega
  | 1 => by show 256 * g.val + 256 ≤ 1024; omega
theorem fits_queries (j g : Fin 4) : ∀ k, (![256 * g.val, 128 * j.val] : Fin 2 → ℕ) k + S256x128.size k ≤ S1024x512.size k
  | 0 => by show 256 * g.val + 256 ≤ 1024; omega
  | 1 => by show 128 * j.val + 128 ≤ 512; omega
theorem fits_bias (g : Fin 4) : ∀ k, (![g.val, 0, 0] : Fin 3 → ℕ) k + S1x640x512.size k ≤ S4x640x512.size k
  | 0 => by show g.val + 1 ≤ 4; omega
  | 1 => by show 0 + 640 ≤ 640; omega
  | 2 => by show 0 + 512 ≤ 512; omega
theorem fits_values (j g a : Fin 4) : ∀ k, (![80 * (4 * g.val + a.val), 128 * j.val] : Fin 2 → ℕ) k + S80x640.size k ≤ S1280x1024.size k
  | 0 => by show 80 * (4 * g.val + a.val) + 80 ≤ 1280; omega
  | 1 => by show 128 * j.val + 640 ≤ 1024; omega
theorem fits_gate (j g a : Fin 4) : ∀ k, (![64 * (4 * g.val + a.val), 128 * j.val] : Fin 2 → ℕ) k + S64x128.size k ≤ S1024x512.size k
  | 0 => by show 64 * (4 * g.val + a.val) + 64 ≤ 1024; omega
  | 1 => by show 128 * j.val + 128 ≤ 512; omega
theorem fits_block (b : Fin 5) : ∀ k, (![128 * b.val, 0] : Fin 2 → ℕ) k + S128x512.size k ≤ S640x512.size k
  | 0 => by show 128 * b.val + 128 ≤ 640; omega
  | 1 => by show 0 + 512 ≤ 512; omega
theorem fits_eight (r : Fin 16) : ∀ k, (![8 * r.val, 0] : Fin 2 → ℕ) k + S8x512.size k ≤ S128x512.size k
  | 0 => by show 8 * r.val + 8 ≤ 128; omega
  | 1 => by show 0 + 512 ≤ 512; omega
theorem fits_lanes (a : Fin 4) : ∀ k, (![0, 128 * a.val] : Fin 2 → ℕ) k + S640x128.size k ≤ S640x512.size k
  | 0 => by show 0 + 640 ≤ 640; omega
  | 1 => by show 128 * a.val + 128 ≤ 512; omega

/-- Four groups' rows of heads, by head. -/
def headRows (a : Fin 4) (v : FVec F S256x512 .bf16) : FVec F S64x512 .bf16 :=
  shapeCast S64x512 (extractStridedSlice S64x512 ![64 * a.val, 0] v ⟨rfl, fits_part a⟩) shapeCasts_S64x512_S64x512

/-- A block of 128 of the scores' rows. -/
def block (s : FVec F S640x512 .f32) (b : Fin 5) : FVec F S128x512 .f32 := extractStridedSlice S128x512 ![128 * b.val, 0] s ⟨rfl, fits_block b⟩
/-- Eight of a block's rows. -/
def eight (v : FVec F S128x512 .f32) (r : Fin 16) : FVec F S8x512 .f32 := extractStridedSlice S8x512 ![8 * r.val, 0] v ⟨rfl, fits_eight r⟩
/-- Sixteen blocks of eight rows folded into one by the greater of each two. -/
def fold (v : FVec F S128x512 .f32) : FVec F S8x512 .f32 :=
  maximumf
    (maximumf (maximumf (maximumf (eight v 0) (eight v 1)) (maximumf (eight v 2) (eight v 3))) (maximumf (maximumf (eight v 4) (eight v 5)) (maximumf (eight v 6) (eight v 7))))
    (maximumf (maximumf (maximumf (eight v 8) (eight v 9)) (maximumf (eight v 10) (eight v 11))) (maximumf (maximumf (eight v 12) (eight v 13)) (maximumf (eight v 14) (eight v 15))))

/-- Whether a block of a pair's window lies in the history. -/
def early (j : Fin 4) (b : Fin 5) : Bool := decide (j.val + b.val < 4)
/-- A folded block, with the penalty if it lies in the history. -/
def folded (pen : F .f32) (s : FVec F S640x512 .f32) (j : Fin 4) (b : Fin 5) : FVec F S8x512 .f32 :=
  bif early j b then addf (fold (block s b)) (broadcast S8x512 pen) else fold (block s b)
/-- The greatest score of each query. -/
def top (pen : F .f32) (s : FVec F S640x512 .f32) (j : Fin 4) : FVec F S1x512 .f32 :=
  shapeCast S1x512 (multiReduction .maximumf [0] S512
    (maximumf (maximumf (maximumf (maximumf (folded pen s j 0) (folded pen s j 1)) (folded pen s j 2)) (folded pen s j 3)) (folded pen s j 4))
    0xFF800000#32 reduces_S8x512_S512 (.inl rfl) rfl) shapeCasts_S512_S1x512
/-- What a block's scores are measured from. -/
def origin (pen : F .f32) (s : FVec F S640x512 .f32) (j : Fin 4) (b : Fin 5) : FVec F S1x512 .f32 :=
  bif early j b then subf (top pen s j) (broadcast S1x512 pen) else top pen s j
/-- A block's weights, before they are divided by their sum. -/
def weights (pen : F .f32) (s : FVec F S640x512 .f32) (j : Fin 4) (b : Fin 5) : FVec F S128x512 .bf16 :=
  truncf .bf16 (exp2 (subf (block s b) (broadcastTo S128x512 (origin pen s j b) broadcasts_S1x512_S128x512))) bitsLt_bf16_f32
/-- The weights of a pair's window. -/
def window (pen : F .f32) (s : FVec F S640x512 .f32) (j : Fin 4) : FVec F S640x512 .bf16 :=
  concatenate S640x512 0 [⟨S128x512, weights pen s j 0⟩, ⟨S128x512, weights pen s j 1⟩, ⟨S128x512, weights pen s j 2⟩, ⟨S128x512, weights pen s j 3⟩, ⟨S128x512, weights pen s j 4⟩]
    concatenates_S128x512_S128x512_S128x512_S128x512_S128x512_S640x512_d0
/-- The weighted values and the weights' sum. -/
def weighed (p : FVec F S640x512 .bf16) (a : Fin 4) (vt : FVec F S80x640 .bf16) : FVec F S80x128 .f32 :=
  matmul dot_S80x640_S640x128_S80x128_1_0_0_1_n_n none vt (extractStridedSlice S640x128 ![0, 128 * a.val] p ⟨rfl, fits_lanes a⟩) (constant S80x128 .f32 0x00000000#32)
/-- A head's gated output. -/
def headOut (p : FVec F S640x512 .bf16) (a : Fin 4) (vt : FVec F S80x640 .bf16) (z : FVec F S64x128 .f32) : FVec F S64x128 .bf16 :=
  shapeCast S64x128 (truncf .bf16 (mulf (mulf (extractStridedSlice S64x128 ![0, 0] (weighed p a vt) slices_S80x128_o0_0_S64x128)
    (broadcastTo S64x128 (divf (broadcast S1x128 (Scalar.ofBits .f32 0x3F800000#32)) (extractStridedSlice S1x128 ![64, 0] (weighed p a vt) slices_S80x128_o64_0_S1x128)) broadcasts_S1x128_S64x128)) z) bitsLt_bf16_f32)
    shapeCasts_S64x128_S64x128

section
variable (i : grid0.Coords) (arg2 : Memref sig .tc .vmem S512x1024 .f32) (harg2 : arg2.IsWhole) (arg9 : Memref sig .tc .vmem S1x1024 .f32) (harg9 : arg9.IsWhole) (arg11 : Memref sig .tc .vmem S512x1024 .bf16) (arg13 : Memref sig .tc .vmem S1024x1024 .bf16) (arg14 : Memref sig .tc .vmem S1280x1024 .bf16) (arg15 : Memref sig .tc .vmem S1024x512 .bf16) (arg16 : Memref sig .tc .vmem S1024x512 .f32) (arg17 : Memref sig .tc .vmem S1024x512 .bf16) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole)
  (x0 : Vec F S512x1024 .f32) (x4 : Vec F S1x1024 .f32) (hk : Vec F S512x1024 .bf16) (hv : Vec F S1280x512 .bf16) (xs7 : Vec F S4x640x512 .f32) (xs8 xs9 xs10 xs11 xs12 : Vec F S1024x1024 .bf16)

/-- The block's rows, normed. -/
def normed : Vec F S512x1024 .bf16 := mainRun.sl.v56 arg2 harg2 arg11 x0
/-- A group's columns of the carried weight of the keys. -/
def colsAt (g : Fin 4) : Vec F S1024x256 .bf16 := View.readAt (Elt F) arg19.view (Rect.unit (s := S1024x1024) ![0, 256 * g.val] S1024x256.size (fits_cols g)).toLoadRect (harg19.unread xs8)
/-- A group's rows of a carried weight. -/
def rowsAt (arg : Memref sig .tc .vmem S1024x1024 .bf16) (harg : arg.IsWhole) (x : Vec F S1024x1024 .bf16) (g : Fin 4) : Vec F S256x1024 .bf16 :=
  View.readAt (Elt F) arg.view (Rect.unit (s := S1024x1024) ![256 * g.val, 0] S256x1024.size (fits_rows g)).toLoadRect (harg.unread x)

/-- A group's keys, as they are stored, -/
def kPiece (g : Fin 4) : View.Piece (Elt F) S1024x1024 .bf16 := ⟨Rect.unit ![512, 256 * g.val] S512x256.size (fits_knew g), k0_pay156 (normed arg2 harg2 arg11 x0) (colsAt arg19 harg19 xs8 g)⟩
/-- the first `n` groups' over the history. -/
def kPieces (n : ℕ) : List (View.Piece (Elt F) S1024x1024 .bf16) := (([3, 2, 1, 0] : List (Fin 4)).drop (4 - n)).map (kPiece arg2 harg2 arg11 arg19 harg19 x0 xs8) ++ [histK hk]
/-- A group's queries, as they are stored, -/
def qPiece (g : Fin 4) : View.Piece (Elt F) S1024x512 .bf16 := ⟨Rect.unit ![256 * g.val, 0] S256x512.size (fits_group g), k0_pay157 (rowsAt arg21 harg21 xs10 g) (normed arg2 harg2 arg11 x0)⟩
/-- the first `n` groups'. -/
def qPieces (n : ℕ) : List (View.Piece (Elt F) S1024x512 .bf16) := (([3, 2, 1, 0] : List (Fin 4)).drop (4 - n)).map (qPiece arg2 harg2 arg11 arg21 harg21 x0 xs10)
/-- A head's values, as they are stored, -/
def vPiece (g a : Fin 4) : View.Piece (Elt F) S1280x1024 .bf16 :=
  ⟨Rect.unit ![80 * (4 * g.val + a.val), 512] S64x512.size (fits_head g a), headRows a (k0_pay158 (rowsAt arg20 harg20 xs9 g) (normed arg2 harg2 arg11 x0))⟩
/-- the first `n` groups' over the history and the rows of ones. -/
def vPieces (n : ℕ) : List (View.Piece (Elt F) S1280x1024 .bf16) :=
  ((([3, 2, 1, 0] : List (Fin 4)).drop (4 - n)).flatMap fun g => [3, 2, 1, 0].map (vPiece arg2 harg2 arg11 arg20 harg20 x0 xs9 g)) ++ (histV hv :: ones)
/-- A group's gates, as they are stored, -/
def zPiece (g : Fin 4) : View.Piece (Elt F) S1024x512 .f32 := ⟨Rect.unit ![256 * g.val, 0] S256x512.size (fits_group g), k0_pay163 (rowsAt arg22 harg22 xs11 g) (normed arg2 harg2 arg11 x0)⟩
/-- the first `n` groups'. -/
def zPieces (n : ℕ) : List (View.Piece (Elt F) S1024x512 .f32) := (([3, 2, 1, 0] : List (Fin 4)).drop (4 - n)).map (zPiece arg2 harg2 arg11 arg22 harg22 x0 xs11)

theorem kPieces_eq : mainRun.sl.H13_5 arg2 harg2 arg11 arg19 harg19 x0 hk xs8 = kPieces arg2 harg2 arg11 arg19 harg19 x0 hk xs8 4 := rfl
theorem qPieces_eq : mainRun.sl.H15_4 arg2 harg2 arg11 arg21 harg21 x0 xs10 = qPieces arg2 harg2 arg11 arg21 harg21 x0 xs10 4 := rfl
theorem vPieces_eq : mainRun.sl.H14_33 arg2 harg2 arg11 arg20 harg20 x0 hv xs9 = vPieces arg2 harg2 arg11 arg20 harg20 x0 hv xs9 4 := rfl
theorem zPieces_eq : mainRun.sl.H16_4 arg2 harg2 arg11 arg22 harg22 x0 xs11 = zPieces arg2 harg2 arg11 arg22 harg22 x0 xs11 4 := rfl

/-- How many groups' parts are stored when a step of a pair and a group begins: the next group's are stored from pair `b` on. -/
def stored (b : ℕ) (j g : Fin 4) : ℕ := min 4 (bif decide (b ≤ j.val) then g.val + 2 else g.val + 1)

/-- The scores of a pair's window for a group's four heads. -/
def scores (j g : Fin 4) : FVec F S640x512 .f32 :=
  k0_pay164 (mainRun.sl.r (F := F) i)
    (arg15.view.readCov (qPieces arg2 harg2 arg11 arg21 harg21 x0 xs10 (stored 3 j g)) (Rect.unit (s := S1024x512) ![256 * g.val, 128 * j.val] S256x128.size (fits_queries j g)).toLoadRect)
    (arg13.view.readCov (kPieces arg2 harg2 arg11 arg19 harg19 x0 hk xs8 (stored 2 j g)) (Rect.unit (s := S1024x1024) ![128 * j.val, 256 * g.val] S640x256.size (fits_keys j g)).toLoadRect)
    (View.readAt (Elt F) arg18.view (Rect.unit (s := S4x640x512) ![g.val, 0, 0] S1x640x512.size (fits_bias g)).toLoadRect (harg18.unread xs7))

/-- A head's output of a pair, as it is stored. -/
def oPiece (j g a : Fin 4) : View.Piece (Elt F) S1024x512 .bf16 :=
  ⟨Rect.unit ![64 * (4 * g.val + a.val), 128 * j.val] S64x128.size (fits_gate j g a),
    headOut (window (k0_pay153 i) (scores i arg2 harg2 arg11 arg13 arg15 arg18 harg18 arg19 harg19 arg21 harg21 x0 hk xs7 xs8 xs10 j g) j) a
      (arg14.view.readCov (vPieces arg2 harg2 arg11 arg20 harg20 x0 hv xs9 (stored 2 j g)) (Rect.unit (s := S1280x1024) ![80 * (4 * g.val + a.val), 128 * j.val] S80x640.size (fits_values j g a)).toLoadRect)
      (arg16.view.readCov (zPieces arg2 harg2 arg11 arg22 harg22 x0 xs11 (stored 3 j g)) (Rect.unit (s := S1024x512) ![64 * (4 * g.val + a.val), 128 * j.val] S64x128.size (fits_gate j g a)).toLoadRect)⟩
/-- The outputs of a group's four heads, pair by pair. -/
def oPieces : List (View.Piece (Elt F) S1024x512 .bf16) :=
  ([3, 2, 1, 0] : List (Fin 4)).flatMap fun g => ([3, 2, 1, 0] : List (Fin 4)).flatMap fun j => [3, 2, 1, 0].map
    (oPiece i arg2 harg2 arg11 arg13 arg14 arg15 arg16 arg18 harg18 arg19 harg19 arg20 harg20 arg21 harg21 arg22 harg22 x0 hk hv xs7 xs8 xs9 xs10 xs11 j g)

set_option maxHeartbeats 8000000 in
theorem oPieces_eq : mainRun.sl.H17_64 i arg2 harg2 arg11 arg13 arg14 arg15 arg16 arg18 harg18 arg19 harg19 arg20 harg20 arg21 harg21 arg22 harg22 x0 hk hv xs7 xs8 xs9 xs10 xs11 =
    oPieces i arg2 harg2 arg11 arg13 arg14 arg15 arg16 arg18 harg18 arg19 harg19 arg20 harg20 arg21 harg21 arg22 harg22 x0 hk hv xs7 xs8 xs9 xs10 xs11 := by
  sl_kernel_rfl

/-- The block's rows with their mixture added, normed and scaled. -/
def outBlock : FVec F S512x1024 .f32 :=
  k0_pay788 (k0_pay786 (View.readAt (Elt F) arg2.view (Rect.unit (s := S512x1024) ![0, 0] S512x1024.size inb_S512x1024_S512x1024_0_0).toLoadRect (harg2.unread x0)))
    (k0_pay787 (arg17.view.readCov (oPieces i arg2 harg2 arg11 arg13 arg14 arg15 arg16 arg18 harg18 arg19 harg19 arg20 harg20 arg21 harg21 arg22 harg22 x0 hk hv xs7 xs8 xs9 xs10 xs11) (Rect.unit (s := S1024x512) ![0, 0] S1024x512.size inb_S1024x512_S1024x512_0_0).toLoadRect))
    (View.readAt (Elt F) arg23.view (Rect.unit (s := S1024x1024) ![0, 0] S1024x1024.size inb_S1024x1024_S1024x1024_0_0).toLoadRect (harg23.unread xs12))
    (View.readAt (Elt F) arg9.view (Rect.unit (s := S1x1024) ![0, 0] S1x1024.size inb_S1x1024_S1x1024_0_0).toLoadRect (harg9.unread x4))
theorem outBlock_eq : mainRun.sl.v4648 i arg2 harg2 arg9 harg9 arg11 arg13 arg14 arg15 arg16 arg17 arg18 harg18 arg19 harg19 arg20 harg20 arg21 harg21 arg22 harg22 arg23 harg23 x0 x4 hk hv xs7 xs8 xs9 xs10 xs11 xs12 = outBlock i arg2 harg2 arg9 harg9 arg11 arg13 arg14 arg15 arg16 arg17 arg18 harg18 arg19 harg19 arg20 harg20 arg21 harg21 arg22 harg22 arg23 harg23 x0 x4 hk hv xs7 xs8 xs9 xs10 xs11 xs12 := by
  unfold outBlock
  rw [← oPieces_eq]
  rfl

end

end Cert.Kernel2Ideal.Att

end
-- ==== Proof.AttBegin.lean ====
module

public import proofs.«01_k».proof.Proof.AttBody

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The runs of the set-up's own parts: the bias table, the history cleared, the rows of ones -/

-- (the run's proof term is large: the definition's epilogue walks it past the default budget)
set_option maxHeartbeats 4000000 in
/-- The bias table's run: the pieces it leaves, and its triple. -/
noncomputable def biasRun (c : Dev nD) (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) (x3 : Vec F S16x1024 .f32) :
    { L : List (View.Piece (Elt F) S4x640x512 .f32) // ∀ (K : PUnit → sProp 𝕄),
        iprop(owns (c : Thread nD τ) arg7 fullShare x3 ∗ (∃ d, owns (c : Thread nD τ) arg18 fullShare d)
            ∗ (iprop(owns (c : Thread nD τ) arg7 fullShare x3 ∗ (∃ f, arg18.view.loc (c : Thread nD τ) ↦[arg18.view.set]{fullShare} arg18.view.writes (Elt F) f L)) -∗ K ⟨⟩))
          ⊢ wp frame (wpE (defs₀ (F := F)) Variants.none c none) Set.univ (biasProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25) K } := by
  refine ⟨?_, fun K => ?run⟩
  case run =>
    unfold biasProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f4, %hf4, H4⟩, ⟨%ds6, %fs6, -, HS6⟩, Hk⟩
    obtain rfl := harg7.eq_unread hf4
    sl_exec
    sl_step
    iapply Hk
    isplitl [H4]
    · iexists _; isplitr; · ipureintro; exact harg7.read_unread _
      iexact H4
    iexists _; iexact HS6

/-- The clearing's run: the piece it leaves in the keys and the piece it leaves in the values, and its triple. -/
noncomputable def zeroRun (c : Dev nD) (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    { p : List (View.Piece (Elt F) S1024x1024 .bf16) × List (View.Piece (Elt F) S1280x1024 .bf16) // ∀ (f13 : Buf (Elt F) (arg13.view.loc (c : Thread nD τ))) (f14 : Buf (Elt F) (arg14.view.loc (c : Thread nD τ))) (K : PUnit → sProp 𝕄),
        iprop((arg13.view.loc (c : Thread nD τ) ↦[arg13.view.set]{fullShare} f13) ∗ (arg14.view.loc (c : Thread nD τ) ↦[arg14.view.set]{fullShare} f14)
            ∗ (iprop((arg13.view.loc (c : Thread nD τ) ↦[arg13.view.set]{fullShare} arg13.view.writes (Elt F) f13 p.1) ∗ (arg14.view.loc (c : Thread nD τ) ↦[arg14.view.set]{fullShare} arg14.view.writes (Elt F) f14 p.2)) -∗ K ⟨⟩))
          ⊢ wp frame (wpE (defs₀ (F := F)) Variants.none c none) Set.univ (zeroProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25) K } := by
  refine ⟨⟨?_, ?_⟩, fun f13 f14 K => ?run⟩
  case run =>
    unfold zeroProg
    dsimp only
    iintro ⟨H13, H14, Hk⟩
    sl_exec
    sl_step
    iapply Hk
    isplitl [H13]; · iexact H13
    iexact H14

/-- The run of the rows of ones: the pieces it leaves in the values, and its triple. -/
noncomputable def onesRun (c : Dev nD) (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .hbm S1024x2048 .f32) (harg5 : arg5.IsWhole) (arg6 : Memref sig .tc .hbm S1024x2048 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole) (arg25 : DmaSems sig S2) :
    { L : List (View.Piece (Elt F) S1280x1024 .bf16) // ∀ (f14 : Buf (Elt F) (arg14.view.loc (c : Thread nD τ))) (K : PUnit → sProp 𝕄),
        iprop((arg14.view.loc (c : Thread nD τ) ↦[arg14.view.set]{fullShare} f14)
            ∗ ((arg14.view.loc (c : Thread nD τ) ↦[arg14.view.set]{fullShare} arg14.view.writes (Elt F) f14 L) -∗ K ⟨⟩))
          ⊢ wp frame (wpE (defs₀ (F := F)) Variants.none c none) Set.univ (onesProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25) K } := by
  refine ⟨?_, fun f14 K => ?run⟩
  case run =>
    unfold onesProg
    simp only [k0_part41_eq_skeleton, k0_part42_eq_skeleton]
    iintro ⟨H14, Hk⟩
    sl_exec
    sl_step
    iapply Hk
    iexact H14

end Cert.Kernel2Ideal.Att

end
-- ==== Proof.AttStream.lean ====
module

public import proofs.«01_k».proof.Proof.AttBegin

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## One staging slot: a copy in, and its landing read back -/

section slot

variable (c : Dev nD)

/-- A slot of the staging buffer with a copy of `src` on its way into it. -/
def Busy (s : DmaSem sig) (slot : Memref sig .tc .vmem S1024x512 .f32) (src : Memref sig .tc .hbm S1024x512 .f32)
    (q : PosShare TreeShare) (fs : Buf (Elt F) (src.view.loc (c : Thread nD τ))) : sProp 𝕄 :=
  iprop(∃ fd, Transfers.Flight countersEmb (c : Thread nD τ) (SemLoc.dma s) default 65536
      iprop((slot.view.loc (c : Thread nD τ) ↦[slot.view.set]{fullShare} slot.view.write (Elt F) fd (src.view.read (Elt F) fs) Finset.univ)
        ∗ (src.view.loc (c : Thread nD τ) ↦[src.view.set]{q} fs))
    ∗ (src.view.loc (c : Thread nD τ) ↦[Finset.univ \ src.view.set]{q} fs))

/-- A slot of the staging buffer at rest, holding `D`. -/
def Holds (slot : Memref sig .tc .vmem S1024x512 .f32) (D : Vec F S1024x512 .f32) : sProp 𝕄 :=
  iprop(∃ f, ⌜slot.view.read (Elt F) f = D⌝ ∗ (slot.view.loc (c : Thread nD τ) ↦[slot.view.set]{fullShare} f))

/-- Starting a copy into a slot at rest. -/
theorem wp_start {K : PUnit → sProp 𝕄} {s : DmaSem sig} {slot : Memref sig .tc .vmem S1024x512 .f32} {src : Memref sig .tc .hbm S1024x512 .f32}
    {hsrc : src.view.WordExact} {hdst : slot.view.WordExact} {hsem : (DmaTarget.here (nD := nD) (τ := τ) (p := Proc.tc) slot).Typed .hbm (SemLoc.dma s)}
    {k : PUnit → Prog (TpuEff nD τ sig (Elt F) Λ₀ .tc) PUnit} (q : PosShare TreeShare) (fs : Buf (Elt F) (src.view.loc (c : Thread nD τ)))
    (D : Vec F S1024x512 .f32) (hN : slot.view.amount (SemLoc.dma s) = 65536) :
    iprop(Holds c slot D ∗ semVal ((c : Thread nD τ), SemLoc.dma s) 0 ∗ (src.view.loc (c : Thread nD τ) ↦[Finset.univ]{q} fs))
      ⊢ iprop((Busy c s slot src q fs -∗ wp frame (wpE (defs₀ (F := F)) Variants.none c none) Set.univ (k ⟨⟩) K)
        -∗ wp frame (wpE (defs₀ (F := F)) Variants.none c none) Set.univ
            (Prog.lift (.enqueueDma src (DmaTarget.here slot) (SemLoc.dma s) hsrc hdst hsem) >>= k) K) := by
  unfold Holds Busy
  iintro ⟨⟨%f, -, Hd⟩, Hs, Hh⟩ Hk
  ihave Hh' := (pointsTo_split_subset (Finset.subset_univ src.view.set)).1 $$ Hh
  icases Hh' with ⟨Ha, Hb⟩
  iapply (Transfers.wp_dmaLocal countersEmb Variants.none (c : Thread nD τ) none (src := src) (dst := slot) (via := ReadAs.same)
    (k := k) (Q := K) (q := q) (fs := fs) (fd := f) (default : Unit) 65536 hN (by decide) (Finset.Subset.refl _)) $$ [Hd Hs Ha]
  · isplitl [Ha]; · iexact Ha
    isplitl [Hd]; · iexact Hd
    iexact Hs
  iintro HF
  iapply Hk
  iexists f
  isplitl [HF]; · iexact HF
  iexact Hb

/-- Waiting for the copy: the slot holds the block copied, and the array is whole again. -/
theorem wp_arrive {K : PUnit → sProp 𝕄} {s : DmaSem sig} {slot slotw : Memref sig .tc .vmem S1024x512 .f32} {src srcw : Memref sig .tc .hbm S1024x512 .f32}
    {hsrc : srcw.view.WordExact} {hdst : slotw.view.WordExact}
    {k : PUnit → Prog (TpuEff nD τ sig (Elt F) Λ₀ .tc) PUnit} (q : PosShare TreeShare) (fs : Buf (Elt F) (src.view.loc (c : Thread nD τ)))
    (hN : slotw.view.dmaCredit = 65536) :
    iprop(Busy c s slot src q fs ∗ (∃ W, owes (c : Thread nD τ) 0 W))
      ⊢ iprop((iprop(Holds c slot (src.view.read (Elt F) fs) ∗ semVal ((c : Thread nD τ), SemLoc.dma s) 0
            ∗ (src.view.loc (c : Thread nD τ) ↦[Finset.univ]{q} fs) ∗ (∃ W, owes (c : Thread nD τ) 0 W))
          -∗ wp frame (wpE (defs₀ (F := F)) Variants.none c none) Set.univ (k ⟨⟩) K)
        -∗ wp frame (wpE (defs₀ (F := F)) Variants.none c none) Set.univ
            (Prog.lift (.waitDma2 s srcw slotw hsrc hdst) >>= k) K) := by
  unfold Holds Busy
  iintro ⟨⟨%fd, HF, Hb⟩, ⟨%W, HW⟩⟩ Hk
  iapply (Transfers.wp_waitLocal countersEmb Variants.none (c : Thread nD τ) none (sem := s) (srcw := srcw) (dstw := slotw)
    (k := k) (Q := K) (default : Unit) hN) $$ [HF HW]
  · isplitl [HF]; · iexact HF
    iexact HW
  iintro ⟨⟨Hd, Ha⟩, Hs, HW⟩
  iapply Hk
  isplitl [Hd]
  · iexists _; isplitr; swap; · iexact Hd
    ipureintro; exact View.read_write_univ _ _
  isplitl [Hs]; · iexact Hs
  isplitl [Ha Hb]
  · iapply (pointsTo_split_subset (Finset.subset_univ src.view.set)).2
    isplitl [Ha]; · iexact Ha
    iexact Hb
  iexists _; iexact HW

/-- A slot's elements: those of the staging buffer's rectangle it is cut by. -/
theorem set_slot (stage : Memref sig .tc .vmem S2x1024x512 .f32) (off : Fin 3 → ℕ) (inb : ∀ a, off a + S1x1024x512.size a ≤ S2x1024x512.size a) :
    ((stage.slice (Rect.unit (s := S2x1024x512) off S1x1024x512.size inb) (fun _ => rfl)).squeeze S1024x512 squeezes_S1x1024x512_S1024x512).view.set
      = stage.view.setOn (Rect.unit (s := S2x1024x512) off S1x1024x512.size inb).set :=
  (View.set_reshape (v := stage.view.slice (Rect.unit (s := S2x1024x512) off S1x1024x512.size inb)) squeezes_S1x1024x512_S1024x512.numel_eq).trans
    (View.set_slice _ _)

/-- Reading a slot at rest through the staging buffer's own rectangle: whatever is computed of what is read is computed of `D`. -/
theorem wp_fetch {K : PUnit → sProp 𝕄} {stage : Memref sig .tc .vmem S2x1024x512 .f32} {off : Fin 3 → ℕ} {inb : ∀ a, off a + S1x1024x512.size a ≤ S2x1024x512.size a}
    {hl : stage.view.LoadsAt (Rect.unit (s := S2x1024x512) off S1x1024x512.size inb).toLoadRect}
    {k : Vec F S1x1024x512 .f32 → Prog (TpuEff nD τ sig (Elt F) Λ₀ .tc) PUnit} (D : Vec F S1024x512 .f32) :
    Holds c ((stage.slice (Rect.unit (s := S2x1024x512) off S1x1024x512.size inb) (fun _ => rfl)).squeeze S1024x512 squeezes_S1x1024x512_S1024x512) D
      ⊢ iprop((∀ v, ⌜shapeCast S1024x512 v shapeCasts_S1x1024x512_S1024x512 = D⌝ -∗
            Holds c ((stage.slice (Rect.unit (s := S2x1024x512) off S1x1024x512.size inb) (fun _ => rfl)).squeeze S1024x512 squeezes_S1x1024x512_S1024x512) D
            -∗ wp frame (wpE (defs₀ (F := F)) Variants.none c none) Set.univ (k v) K)
        -∗ wp frame (wpE (defs₀ (F := F)) Variants.none c none) Set.univ
            (Prog.lift (.load stage (Rect.unit (s := S2x1024x512) off S1x1024x512.size inb).toLoadRect hl) >>= k) K) := by
  unfold Holds
  iintro ⟨%f, %hf, Hd⟩ Hk
  iapply (wp_load Variants.none (c : Thread nD τ) none Set.univ (m := stage) (hl := hl) (k := k) (Q := K) (f := f)
    (S := ((stage.slice (Rect.unit (s := S2x1024x512) off S1x1024x512.size inb) (fun _ => rfl)).squeeze S1024x512 squeezes_S1x1024x512_S1024x512).view.set) ?hS) $$ [Hd]
  case hS =>
    rw [set_slot]
  · iexact Hd
  iintro Hd
  iapply Hk $$ %_ [] [Hd]
  · ipureintro; rw [← hf]; rfl
  iexists f; isplitr; · ipureintro; exact hf
  iexact Hd

/-- A block of a carried weight written: the list of writes grows by it. -/
theorem wp_keep {K : PUnit → sProp 𝕄} {S : Shape} {dst : Memref sig .tc .vmem S .bf16} {r : Rect S} {w w' : r.shape.Idx → Elt F .bf16} {hl : dst.view.LoadsAt r.toLoadRect}
    {hx : (dst.access r).Stores Finset.univ} {hm : Finset.univ = Finset.univ ∨ ∀ a, r.stride a = 1}
    {k : PUnit → Prog (TpuEff nD τ sig (Elt F) Λ₀ .tc) PUnit} {f : Buf (Elt F) (dst.view.loc (c : Thread nD τ))}
    {L : List (View.Piece (Elt F) S .bf16)} (hw : w = w') :
    (dst.view.loc (c : Thread nD τ) ↦[dst.view.set]{fullShare} dst.view.writes (Elt F) f L)
      ⊢ iprop(((dst.view.loc (c : Thread nD τ) ↦[dst.view.set]{fullShare} dst.view.writes (Elt F) f (⟨r, w'⟩ :: L))
          -∗ wp frame (wpE (defs₀ (F := F)) Variants.none c none) Set.univ (k ⟨⟩) K)
        -∗ wp frame (wpE (defs₀ (F := F)) Variants.none c none) Set.univ
            (Prog.lift (.load dst r.toLoadRect hl) >>= fun _ => Prog.lift (.store dst r w Finset.univ hx hm) >>= k) K) := by
  subst hw
  iintro Hd Hk
  iapply (wp_load Variants.none (c : Thread nD τ) none Set.univ (m := dst) (hl := hl) (Q := K)
    (k := fun _ => Prog.lift (.store dst r w Finset.univ hx hm) >>= k) (S := dst.view.set) (f := dst.view.writes (Elt F) f L) ?hS) $$ [Hd]
  case hS => exact dst.view.setOn_subset_set _
  · iexact Hd
  iintro Hd
  iapply (wp_store_writes Variants.none (c : Thread nD τ) none Set.univ (m := dst) (Q := K) (k := k) (hx := hx) (hm := hm) (S := dst.view.set)
    (w := w) (f := f) (L := L) (dst.view.set_slice_subset r)) $$ [Hd]
  · iexact Hd
  iexact Hk

/-- A copy awaited, read out of its slot, converted and kept in a carried weight: the slot and the array it came from are free again, and the
    carried weight's list of writes grows by the converted block. -/
theorem wp_take {K : PUnit → sProp 𝕄} {s : DmaSem sig} {stage : Memref sig .tc .vmem S2x1024x512 .f32} {off : Fin 3 → ℕ} {inb : ∀ a, off a + S1x1024x512.size a ≤ S2x1024x512.size a}
    {hl : stage.view.LoadsAt (Rect.unit (s := S2x1024x512) off S1x1024x512.size inb).toLoadRect}
    {src srcw : Memref sig .tc .hbm S1024x512 .f32} {hsrc : srcw.view.WordExact}
    {hdst : ((stage.slice (Rect.unit (s := S2x1024x512) off S1x1024x512.size inb) (fun _ => rfl)).squeeze S1024x512 squeezes_S1x1024x512_S1024x512).view.WordExact}
    {S : Shape} {dst : Memref sig .tc .vmem S .bf16} {r : Rect S} {w : Vec F S1x1024x512 .f32 → r.shape.Idx → Elt F .bf16} {w' : Vec F S1024x512 .f32 → r.shape.Idx → Elt F .bf16}
    {hl' : dst.view.LoadsAt r.toLoadRect} {hx : (dst.access r).Stores Finset.univ} {hm : Finset.univ = Finset.univ ∨ ∀ a, r.stride a = 1}
    {k : PUnit → Prog (TpuEff nD τ sig (Elt F) Λ₀ .tc) PUnit} {f : Buf (Elt F) (dst.view.loc (c : Thread nD τ))}
    {L : List (View.Piece (Elt F) S .bf16)} (q : PosShare TreeShare) (fs : Buf (Elt F) (src.view.loc (c : Thread nD τ)))
    (hN : ((stage.slice (Rect.unit (s := S2x1024x512) off S1x1024x512.size inb) (fun _ => rfl)).squeeze S1024x512 squeezes_S1x1024x512_S1024x512).view.dmaCredit = 65536)
    (hw : ∀ v, w v = w' (shapeCast S1024x512 v shapeCasts_S1x1024x512_S1024x512)) :
    iprop(Busy c s ((stage.slice (Rect.unit (s := S2x1024x512) off S1x1024x512.size inb) (fun _ => rfl)).squeeze S1024x512 squeezes_S1x1024x512_S1024x512) src q fs
        ∗ (∃ W, owes (c : Thread nD τ) 0 W) ∗ (dst.view.loc (c : Thread nD τ) ↦[dst.view.set]{fullShare} dst.view.writes (Elt F) f L))
      ⊢ iprop((iprop(Holds c ((stage.slice (Rect.unit (s := S2x1024x512) off S1x1024x512.size inb) (fun _ => rfl)).squeeze S1024x512 squeezes_S1x1024x512_S1024x512) (src.view.read (Elt F) fs)
            ∗ semVal ((c : Thread nD τ), SemLoc.dma s) 0 ∗ (src.view.loc (c : Thread nD τ) ↦[Finset.univ]{q} fs) ∗ (∃ W, owes (c : Thread nD τ) 0 W)
            ∗ (dst.view.loc (c : Thread nD τ) ↦[dst.view.set]{fullShare} dst.view.writes (Elt F) f (⟨r, w' (src.view.read (Elt F) fs)⟩ :: L)))
          -∗ wp frame (wpE (defs₀ (F := F)) Variants.none c none) Set.univ (k ⟨⟩) K)
        -∗ wp frame (wpE (defs₀ (F := F)) Variants.none c none) Set.univ
            (Prog.lift (.waitDma2 s srcw ((stage.slice (Rect.unit (s := S2x1024x512) off S1x1024x512.size inb) (fun _ => rfl)).squeeze S1024x512 squeezes_S1x1024x512_S1024x512) hsrc hdst) >>= fun _ =>
              Prog.lift (.load stage (Rect.unit (s := S2x1024x512) off S1x1024x512.size inb).toLoadRect hl) >>= fun v =>
              Prog.lift (.load dst r.toLoadRect hl') >>= fun _ => Prog.lift (.store dst r (w v) Finset.univ hx hm) >>= k) K) := by
  iintro ⟨HB, HW, HD⟩ Hk
  iapply (wp_arrive c q fs hN) $$ [HB HW]
  · isplitl [HB]; · iexact HB
    iexact HW
  iintro ⟨HS, Hs, Ha, HW⟩
  iapply (wp_fetch c _) $$ HS
  iintro %v %hv HS
  iapply (wp_keep c (w' := w' (src.view.read (Elt F) fs)) (by rw [hw, hv])) $$ HD
  iintro HD
  iapply Hk
  isplitl [HS]; · iexact HS
  isplitl [Hs]; · iexact Hs
  isplitl [Ha]; · iexact Ha
  isplitl [HW]; · iexact HW
  iexact HD

/-- A read of a carried gain. -/
theorem wp_gain {K : PUnit → sProp 𝕄} {S : Shape} {a : Memref sig .tc .vmem S .f32} (ha : a.IsWhole) {r : Rect S} {hl : a.view.LoadsAt r.toLoadRect}
    {k : Vec F r.shape .f32 → Prog (TpuEff nD τ sig (Elt F) Λ₀ .tc) PUnit} (g : Vec F S .f32) :
    owns (c : Thread nD τ) a fullShare g
      ⊢ iprop((owns (c : Thread nD τ) a fullShare g -∗ wp frame (wpE (defs₀ (F := F)) Variants.none c none) Set.univ (k (View.readAt (Elt F) a.view r.toLoadRect (ha.unread g))) K)
        -∗ wp frame (wpE (defs₀ (F := F)) Variants.none c none) Set.univ (Prog.lift (.load a r.toLoadRect hl) >>= k) K) := by
  unfold owns
  iintro ⟨%f, %hf, Hd⟩ Hk
  obtain rfl := ha.eq_unread hf
  iapply (wp_load Variants.none (c : Thread nD τ) none Set.univ (m := a) (hl := hl) (k := k) (Q := K) (f := ha.unread g) (S := a.view.set) ?hS) $$ [Hd]
  case hS => exact a.view.setOn_subset_set _
  · iexact Hd
  iintro Hd
  iapply Hk
  iexists _; isplitr; · ipureintro; exact hf
  iexact Hd

/-- A copy awaited, read out of its slot, scaled by a gain, converted and kept in a carried weight: the slot and the array it came from are free again, and the
    carried weight's list of writes grows by the converted block. -/
theorem wp_take_scaled {K : PUnit → sProp 𝕄} {s : DmaSem sig} {stage : Memref sig .tc .vmem S2x1024x512 .f32} {off : Fin 3 → ℕ} {inb : ∀ a, off a + S1x1024x512.size a ≤ S2x1024x512.size a}
    {hl : stage.view.LoadsAt (Rect.unit (s := S2x1024x512) off S1x1024x512.size inb).toLoadRect}
    {src srcw : Memref sig .tc .hbm S1024x512 .f32} {hsrc : srcw.view.WordExact}
    {hdst : ((stage.slice (Rect.unit (s := S2x1024x512) off S1x1024x512.size inb) (fun _ => rfl)).squeeze S1024x512 squeezes_S1x1024x512_S1024x512).view.WordExact}
    {S : Shape} {dst : Memref sig .tc .vmem S .bf16} {r : Rect S} {SG : Shape} {ga : Memref sig .tc .vmem SG .f32} (hga : ga.IsWhole) {rg : Rect SG} {hlg : ga.view.LoadsAt rg.toLoadRect} (g : Vec F SG .f32)
    {w : Vec F S1x1024x512 .f32 → Vec F rg.shape .f32 → r.shape.Idx → Elt F .bf16} {w' : Vec F S1024x512 .f32 → r.shape.Idx → Elt F .bf16}
    {hl' : dst.view.LoadsAt r.toLoadRect} {hx : (dst.access r).Stores Finset.univ} {hm : Finset.univ = Finset.univ ∨ ∀ a, r.stride a = 1}
    {k : PUnit → Prog (TpuEff nD τ sig (Elt F) Λ₀ .tc) PUnit} {f : Buf (Elt F) (dst.view.loc (c : Thread nD τ))}
    {L : List (View.Piece (Elt F) S .bf16)} (q : PosShare TreeShare) (fs : Buf (Elt F) (src.view.loc (c : Thread nD τ)))
    (hN : ((stage.slice (Rect.unit (s := S2x1024x512) off S1x1024x512.size inb) (fun _ => rfl)).squeeze S1024x512 squeezes_S1x1024x512_S1024x512).view.dmaCredit = 65536)
    (hw : ∀ v, w v (View.readAt (Elt F) ga.view rg.toLoadRect (hga.unread g)) = w' (shapeCast S1024x512 v shapeCasts_S1x1024x512_S1024x512)) :
    iprop(Busy c s ((stage.slice (Rect.unit (s := S2x1024x512) off S1x1024x512.size inb) (fun _ => rfl)).squeeze S1024x512 squeezes_S1x1024x512_S1024x512) src q fs
        ∗ (∃ W, owes (c : Thread nD τ) 0 W) ∗ owns (c : Thread nD τ) ga fullShare g ∗ (dst.view.loc (c : Thread nD τ) ↦[dst.view.set]{fullShare} dst.view.writes (Elt F) f L))
      ⊢ iprop((iprop(Holds c ((stage.slice (Rect.unit (s := S2x1024x512) off S1x1024x512.size inb) (fun _ => rfl)).squeeze S1024x512 squeezes_S1x1024x512_S1024x512) (src.view.read (Elt F) fs)
            ∗ semVal ((c : Thread nD τ), SemLoc.dma s) 0 ∗ (src.view.loc (c : Thread nD τ) ↦[Finset.univ]{q} fs) ∗ (∃ W, owes (c : Thread nD τ) 0 W)
            ∗ owns (c : Thread nD τ) ga fullShare g ∗ (dst.view.loc (c : Thread nD τ) ↦[dst.view.set]{fullShare} dst.view.writes (Elt F) f (⟨r, w' (src.view.read (Elt F) fs)⟩ :: L)))
          -∗ wp frame (wpE (defs₀ (F := F)) Variants.none c none) Set.univ (k ⟨⟩) K)
        -∗ wp frame (wpE (defs₀ (F := F)) Variants.none c none) Set.univ
            (Prog.lift (.waitDma2 s srcw ((stage.slice (Rect.unit (s := S2x1024x512) off S1x1024x512.size inb) (fun _ => rfl)).squeeze S1024x512 squeezes_S1x1024x512_S1024x512) hsrc hdst) >>= fun _ =>
              Prog.lift (.load stage (Rect.unit (s := S2x1024x512) off S1x1024x512.size inb).toLoadRect hl) >>= fun v =>
              Prog.lift (.load ga rg.toLoadRect hlg) >>= fun u =>
              Prog.lift (.load dst r.toLoadRect hl') >>= fun _ => Prog.lift (.store dst r (w v u) Finset.univ hx hm) >>= k) K) := by
  iintro ⟨HB, HW, HG, HD⟩ Hk
  iapply (wp_arrive c q fs hN) $$ [HB HW]
  · isplitl [HB]; · iexact HB
    iexact HW
  iintro ⟨HS, Hs, Ha, HW⟩
  iapply (wp_fetch c _) $$ HS
  iintro %v %hv HS
  iapply (wp_gain c hga g) $$ HG
  iintro HG
  iapply (wp_keep c (w' := w' (src.view.read (Elt F) fs)) (by rw [hw, hv])) $$ HD
  iintro HD
  iapply Hk
  isplitl [HS]; · iexact HS
  isplitl [Hs]; · iexact Hs
  isplitl [Ha]; · iexact Ha
  isplitl [HW]; · iexact HW
  isplitl [HG]; · iexact HG
  iexact HD

end slot

end Cert.Kernel2Ideal.Att

end
-- ==== Proof.AttInit.lean ====
module

public import proofs.«01_k».proof.Proof.AttStream
public import Idealize.ShloMosaic.Lib.WholeRead

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A block of the weight of the keys and values, as the array holds it. -/
def blk0 (c : Dev nD) (fh : HbBuf0 (F := F) c hbM0_0) (off : Fin 2 → ℕ) (inb : ∀ a, off a + S1024x512.size a ≤ S1024x2048.size a) : Vec F S1024x512 .f32 :=
  (hbM0_0.slice (Rect.unit (s := S1024x2048) off S1024x512.size inb) (fun _ => rfl)).view.read (Elt F) fh
/-- A block of the weight of the queries and gates, as the array holds it. -/
def blk1 (c : Dev nD) (fh : HbBuf0 (F := F) c hbM0_1) (off : Fin 2 → ℕ) (inb : ∀ a, off a + S1024x512.size a ≤ S1024x2048.size a) : Vec F S1024x512 .f32 :=
  (hbM0_1.slice (Rect.unit (s := S1024x2048) off S1024x512.size inb) (fun _ => rfl)).view.read (Elt F) fh
/-- A block of the weight of the output, as the array holds it. -/
def blk2 (c : Dev nD) (fh : HbBuf0 (F := F) c hbM0_2) (off : Fin 2 → ℕ) (inb : ∀ a, off a + S1024x512.size a ≤ S1024x1024.size a) : Vec F S1024x512 .f32 :=
  (hbM0_2.slice (Rect.unit (s := S1024x1024) off S1024x512.size inb) (fun _ => rfl)).view.read (Elt F) fh
/-- A block as it is kept. -/
def kept (v : Vec F S1024x512 .f32) : FVec F S1024x512 .bf16 := shapeCast S1024x512 (truncf .bf16 v bitsLt_bf16_f32) shapeCasts_S1024x512_S1024x512
/-- A block with its rows scaled by the gain. -/
def gained (g : Vec F S1024x1 .f32) (v : Vec F S1024x512 .f32) : FVec F S1024x512 .bf16 :=
  truncf .bf16 (mulf v (broadcastTo S1024x512 (shapeCast S1024x1 g shapeCasts_S1024x1_S1024x1) broadcasts_S1024x1_S1024x512)) bitsLt_bf16_f32
/-- A scaled block as it is kept. -/
def scaled (g : Vec F S1024x1 .f32) (v : Vec F S1024x512 .f32) : FVec F S1024x512 .bf16 := shapeCast S1024x512 (gained g v) shapeCasts_S1024x512_S1024x512
/-- A scaled block as it is kept with rows and columns exchanged. -/
def turned (g : Vec F S1024x1 .f32) (v : Vec F S1024x512 .f32) : FVec F S512x1024 .bf16 :=
  shapeCast S512x1024 (transpose S512x1024 [1, 0] (gained g v) transposes_S1024x512_p1_0_S512x1024) shapeCasts_S512x1024_S512x1024

/-- What the first point leaves in the carried weight of the keys. -/
def wkPieces (c : Dev nD) (g3 : Vec F S1024x1 .f32) (fh0 : HbBuf0 (F := F) c hbM0_0) : List (View.Piece (Elt F) S1024x1024 .bf16) :=
  [⟨(Rect.unit (s := S1024x1024) ![0, 512] S1024x512.size inb_S1024x1024_S1024x512_0_512), scaled g3 (blk0 c fh0 ![0, 512] inb_S1024x2048_S1024x512_0_512)⟩,
    ⟨(Rect.unit (s := S1024x1024) ![0, 0] S1024x512.size inb_S1024x1024_S1024x512_0_0), scaled g3 (blk0 c fh0 ![0, 0] inb_S1024x2048_S1024x512_0_0)⟩]
/-- What the first point leaves in the carried weight of the values. -/
def wvPieces (c : Dev nD) (g3 : Vec F S1024x1 .f32) (fh0 : HbBuf0 (F := F) c hbM0_0) : List (View.Piece (Elt F) S1024x1024 .bf16) :=
  [⟨(Rect.unit (s := S1024x1024) ![512, 0] S512x1024.size inb_S1024x1024_S512x1024_512_0), turned g3 (blk0 c fh0 ![0, 1536] inb_S1024x2048_S1024x512_0_1536)⟩,
    ⟨(Rect.unit (s := S1024x1024) ![0, 0] S512x1024.size inb_S1024x1024_S512x1024_0_0), turned g3 (blk0 c fh0 ![0, 1024] inb_S1024x2048_S1024x512_0_1024)⟩]
/-- What the first point leaves in the carried weight of the queries. -/
def wqPieces (c : Dev nD) (g4 : Vec F S1024x1 .f32) (fh1 : HbBuf0 (F := F) c hbM0_1) : List (View.Piece (Elt F) S1024x1024 .bf16) :=
  [⟨(Rect.unit (s := S1024x1024) ![512, 0] S512x1024.size inb_S1024x1024_S512x1024_512_0), turned g4 (blk1 c fh1 ![0, 512] inb_S1024x2048_S1024x512_0_512)⟩,
    ⟨(Rect.unit (s := S1024x1024) ![0, 0] S512x1024.size inb_S1024x1024_S512x1024_0_0), turned g4 (blk1 c fh1 ![0, 0] inb_S1024x2048_S1024x512_0_0)⟩]
/-- What the first point leaves in the carried weight of the gates. -/
def wzPieces (c : Dev nD) (g4 : Vec F S1024x1 .f32) (fh1 : HbBuf0 (F := F) c hbM0_1) : List (View.Piece (Elt F) S1024x1024 .bf16) :=
  [⟨(Rect.unit (s := S1024x1024) ![512, 0] S512x1024.size inb_S1024x1024_S512x1024_512_0), turned g4 (blk1 c fh1 ![0, 1536] inb_S1024x2048_S1024x512_0_1536)⟩,
    ⟨(Rect.unit (s := S1024x1024) ![0, 0] S512x1024.size inb_S1024x1024_S512x1024_0_0), turned g4 (blk1 c fh1 ![0, 1024] inb_S1024x2048_S1024x512_0_1024)⟩]
/-- What the first point leaves in the carried weight of the output. -/
def woPieces (c : Dev nD) (fh2 : HbBuf0 (F := F) c hbM0_2) : List (View.Piece (Elt F) S1024x1024 .bf16) :=
  [⟨(Rect.unit (s := S1024x1024) ![0, 512] S1024x512.size inb_S1024x1024_S1024x512_0_512), kept (blk2 c fh2 ![0, 512] inb_S1024x1024_S1024x512_0_512)⟩,
    ⟨(Rect.unit (s := S1024x1024) ![0, 0] S1024x512.size inb_S1024x1024_S1024x512_0_0), kept (blk2 c fh2 ![0, 0] inb_S1024x1024_S1024x512_0_0)⟩]

/-- A load of a whole column. -/
theorem readAt_col (arg : Memref sig .tc .vmem S1024x1 .f32) (harg : arg.IsWhole) (x : Vec F S1024x1 .f32) (h) :
    View.readAt (Elt F) arg.view (Rect.unit (s := S1024x1) ![0, 0] S1024x1.size h).toLoadRect (harg.unread x) = x := by
  funext y
  refine (harg.readAt_unread x _ _).trans (congrArg x (funext fun a => Fin.ext ?_))
  match a with
  | 0 => show 0 + 1 * (y 0).val = (y 0).val; omega
  | 1 => show 0 + 1 * (y 1).val = (y 1).val; omega

/-- Slot 0 of the staging buffer. -/
abbrev slot0 (stage : Memref sig .tc .vmem S2x1024x512 .f32) : Memref sig .tc .vmem S1024x512 .f32 :=
  (stage.slice (Rect.unit (s := S2x1024x512) ![0, 0, 0] S1x1024x512.size inb_S2x1024x512_S1x1024x512_0_0_0) (fun _ => rfl)).squeeze S1024x512 squeezes_S1x1024x512_S1024x512
theorem amount0 (stage : Memref sig .tc .vmem S2x1024x512 .f32) : (slot0 stage).view.amount (SemLoc.dma 8) = 65536 := rfl
theorem credit0 (stage : Memref sig .tc .vmem S2x1024x512 .f32) : (slot0 stage).view.dmaCredit = 65536 := rfl

/-- Slot 1 of the staging buffer. -/
abbrev slot1 (stage : Memref sig .tc .vmem S2x1024x512 .f32) : Memref sig .tc .vmem S1024x512 .f32 :=
  (stage.slice (Rect.unit (s := S2x1024x512) ![1, 0, 0] S1x1024x512.size inb_S2x1024x512_S1x1024x512_1_0_0) (fun _ => rfl)).squeeze S1024x512 squeezes_S1x1024x512_S1024x512
theorem amount1 (stage : Memref sig .tc .vmem S2x1024x512 .f32) : (slot1 stage).view.amount (SemLoc.dma 9) = 65536 := rfl
theorem credit1 (stage : Memref sig .tc .vmem S2x1024x512 .f32) : (slot1 stage).view.dmaCredit = 65536 := rfl

/-- The two slots' elements are apart. -/
theorem slots_apart (stage : Memref sig .tc .vmem S2x1024x512 .f32) :
    Disjoint (stage.view.setOn (Rect.unit (s := S2x1024x512) ![0, 0, 0] S1x1024x512.size inb_S2x1024x512_S1x1024x512_0_0_0).set)
      (stage.view.setOn (Rect.unit (s := S2x1024x512) ![1, 0, 0] S1x1024x512.size inb_S2x1024x512_S1x1024x512_1_0_0).set) := by
  unfold View.setOn
  exact (Finset.disjoint_map _).mpr (Rect.unit_disjoint (0 : Fin 3) (Or.inl (by decide)))

set_option maxHeartbeats 4000000 in
/-- The weights fetched, scaled and kept: the pieces the first point leaves in the carried weights. -/
theorem streamRun (c : Dev nD) (i : grid0.Coords) (arg2 : Memref sig .tc .vmem S512x1024 .f32) (harg2 : arg2.IsWhole) (arg3 : Memref sig .tc .vmem S1024x1 .f32) (harg3 : arg3.IsWhole) (arg4 : Memref sig .tc .vmem S1024x1 .f32) (harg4 : arg4.IsWhole) (arg7 : Memref sig .tc .vmem S16x1024 .f32) (harg7 : arg7.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1280x1024 .bf16) (harg14 : arg14.IsWhole) (arg15 : Memref sig .tc .vmem S1024x512 .bf16) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S2x1024x512 .f32) (harg24 : arg24.IsWhole)
    (g3 : Vec F S1024x1 .f32) (g4 : Vec F S1024x1 .f32) (fh0 : HbBuf0 (F := F) c hbM0_0) (fh1 : HbBuf0 (F := F) c hbM0_1) (fh2 : HbBuf0 (F := F) c hbM0_2)
    (k : Prog (TpuEff nD τ sig (Elt F) Λ₀ .tc) PUnit) (K : PUnit → sProp 𝕄) :
    iprop(owns (c : Thread nD τ) arg3 fullShare g3 ∗ owns (c : Thread nD τ) arg4 fullShare g4 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 8) 0 ∗ semVal ((c : Thread nD τ), SemLoc.dma 9) 0 ∗ hbPt0 c hbM0_0 fh0 ∗ hbPt0 c hbM0_1 fh1 ∗ hbPt0 c hbM0_2 fh2 ∗ (∃ W, owes (c : Thread nD τ) 0 W)
        ∗ (iprop(owns (c : Thread nD τ) arg3 fullShare g3 ∗ owns (c : Thread nD τ) arg4 fullShare g4 ∗ (∃ f, arg19.view.loc (c : Thread nD τ) ↦[arg19.view.set]{fullShare} arg19.view.writes (Elt F) f (wkPieces c g3 fh0)) ∗ (∃ f, arg20.view.loc (c : Thread nD τ) ↦[arg20.view.set]{fullShare} arg20.view.writes (Elt F) f (wvPieces c g3 fh0)) ∗ (∃ f, arg21.view.loc (c : Thread nD τ) ↦[arg21.view.set]{fullShare} arg21.view.writes (Elt F) f (wqPieces c g4 fh1)) ∗ (∃ f, arg22.view.loc (c : Thread nD τ) ↦[arg22.view.set]{fullShare} arg22.view.writes (Elt F) f (wzPieces c g4 fh1)) ∗ (∃ f, arg23.view.loc (c : Thread nD τ) ↦[arg23.view.set]{fullShare} arg23.view.writes (Elt F) f (woPieces c fh2)) ∗ (∃ d, owns (c : Thread nD τ) arg24 fullShare d) ∗ semVal ((c : Thread nD τ), SemLoc.dma 8) 0 ∗ semVal ((c : Thread nD τ), SemLoc.dma 9) 0 ∗ hbPt0 c hbM0_0 fh0 ∗ hbPt0 c hbM0_1 fh1 ∗ hbPt0 c hbM0_2 fh2 ∗ (∃ W, owes (c : Thread nD τ) 0 W)) -∗ wp frame (wpE (defs₀ (F := F)) Variants.none c none) Set.univ k K))
      ⊢ wp frame (wpE (defs₀ (F := F)) Variants.none c none) Set.univ (streamProg i arg2 harg2 arg3 harg3 arg4 harg4 (Memref.whole main_arg2) (Memref.isWhole_whole _) (Memref.whole main_v6) (Memref.isWhole_whole _) arg7 harg7 (Memref.whole main_v7) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 cc0_scratch14 >>= fun _ => k) K := by
  have hB : arg24.view.setOn (Rect.unit (s := S2x1024x512) ![1, 0, 0] S1x1024x512.size inb_S2x1024x512_S1x1024x512_1_0_0).set
      ⊆ arg24.view.set \ arg24.view.setOn (Rect.unit (s := S2x1024x512) ![0, 0, 0] S1x1024x512.size inb_S2x1024x512_S1x1024x512_0_0_0).set :=
    Finset.subset_sdiff.mpr ⟨arg24.view.setOn_subset_set _, (slots_apart arg24).symm⟩
  unfold streamProg
  simp only [k0_part35_eq_skeleton, k0_part36_eq_skeleton, k0_part37_eq_skeleton, k0_part38_eq_skeleton, k0_part39_eq_skeleton, k0_part40_eq_skeleton]
  unfold k0_part35_skel k0_part36_skel k0_part37_skel k0_part38_skel k0_part39_skel k0_part40_skel
  simp only [bind_assoc, pure_bind]
  iintro ⟨HG3, HG4, ⟨%d19, HS19⟩, ⟨%d20, HS20⟩, ⟨%d21, HS21⟩, ⟨%d22, HS22⟩, ⟨%d23, HS23⟩, ⟨%d24, HS24⟩, HcA, HcB, H5, H6, H8, HW, Hk⟩
  ihave HS' : iprop(∃ f, ⌜arg19.view.read (Elt F) f = d19⌝ ∗ (arg19.view.loc (c : Thread nD τ) ↦[arg19.view.set]{fullShare} f)) $$ [HS19]
  · unfold owns; iexact HS19
  icases HS' with ⟨%f19, -, HS19⟩
  ihave HS' : iprop(∃ f, ⌜arg20.view.read (Elt F) f = d20⌝ ∗ (arg20.view.loc (c : Thread nD τ) ↦[arg20.view.set]{fullShare} f)) $$ [HS20]
  · unfold owns; iexact HS20
  icases HS' with ⟨%f20, -, HS20⟩
  ihave HS' : iprop(∃ f, ⌜arg21.view.read (Elt F) f = d21⌝ ∗ (arg21.view.loc (c : Thread nD τ) ↦[arg21.view.set]{fullShare} f)) $$ [HS21]
  · unfold owns; iexact HS21
  icases HS' with ⟨%f21, -, HS21⟩
  ihave HS' : iprop(∃ f, ⌜arg22.view.read (Elt F) f = d22⌝ ∗ (arg22.view.loc (c : Thread nD τ) ↦[arg22.view.set]{fullShare} f)) $$ [HS22]
  · unfold owns; iexact HS22
  icases HS' with ⟨%f22, -, HS22⟩
  ihave HS' : iprop(∃ f, ⌜arg23.view.read (Elt F) f = d23⌝ ∗ (arg23.view.loc (c : Thread nD τ) ↦[arg23.view.set]{fullShare} f)) $$ [HS23]
  · unfold owns; iexact HS23
  icases HS' with ⟨%f23, -, HS23⟩
  ihave HS' : iprop(∃ f, ⌜arg24.view.read (Elt F) f = d24⌝ ∗ (arg24.view.loc (c : Thread nD τ) ↦[arg24.view.set]{fullShare} f)) $$ [HS24]
  · unfold owns; iexact HS24
  icases HS' with ⟨%f24, -, HS24⟩
  ihave HT := (pointsTo_share (PosShare.mem_left_op_right fullShare)).1 $$ H5
  icases HT with ⟨H5A, H5B⟩
  ihave HT := (pointsTo_share (PosShare.mem_left_op_right fullShare)).1 $$ H6
  icases HT with ⟨H6A, H6B⟩
  ihave HT := (pointsTo_share (PosShare.mem_left_op_right fullShare)).1 $$ H8
  icases HT with ⟨H8A, H8B⟩
  ihave HT := (pointsTo_split_subset (arg24.view.setOn_subset_set _)).1 $$ HS24
  icases HT with ⟨HfA, HR⟩
  ihave HT := (pointsTo_split_subset hB).1 $$ HR
  icases HT with ⟨HfB, HR⟩
  ihave HsA : (Holds c (slot0 arg24) _) $$ [HfA]
  · unfold Holds; rw [set_slot]
    iexists f24; isplitr; swap; · iexact HfA
    ipureintro; rfl
  ihave HsB : (Holds c (slot1 arg24) _) $$ [HfB]
  · unfold Holds; rw [set_slot]
    iexists f24; isplitr; swap; · iexact HfB
    ipureintro; rfl
  iapply (wp_start c (s := 8) (slot := slot0 arg24) (src := (hbM0_0.slice (Rect.unit (s := S1024x2048) ![0, 0] S1024x512.size inb_S1024x2048_S1024x512_0_0) (fun _ => rfl))) fullShare.left fh0 _ (amount0 arg24)) $$ [HsA HcA H5A]
  · isplitl [HsA]; · iexact HsA
    isplitl [HcA]; · iexact HcA
    iexact H5A
  iintro HbA
  iapply (wp_start c (s := 9) (slot := slot1 arg24) (src := (hbM0_0.slice (Rect.unit (s := S1024x2048) ![0, 512] S1024x512.size inb_S1024x2048_S1024x512_0_512) (fun _ => rfl))) fullShare.right fh0 _ (amount1 arg24)) $$ [HsB HcB H5B]
  · isplitl [HsB]; · iexact HsB
    isplitl [HcB]; · iexact HcB
    iexact H5B
  iintro HbB
  iapply (wp_take_scaled c (ga := arg3) harg3 (rg := Rect.unit (s := S1024x1) ![0, 0] S1024x1.size inb_S1024x1_S1024x1_0_0) g3 (s := 8) (stage := arg24) (off := ![0, 0, 0]) (inb := inb_S2x1024x512_S1x1024x512_0_0_0) (src := (hbM0_0.slice (Rect.unit (s := S1024x2048) ![0, 0] S1024x512.size inb_S1024x2048_S1024x512_0_0) (fun _ => rfl))) (srcw := (hbM0_0.slice (Rect.unit (s := S1024x2048) ![0, 0] S1024x512.size inb_S1024x2048_S1024x512_0_0) (fun _ => rfl))) (dst := arg19) (r := (Rect.unit (s := S1024x1024) ![0, 0] S1024x512.size inb_S1024x1024_S1024x512_0_0)) (w := fun v g => k0_pay121 (k0_pay120 v g)) (w' := scaled g3) (f := f19) (L := []) fullShare.left fh0 (credit0 arg24) (fun v => by rw [readAt_col]; rfl)) $$ [HbA HW HG3 HS19]
  · isplitl [HbA]; · iexact HbA
    isplitl [HW]; · iexact HW
    isplitl [HG3]; · iexact HG3
    iexact HS19
  iintro ⟨HsA, HcA, H5A, HW, HG3, HS19⟩
  iapply (wp_start c (s := 8) (slot := slot0 arg24) (src := (hbM0_0.slice (Rect.unit (s := S1024x2048) ![0, 1024] S1024x512.size inb_S1024x2048_S1024x512_0_1024) (fun _ => rfl))) fullShare.left fh0 _ (amount0 arg24)) $$ [HsA HcA H5A]
  · isplitl [HsA]; · iexact HsA
    isplitl [HcA]; · iexact HcA
    iexact H5A
  iintro HbA
  iapply (wp_take_scaled c (ga := arg3) harg3 (rg := Rect.unit (s := S1024x1) ![0, 0] S1024x1.size inb_S1024x1_S1024x1_0_0) g3 (s := 9) (stage := arg24) (off := ![1, 0, 0]) (inb := inb_S2x1024x512_S1x1024x512_1_0_0) (src := (hbM0_0.slice (Rect.unit (s := S1024x2048) ![0, 512] S1024x512.size inb_S1024x2048_S1024x512_0_512) (fun _ => rfl))) (srcw := (hbM0_0.slice (Rect.unit (s := S1024x2048) ![0, 512] S1024x512.size inb_S1024x2048_S1024x512_0_512) (fun _ => rfl))) (dst := arg19) (r := (Rect.unit (s := S1024x1024) ![0, 512] S1024x512.size inb_S1024x1024_S1024x512_0_512)) (w := k0_pay122) (w' := scaled g3) (f := f19) (L := [⟨(Rect.unit (s := S1024x1024) ![0, 0] S1024x512.size inb_S1024x1024_S1024x512_0_0), scaled g3 (blk0 c fh0 ![0, 0] inb_S1024x2048_S1024x512_0_0)⟩]) fullShare.right fh0 (credit1 arg24) (fun v => by rw [readAt_col]; rfl)) $$ [HbB HW HG3 HS19]
  · isplitl [HbB]; · iexact HbB
    isplitl [HW]; · iexact HW
    isplitl [HG3]; · iexact HG3
    iexact HS19
  iintro ⟨HsB, HcB, H5B, HW, HG3, HS19⟩
  iapply (wp_start c (s := 9) (slot := slot1 arg24) (src := (hbM0_0.slice (Rect.unit (s := S1024x2048) ![0, 1536] S1024x512.size inb_S1024x2048_S1024x512_0_1536) (fun _ => rfl))) fullShare.right fh0 _ (amount1 arg24)) $$ [HsB HcB H5B]
  · isplitl [HsB]; · iexact HsB
    isplitl [HcB]; · iexact HcB
    iexact H5B
  iintro HbB
  iapply (wp_take_scaled c (ga := arg3) harg3 (rg := Rect.unit (s := S1024x1) ![0, 0] S1024x1.size inb_S1024x1_S1024x1_0_0) g3 (s := 8) (stage := arg24) (off := ![0, 0, 0]) (inb := inb_S2x1024x512_S1x1024x512_0_0_0) (src := (hbM0_0.slice (Rect.unit (s := S1024x2048) ![0, 1024] S1024x512.size inb_S1024x2048_S1024x512_0_1024) (fun _ => rfl))) (srcw := (hbM0_0.slice (Rect.unit (s := S1024x2048) ![0, 1024] S1024x512.size inb_S1024x2048_S1024x512_0_1024) (fun _ => rfl))) (dst := arg20) (r := (Rect.unit (s := S1024x1024) ![0, 0] S512x1024.size inb_S1024x1024_S512x1024_0_0)) (w := k0_pay123) (w' := turned g3) (f := f20) (L := []) fullShare.left fh0 (credit0 arg24) (fun v => by rw [readAt_col]; rfl)) $$ [HbA HW HG3 HS20]
  · isplitl [HbA]; · iexact HbA
    isplitl [HW]; · iexact HW
    isplitl [HG3]; · iexact HG3
    iexact HS20
  iintro ⟨HsA, HcA, H5A, HW, HG3, HS20⟩
  iapply (wp_start c (s := 8) (slot := slot0 arg24) (src := (hbM0_1.slice (Rect.unit (s := S1024x2048) ![0, 0] S1024x512.size inb_S1024x2048_S1024x512_0_0) (fun _ => rfl))) fullShare.left fh1 _ (amount0 arg24)) $$ [HsA HcA H6A]
  · isplitl [HsA]; · iexact HsA
    isplitl [HcA]; · iexact HcA
    iexact H6A
  iintro HbA
  iapply (wp_take_scaled c (ga := arg3) harg3 (rg := Rect.unit (s := S1024x1) ![0, 0] S1024x1.size inb_S1024x1_S1024x1_0_0) g3 (s := 9) (stage := arg24) (off := ![1, 0, 0]) (inb := inb_S2x1024x512_S1x1024x512_1_0_0) (src := (hbM0_0.slice (Rect.unit (s := S1024x2048) ![0, 1536] S1024x512.size inb_S1024x2048_S1024x512_0_1536) (fun _ => rfl))) (srcw := (hbM0_0.slice (Rect.unit (s := S1024x2048) ![0, 1536] S1024x512.size inb_S1024x2048_S1024x512_0_1536) (fun _ => rfl))) (dst := arg20) (r := (Rect.unit (s := S1024x1024) ![512, 0] S512x1024.size inb_S1024x1024_S512x1024_512_0)) (w := k0_pay124) (w' := turned g3) (f := f20) (L := [⟨(Rect.unit (s := S1024x1024) ![0, 0] S512x1024.size inb_S1024x1024_S512x1024_0_0), turned g3 (blk0 c fh0 ![0, 1024] inb_S1024x2048_S1024x512_0_1024)⟩]) fullShare.right fh0 (credit1 arg24) (fun v => by rw [readAt_col]; rfl)) $$ [HbB HW HG3 HS20]
  · isplitl [HbB]; · iexact HbB
    isplitl [HW]; · iexact HW
    isplitl [HG3]; · iexact HG3
    iexact HS20
  iintro ⟨HsB, HcB, H5B, HW, HG3, HS20⟩
  iapply (wp_start c (s := 9) (slot := slot1 arg24) (src := (hbM0_1.slice (Rect.unit (s := S1024x2048) ![0, 512] S1024x512.size inb_S1024x2048_S1024x512_0_512) (fun _ => rfl))) fullShare.right fh1 _ (amount1 arg24)) $$ [HsB HcB H6B]
  · isplitl [HsB]; · iexact HsB
    isplitl [HcB]; · iexact HcB
    iexact H6B
  iintro HbB
  iapply (wp_take_scaled c (ga := arg4) harg4 (rg := Rect.unit (s := S1024x1) ![0, 0] S1024x1.size inb_S1024x1_S1024x1_0_0) g4 (s := 8) (stage := arg24) (off := ![0, 0, 0]) (inb := inb_S2x1024x512_S1x1024x512_0_0_0) (src := (hbM0_1.slice (Rect.unit (s := S1024x2048) ![0, 0] S1024x512.size inb_S1024x2048_S1024x512_0_0) (fun _ => rfl))) (srcw := (hbM0_1.slice (Rect.unit (s := S1024x2048) ![0, 0] S1024x512.size inb_S1024x2048_S1024x512_0_0) (fun _ => rfl))) (dst := arg21) (r := (Rect.unit (s := S1024x1024) ![0, 0] S512x1024.size inb_S1024x1024_S512x1024_0_0)) (w := k0_pay125) (w' := turned g4) (f := f21) (L := []) fullShare.left fh1 (credit0 arg24) (fun v => by rw [readAt_col]; rfl)) $$ [HbA HW HG4 HS21]
  · isplitl [HbA]; · iexact HbA
    isplitl [HW]; · iexact HW
    isplitl [HG4]; · iexact HG4
    iexact HS21
  iintro ⟨HsA, HcA, H6A, HW, HG4, HS21⟩
  iapply (wp_start c (s := 8) (slot := slot0 arg24) (src := (hbM0_1.slice (Rect.unit (s := S1024x2048) ![0, 1024] S1024x512.size inb_S1024x2048_S1024x512_0_1024) (fun _ => rfl))) fullShare.left fh1 _ (amount0 arg24)) $$ [HsA HcA H6A]
  · isplitl [HsA]; · iexact HsA
    isplitl [HcA]; · iexact HcA
    iexact H6A
  iintro HbA
  iapply (wp_take_scaled c (ga := arg4) harg4 (rg := Rect.unit (s := S1024x1) ![0, 0] S1024x1.size inb_S1024x1_S1024x1_0_0) g4 (s := 9) (stage := arg24) (off := ![1, 0, 0]) (inb := inb_S2x1024x512_S1x1024x512_1_0_0) (src := (hbM0_1.slice (Rect.unit (s := S1024x2048) ![0, 512] S1024x512.size inb_S1024x2048_S1024x512_0_512) (fun _ => rfl))) (srcw := (hbM0_1.slice (Rect.unit (s := S1024x2048) ![0, 512] S1024x512.size inb_S1024x2048_S1024x512_0_512) (fun _ => rfl))) (dst := arg21) (r := (Rect.unit (s := S1024x1024) ![512, 0] S512x1024.size inb_S1024x1024_S512x1024_512_0)) (w := k0_pay126) (w' := turned g4) (f := f21) (L := [⟨(Rect.unit (s := S1024x1024) ![0, 0] S512x1024.size inb_S1024x1024_S512x1024_0_0), turned g4 (blk1 c fh1 ![0, 0] inb_S1024x2048_S1024x512_0_0)⟩]) fullShare.right fh1 (credit1 arg24) (fun v => by rw [readAt_col]; rfl)) $$ [HbB HW HG4 HS21]
  · isplitl [HbB]; · iexact HbB
    isplitl [HW]; · iexact HW
    isplitl [HG4]; · iexact HG4
    iexact HS21
  iintro ⟨HsB, HcB, H6B, HW, HG4, HS21⟩
  iapply (wp_start c (s := 9) (slot := slot1 arg24) (src := (hbM0_1.slice (Rect.unit (s := S1024x2048) ![0, 1536] S1024x512.size inb_S1024x2048_S1024x512_0_1536) (fun _ => rfl))) fullShare.right fh1 _ (amount1 arg24)) $$ [HsB HcB H6B]
  · isplitl [HsB]; · iexact HsB
    isplitl [HcB]; · iexact HcB
    iexact H6B
  iintro HbB
  iapply (wp_take_scaled c (ga := arg4) harg4 (rg := Rect.unit (s := S1024x1) ![0, 0] S1024x1.size inb_S1024x1_S1024x1_0_0) g4 (s := 8) (stage := arg24) (off := ![0, 0, 0]) (inb := inb_S2x1024x512_S1x1024x512_0_0_0) (src := (hbM0_1.slice (Rect.unit (s := S1024x2048) ![0, 1024] S1024x512.size inb_S1024x2048_S1024x512_0_1024) (fun _ => rfl))) (srcw := (hbM0_1.slice (Rect.unit (s := S1024x2048) ![0, 1024] S1024x512.size inb_S1024x2048_S1024x512_0_1024) (fun _ => rfl))) (dst := arg22) (r := (Rect.unit (s := S1024x1024) ![0, 0] S512x1024.size inb_S1024x1024_S512x1024_0_0)) (w := k0_pay127) (w' := turned g4) (f := f22) (L := []) fullShare.left fh1 (credit0 arg24) (fun v => by rw [readAt_col]; rfl)) $$ [HbA HW HG4 HS22]
  · isplitl [HbA]; · iexact HbA
    isplitl [HW]; · iexact HW
    isplitl [HG4]; · iexact HG4
    iexact HS22
  iintro ⟨HsA, HcA, H6A, HW, HG4, HS22⟩
  iapply (wp_start c (s := 8) (slot := slot0 arg24) (src := (hbM0_2.slice (Rect.unit (s := S1024x1024) ![0, 0] S1024x512.size inb_S1024x1024_S1024x512_0_0) (fun _ => rfl))) fullShare.left fh2 _ (amount0 arg24)) $$ [HsA HcA H8A]
  · isplitl [HsA]; · iexact HsA
    isplitl [HcA]; · iexact HcA
    iexact H8A
  iintro HbA
  iapply (wp_take_scaled c (ga := arg4) harg4 (rg := Rect.unit (s := S1024x1) ![0, 0] S1024x1.size inb_S1024x1_S1024x1_0_0) g4 (s := 9) (stage := arg24) (off := ![1, 0, 0]) (inb := inb_S2x1024x512_S1x1024x512_1_0_0) (src := (hbM0_1.slice (Rect.unit (s := S1024x2048) ![0, 1536] S1024x512.size inb_S1024x2048_S1024x512_0_1536) (fun _ => rfl))) (srcw := (hbM0_1.slice (Rect.unit (s := S1024x2048) ![0, 1536] S1024x512.size inb_S1024x2048_S1024x512_0_1536) (fun _ => rfl))) (dst := arg22) (r := (Rect.unit (s := S1024x1024) ![512, 0] S512x1024.size inb_S1024x1024_S512x1024_512_0)) (w := fun v g => k0_pay129 (k0_pay128 v g)) (w' := turned g4) (f := f22) (L := [⟨(Rect.unit (s := S1024x1024) ![0, 0] S512x1024.size inb_S1024x1024_S512x1024_0_0), turned g4 (blk1 c fh1 ![0, 1024] inb_S1024x2048_S1024x512_0_1024)⟩]) fullShare.right fh1 (credit1 arg24) (fun v => by rw [readAt_col]; rfl)) $$ [HbB HW HG4 HS22]
  · isplitl [HbB]; · iexact HbB
    isplitl [HW]; · iexact HW
    isplitl [HG4]; · iexact HG4
    iexact HS22
  iintro ⟨HsB, HcB, H6B, HW, HG4, HS22⟩
  iapply (wp_start c (s := 9) (slot := slot1 arg24) (src := (hbM0_2.slice (Rect.unit (s := S1024x1024) ![0, 512] S1024x512.size inb_S1024x1024_S1024x512_0_512) (fun _ => rfl))) fullShare.right fh2 _ (amount1 arg24)) $$ [HsB HcB H8B]
  · isplitl [HsB]; · iexact HsB
    isplitl [HcB]; · iexact HcB
    iexact H8B
  iintro HbB
  iapply (wp_take c (s := 8) (stage := arg24) (off := ![0, 0, 0]) (inb := inb_S2x1024x512_S1x1024x512_0_0_0) (src := (hbM0_2.slice (Rect.unit (s := S1024x1024) ![0, 0] S1024x512.size inb_S1024x1024_S1024x512_0_0) (fun _ => rfl))) (srcw := (hbM0_2.slice (Rect.unit (s := S1024x1024) ![0, 0] S1024x512.size inb_S1024x1024_S1024x512_0_0) (fun _ => rfl))) (dst := arg23) (r := (Rect.unit (s := S1024x1024) ![0, 0] S1024x512.size inb_S1024x1024_S1024x512_0_0)) (w := k0_pay130) (w' := kept) (f := f23) (L := []) fullShare.left fh2 (credit0 arg24) (fun _ => rfl)) $$ [HbA HW HS23]
  · isplitl [HbA]; · iexact HbA
    isplitl [HW]; · iexact HW
    iexact HS23
  iintro ⟨HsA, HcA, H8A, HW, HS23⟩
  iapply (wp_take c (s := 9) (stage := arg24) (off := ![1, 0, 0]) (inb := inb_S2x1024x512_S1x1024x512_1_0_0) (src := (hbM0_2.slice (Rect.unit (s := S1024x1024) ![0, 512] S1024x512.size inb_S1024x1024_S1024x512_0_512) (fun _ => rfl))) (srcw := (hbM0_2.slice (Rect.unit (s := S1024x1024) ![0, 512] S1024x512.size inb_S1024x1024_S1024x512_0_512) (fun _ => rfl))) (dst := arg23) (r := (Rect.unit (s := S1024x1024) ![0, 512] S1024x512.size inb_S1024x1024_S1024x512_0_512)) (w := fun v => k0_pay148 (k0_pay131 v)) (w' := kept) (f := f23) (L := [⟨(Rect.unit (s := S1024x1024) ![0, 0] S1024x512.size inb_S1024x1024_S1024x512_0_0), kept (blk2 c fh2 ![0, 0] inb_S1024x1024_S1024x512_0_0)⟩]) fullShare.right fh2 (credit1 arg24) (fun _ => rfl)) $$ [HbB HW HS23]
  · isplitl [HbB]; · iexact HbB
    isplitl [HW]; · iexact HW
    iexact HS23
  iintro ⟨HsB, HcB, H8B, HW, HS23⟩
  iapply Hk
  isplitl [HG3]; · iexact HG3
  isplitl [HG4]; · iexact HG4
  isplitl [HS19]; · iexists f19; iexact HS19
  isplitl [HS20]; · iexists f20; iexact HS20
  isplitl [HS21]; · iexists f21; iexact HS21
  isplitl [HS22]; · iexists f22; iexact HS22
  isplitl [HS23]; · iexists f23; iexact HS23
  isplitl [HsA HsB HR]
  · unfold Holds; rw [set_slot, set_slot]
    icases HsA with ⟨%fA, -, HfA⟩
    icases HsB with ⟨%fB, -, HfB⟩
    ihave HR := (pointsTo_join_subset (ℓ := arg24.view.loc (c : Thread nD τ)) hB) $$ [HfB HR]
    · isplitl [HfB]; · iexact HfB
      iexact HR
    ihave HR := (pointsTo_join_subset (ℓ := arg24.view.loc (c : Thread nD τ)) (arg24.view.setOn_subset_set _)) $$ [HfA HR]
    · isplitl [HfA]; · iexact HfA
      iexact HR
    unfold owns
    iexists _, _; isplitr; swap; · iexact HR
    ipureintro; rfl
  isplitl [HcA]; · iexact HcA
  isplitl [HcB]; · iexact HcB
  isplitl [H5A H5B]
  · iapply (pointsTo_share (PosShare.mem_left_op_right fullShare)).2
    isplitl [H5A]; · iexact H5A
    iexact H5B
  isplitl [H6A H6B]
  · iapply (pointsTo_share (PosShare.mem_left_op_right fullShare)).2
    isplitl [H6A]; · iexact H6A
    iexact H6B
  isplitl [H8A H8B]
  · iapply (pointsTo_share (PosShare.mem_left_op_right fullShare)).2
    isplitl [H8A]; · iexact H8A
    iexact H8B
  iexact HW

end Cert.Kernel2Ideal.Att

end
-- ==== Proof.AttHist.lean ====
module

public import proofs.«01_k».proof.Proof.AttStages
public import proofs.«01_k».proof.Proof.AttInit
public import proofs.«01_k».proof.Proof.AttBegin

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # What the history buffers hold from point to point -/

/-- Writes of what a buffer already holds leave it. -/
theorem writes_self {S : Shape} {e : EltTy} (arg : Memref sig .tc .vmem S e) (harg : arg.IsWhole) (g : arg.view.ty.Contents (Elt F)) (L : List (View.Piece (Elt F) S e))
    (h : ∀ p ∈ L, ∀ x, arg.view.read (Elt F) g (p.1.emb x) = p.2 x) : arg.view.writes (Elt F) g L = g := by
  refine harg.read_bijective.1 (funext fun y => ?_)
  induction L with
  | nil => rfl
  | cons p L ih =>
    by_cases hy : y ∈ p.1.set
    · obtain ⟨x, rfl⟩ := p.1.exists_idx_of_mem hy
      exact (View.read_writes_cons_emb (v := arg.view) (f := g) p.1 p.2 L x).trans (h p List.mem_cons_self x).symm
    · refine Eq.trans ?_ (ih fun q hq => h q (List.mem_cons_of_mem _ hq))
      exact View.read_slice_write_of_not_mem p.1 _ _ _ (by rw [Rect.map_emb_univ]; exact hy)

theorem emb_mem {S : Shape} (r : Rect S) (x : r.shape.Idx) : r.emb x ∈ r.set := by
  rw [← Rect.map_emb_univ]; exact Finset.mem_map_of_mem _ (Finset.mem_univ x)

/-- The rows of ones lie beside the history, -/
theorem not_histV (hv : Vec F S1280x512 .bf16) (h : Fin 16) (y : S1280x1024.Idx) (hy : y ∈ (onesPiece (F := F) h).1.set) : y ∉ (histV hv).1.set := by
  intro hh
  have h1 := ((Rect.mem_set_unit (inb := fits_ones h)).mp hy 1).1
  have h2 := ((Rect.mem_set_unit (inb := inb_S1280x1024_S1280x512_0_0)).mp hh 1).2
  have h1' : 512 ≤ (y 1).val := h1
  have h2' : (y 1).val < 0 + 512 := h2
  omega
/-- and beside the new values. -/
theorem not_vPiece (arg2 : Memref sig .tc .vmem S512x1024 .f32) (harg2 : arg2.IsWhole) (arg11 : Memref sig .tc .vmem S512x1024 .bf16) (arg20 : Memref sig .tc .vmem S1024x1024 .bf16) (harg20 : arg20.IsWhole) (x0 : Vec F S512x1024 .f32) (xs9 : Vec F S1024x1024 .bf16)
    (g a : Fin 4) (h : Fin 16) (y : S1280x1024.Idx) (hy : y ∈ (onesPiece (F := F) h).1.set) : y ∉ (vPiece arg2 harg2 arg11 arg20 harg20 x0 xs9 g a).1.set := by
  intro hh
  have h1 := (Rect.mem_set_unit (inb := fits_ones h)).mp hy 0
  have h2 := (Rect.mem_set_unit (inb := fits_head g a)).mp hh 0
  have h1' : 80 * h.val + 64 ≤ (y 0).val ∧ (y 0).val < 80 * h.val + 64 + 16 := h1
  have h2' : 80 * (4 * g.val + a.val) ≤ (y 0).val ∧ (y 0).val < 80 * (4 * g.val + a.val) + 64 := h2
  omega

theorem read_cons_of_not_mem {S : Shape} {e : EltTy} (arg : Memref sig .tc .vmem S e) (f : arg.view.ty.Contents (Elt F)) (p : View.Piece (Elt F) S e) (L : List (View.Piece (Elt F) S e)) (y : S.Idx) (hy : y ∉ p.1.set) :
    arg.view.read (Elt F) (arg.view.writes (Elt F) f (p :: L)) y = arg.view.read (Elt F) (arg.view.writes (Elt F) f L) y :=
  View.read_slice_write_of_not_mem p.1 _ _ _ (by rw [Rect.map_emb_univ]; exact hy)

theorem read_cons_self {S : Shape} {e : EltTy} (arg : Memref sig .tc .vmem S e) (f : arg.view.ty.Contents (Elt F)) (p : View.Piece (Elt F) S e) (L : List (View.Piece (Elt F) S e)) (x : p.1.shape.Idx) :
    arg.view.read (Elt F) (arg.view.writes (Elt F) f (p :: L)) (p.1.emb x) = p.2 x :=
  View.read_writes_cons_emb (v := arg.view) (f := f) p.1 p.2 L x

theorem read_append_of_not_mem {S : Shape} {e : EltTy} (arg : Memref sig .tc .vmem S e) (f : arg.view.ty.Contents (Elt F)) (P L : List (View.Piece (Elt F) S e)) (y : S.Idx) (hy : ∀ p ∈ P, y ∉ p.1.set) :
    arg.view.read (Elt F) (arg.view.writes (Elt F) f (P ++ L)) y = arg.view.read (Elt F) (arg.view.writes (Elt F) f L) y := by
  induction P with
  | nil => rfl
  | cons p P ih =>
    exact (read_cons_of_not_mem arg f p (P ++ L) y (hy p List.mem_cons_self)).trans (ih fun q hq => hy q (List.mem_cons_of_mem _ hq))

/-- After a history is stored over the keys, they hold it. -/
theorem rebaseK (arg : Memref sig .tc .vmem S1024x1024 .bf16) (harg : arg.IsWhole) (f : arg.view.ty.Contents (Elt F)) (nk : Vec F S512x1024 .bf16) (L : List (View.Piece (Elt F) S1024x1024 .bf16)) :
    ∃ f', arg.view.writes (Elt F) f (histK nk :: L) = arg.view.writes (Elt F) f' [histK nk] :=
  ⟨_, (writes_self arg harg _ [histK nk] (by
    intro p hp x
    obtain rfl := List.mem_singleton.mp hp
    exact read_cons_self arg f (histK nk) L x)).symm⟩

theorem ones_one (p : View.Piece (Elt F) S1280x1024 .bf16) (hp : p ∈ ones (F := F)) : ∃ h, p = onesPiece h := by
  obtain ⟨h, -, rfl⟩ := List.mem_map.mp hp
  exact ⟨h, rfl⟩

/-- Pieces of one function, kept apart from what was stored after them, are still held. -/
theorem rebase {S : Shape} {e : EltTy} (arg : Memref sig .tc .vmem S e) (harg : arg.IsWhole) (f : arg.view.ty.Contents (Elt F)) (p : View.Piece (Elt F) S e) (P O : List (View.Piece (Elt F) S e)) (G : S.Idx → Elt F e)
    (hO : ∀ q ∈ O, ∀ x, q.2 x = G (q.1.emb x)) (hP : ∀ q ∈ O, ∀ y ∈ q.1.set, ∀ r ∈ p :: P, y ∉ r.1.set) :
    ∃ f', arg.view.writes (Elt F) f (p :: (P ++ O)) = arg.view.writes (Elt F) f' (p :: O) :=
  ⟨_, (writes_self arg harg _ (p :: O) (by
    intro q hq x
    rcases List.mem_cons.mp hq with rfl | hq
    · exact read_cons_self arg f q (P ++ O) x
    · have hx : q.1.emb x ∈ q.1.set := emb_mem _ x
      refine (read_append_of_not_mem arg f (p :: P) O _ (hP q hq _ hx)).trans ?_
      exact ((View.read_writes_apply_eq_canon arg.view f _ O ⟨_, hq, hx⟩).trans (View.canon_apply_of_pieces G O hO _ ⟨_, hq, hx⟩)).trans (hO q hq x).symm)).symm⟩

/-- Pieces of one function lie under the last pieces of that function. -/
theorem rebase_over {S : Shape} {e : EltTy} (arg : Memref sig .tc .vmem S e) (harg : arg.IsWhole) (f : arg.view.ty.Contents (Elt F)) (p p' : View.Piece (Elt F) S e) (A O : List (View.Piece (Elt F) S e)) (G : S.Idx → Elt F e)
    (hA : ∀ q ∈ A, ∀ x, q.2 x = G (q.1.emb x)) (hO : ∀ q ∈ O, ∀ x, q.2 x = G (q.1.emb x)) (hC : ∀ q ∈ O, ∀ y ∈ q.1.set, ∃ r ∈ A, y ∈ r.1.set)
    (hp : ∀ x, p'.1.emb x ∈ p.1.set) (hp' : ∀ x, p'.2 x = View.canon (A ++ [p]) (p'.1.emb x)) :
    ∃ f', arg.view.writes (Elt F) (arg.view.writes (Elt F) f [p]) A = arg.view.writes (Elt F) f' (p' :: O) :=
  ⟨_, (writes_self arg harg _ (p' :: O) (by
    intro q hq x
    rcases List.mem_cons.mp hq with rfl | hq
    · rw [← View.writes_append, hp']
      exact View.read_writes_apply_eq_canon arg.view f _ (A ++ [p]) ⟨p, List.mem_append_right _ List.mem_cons_self, hp x⟩
    · have hx := hC q hq _ (emb_mem _ x)
      exact ((View.read_writes_apply_eq_canon arg.view _ _ A hx).trans (View.canon_apply_of_pieces G A hA _ hx)).trans (hO q hq x).symm)).symm⟩

/-- After a history is stored over the values, they hold it and the rows of ones. -/
theorem rebaseV (arg : Memref sig .tc .vmem S1280x1024 .bf16) (harg : arg.IsWhole) (f : arg.view.ty.Contents (Elt F)) (nv : Vec F S1280x512 .bf16) (P : List (View.Piece (Elt F) S1280x1024 .bf16))
    (hP : ∀ p ∈ P, ∀ (h : Fin 16) (y : S1280x1024.Idx), y ∈ (onesPiece (F := F) h).1.set → y ∉ p.1.set) :
    ∃ f', arg.view.writes (Elt F) f (histV nv :: (P ++ ones)) = arg.view.writes (Elt F) f' (histV nv :: ones) :=
  rebase arg harg f (histV nv) P ones (fun _ => Scalar.ofBits (F := F) .bf16 0x3F80#16) (fun q hq z => by obtain ⟨h', rfl⟩ := ones_one q hq; rfl)
    (fun q hq y hy r hr => by
      obtain ⟨h, rfl⟩ := ones_one q hq
      rcases List.mem_cons.mp hr with rfl | hr
      · exact not_histV nv h _ hy
      · exact hP r hr h _ hy)

/-- Rows of ones stored whole. -/
theorem fits_onesRow (h : Fin 16) : ∀ a, (![80 * h.val + 64, 0] : Fin 2 → ℕ) a + S16x1024.size a ≤ S1280x1024.size a := fun a => by
  match a with
  | 0 => show 80 * h.val + 64 + 16 ≤ 1280; omega
  | 1 => show 0 + 1024 ≤ 1024; omega
def onesRow (h : Fin 16) : View.Piece (Elt F) S1280x1024 .bf16 := ⟨Rect.unit (s := S1280x1024) ![80 * h.val + 64, 0] S16x1024.size (fits_onesRow h), fun _ => Scalar.ofBits .bf16 0x3F80#16⟩
def onesRows : List (View.Piece (Elt F) S1280x1024 .bf16) := [15, 14, 13, 12, 11, 10, 9, 8, 7, 6, 5, 4, 3, 2, 1, 0].map onesRow

/-- The cleared histories, and the values' at the first point, in which the rows of ones lie over it. -/
def zeroK : Vec F S512x1024 .bf16 := k0_pay149
def zeroV : Vec F S1280x512 .bf16 := k0_pay150
def firstV : Vec F S1280x512 .bf16 := fun x => View.canon (onesRows ++ [histV (zeroV (F := F))]) ((Rect.unit (s := S1280x1024) ![0, 0] S1280x512.size inb_S1280x1024_S1280x512_0_0).emb x)

theorem histV_snd (hv : Vec F S1280x512 .bf16) (x : S1280x512.Idx) : (histV hv).2 x = hv x := rfl
theorem histV_emb (hv : Vec F S1280x512 .bf16) (x : S1280x512.Idx) : (histV hv).1.emb x = (Rect.unit (s := S1280x1024) ![0, 0] S1280x512.size inb_S1280x1024_S1280x512_0_0).emb x := rfl
theorem firstV_apply (x : S1280x512.Idx) : firstV (F := F) x = View.canon (onesRows ++ [histV (zeroV (F := F))]) ((Rect.unit (s := S1280x1024) ![0, 0] S1280x512.size inb_S1280x1024_S1280x512_0_0).emb x) := by unfold firstV; rfl

theorem rebaseFirst (arg : Memref sig .tc .vmem S1280x1024 .bf16) (harg : arg.IsWhole) (f : arg.view.ty.Contents (Elt F)) :
    ∃ f', arg.view.writes (Elt F) (arg.view.writes (Elt F) f [histV zeroV]) onesRows = arg.view.writes (Elt F) f' (histV firstV :: ones) :=
  rebase_over arg harg f (histV zeroV) (histV firstV) onesRows ones (fun _ => Scalar.ofBits (F := F) .bf16 0x3F80#16)
    (fun q hq z => by obtain ⟨h', -, rfl⟩ := List.mem_map.mp hq; rfl) (fun q hq z => by obtain ⟨h', rfl⟩ := ones_one q hq; rfl)
    (fun q hq y hy => by
      obtain ⟨h, rfl⟩ := ones_one q hq
      refine ⟨onesRow h, List.mem_map.mpr ⟨h, (by decide : ∀ h : Fin 16, h ∈ ([15, 14, 13, 12, 11, 10, 9, 8, 7, 6, 5, 4, 3, 2, 1, 0] : List (Fin 16))) h, rfl⟩, (Rect.mem_set_unit (inb := fits_onesRow h)).mpr ?_⟩
      have h0 := (Rect.mem_set_unit (inb := fits_ones h)).mp hy 0
      intro a
      match a with
      | 0 => exact h0
      | 1 => exact ⟨Nat.zero_le _, lt_of_lt_of_eq (y 1).isLt (Nat.zero_add _).symm⟩)
    (fun x => emb_mem _ x) (fun x => (histV_snd firstV x).trans (firstV_apply x))

end Cert.Kernel2Ideal.Att

end
-- ==== Proof.AttRun.lean ====
module

public import proofs.«01_k».proof.Proof.AttHist

@[expose] public section

-- membership in a rectangle of production extents (`View.cover_of_tiled`): the elaborator's structural look
-- recurses once per coordinate of the long axes
set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What is carried from the first point on -/

/-- The first point. -/
abbrev t0 : Fin cfg0.N := ⟨0, by rw [show cfg0.N = 32 from N_0]; decide⟩

/-- The pieces the first point leaves in the bias table, -/
def biasPieces (c : Dev nD) : List (View.Piece (Elt F) S4x640x512 .f32) :=
  (biasRun c (grid0.coords t0) (ms0_0 t0) (hs0_0 t0) (ms0_1 t0) (hs0_1 t0) (ms0_2 t0) (hs0_2 t0) (Memref.whole main_arg2) (Memref.isWhole_whole _) (Memref.whole main_v6) (Memref.isWhole_whole _) (ms0_3 t0) (hs0_3 t0) (Memref.whole main_v7) (Memref.isWhole_whole _) (ms0_4 t0) (hs0_4 t0) (ms0_5 t0) (hs0_5 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 (iblk m c 3 t0)).1
/-- and what it holds. -/
def bias (c : Dev nD) : Vec F S4x640x512 .f32 := View.canon (biasPieces m c)
/-- The carried copies of the weights. -/
def wk (c : Dev nD) : Vec F S1024x1024 .bf16 := View.canon (wkPieces c (iblk m c 1 t0) (V m c main_arg2))
def wv (c : Dev nD) : Vec F S1024x1024 .bf16 := View.canon (wvPieces c (iblk m c 1 t0) (V m c main_arg2))
def wq (c : Dev nD) : Vec F S1024x1024 .bf16 := View.canon (wqPieces c (iblk m c 2 t0) (V m c main_v6))
def wz (c : Dev nD) : Vec F S1024x1024 .bf16 := View.canon (wzPieces c (iblk m c 2 t0) (V m c main_v6))
def wo (c : Dev nD) : Vec F S1024x1024 .bf16 := View.canon (woPieces c (V m c main_v7))

theorem bias_cover (c : Dev nD) (y : S4x640x512.Idx) : ∃ p ∈ biasPieces m c, y ∈ p.1.set :=
  View.cover_of_tiledL (biasPieces m c) S1x128x128.size (by sl_kernel_rfl) y
theorem wk_cover (c : Dev nD) (g3 : Vec F S1024x1 .f32) (fh : HbBuf0 (F := F) c hbM0_0) (y : S1024x1024.Idx) : ∃ p ∈ wkPieces c g3 fh, y ∈ p.1.set :=
  View.cover_of_tiledL (wkPieces c g3 fh) S1024x512.size (by sl_kernel_rfl) y
theorem wv_cover (c : Dev nD) (g3 : Vec F S1024x1 .f32) (fh : HbBuf0 (F := F) c hbM0_0) (y : S1024x1024.Idx) : ∃ p ∈ wvPieces c g3 fh, y ∈ p.1.set :=
  View.cover_of_tiledL (wvPieces c g3 fh) S512x1024.size (by sl_kernel_rfl) y
theorem wq_cover (c : Dev nD) (g4 : Vec F S1024x1 .f32) (fh : HbBuf0 (F := F) c hbM0_1) (y : S1024x1024.Idx) : ∃ p ∈ wqPieces c g4 fh, y ∈ p.1.set :=
  View.cover_of_tiledL (wqPieces c g4 fh) S512x1024.size (by sl_kernel_rfl) y
theorem wz_cover (c : Dev nD) (g4 : Vec F S1024x1 .f32) (fh : HbBuf0 (F := F) c hbM0_1) (y : S1024x1024.Idx) : ∃ p ∈ wzPieces c g4 fh, y ∈ p.1.set :=
  View.cover_of_tiledL (wzPieces c g4 fh) S512x1024.size (by sl_kernel_rfl) y
theorem wo_cover (c : Dev nD) (fh : HbBuf0 (F := F) c hbM0_2) (y : S1024x1024.Idx) : ∃ p ∈ woPieces c fh, y ∈ p.1.set :=
  View.cover_of_tiledL (woPieces c fh) S1024x512.size (by sl_kernel_rfl) y

/-- The main part's run at point `t`, on a history. -/
def mainAt (c : Dev nD) (t : Fin cfg0.N) (h : Vec F S512x1024 .bf16 × Vec F S1280x512 .bf16) :=
  mainRun c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 (iblk m c 0 t) (iblk m c 4 t) h.1 h.2 (bias m c) (wk m c) (wv m c) (wq m c) (wz m c) (wo m c)

/-- The history a point leaves: -/
def step (c : Dev nD) (t : Fin cfg0.N) (h : Vec F S512x1024 .bf16 × Vec F S1280x512 .bf16) : Vec F S512x1024 .bf16 × Vec F S1280x512 .bf16 :=
  (k0_pay1 (mainRun.sl.v4650 (ms0_0 t) (hs0_0 t) scM0_0 scM0_2 scM0_8 (Memref.isWhole_whole _) (iblk m c 0 t) h.1 (wk m c)),
    k0_pay2 (mainRun.sl.v4654 (ms0_0 t) (hs0_0 t) scM0_0 scM0_3 scM0_9 (Memref.isWhole_whole _) (iblk m c 0 t) h.2 (wv m c)))
/-- at position `n`, if there is such a point, -/
def stepAt (c : Dev nD) (n : ℕ) (h : Vec F S512x1024 .bf16 × Vec F S1280x512 .bf16) : Vec F S512x1024 .bf16 × Vec F S1280x512 .bf16 :=
  if hn : n < cfg0.N then step m c ⟨n, hn⟩ h else h
/-- and the history the main part at position `n` is run on. -/
def used (c : Dev nD) : ℕ → Vec F S512x1024 .bf16 × Vec F S1280x512 .bf16
  | 0 => (zeroK, firstV)
  | n + 1 => if (n + 1) % 8 = 0 then (zeroK, zeroV) else stepAt m c n (used c n)
/-- The history left by position `n`. -/
def left (c : Dev nD) (n : ℕ) : Vec F S512x1024 .bf16 × Vec F S1280x512 .bf16 := stepAt m c n (used m c n)

theorem left_at (c : Dev nD) (t : Fin cfg0.N) : left m c t.val = step m c t (used m c t.val) := by
  unfold left stepAt; rw [dif_pos t.isLt]
theorem used_within (c : Dev nD) (n : ℕ) (hn : n ≠ 0) (h8 : ¬n % 8 = 0) : used m c n = left m c (n - 1) := by
  cases n with
  | zero => exact absurd rfl hn
  | succ n => exact if_neg h8
theorem used_begin (c : Dev nD) (n : ℕ) (hn : n ≠ 0) (h8 : n % 8 = 0) : used m c n = (zeroK, zeroV) := by
  cases n with
  | zero => exact absurd rfl hn
  | succ n => exact if_pos h8

/-- What point `t` leaves in the output block. -/
def outAt (c : Dev nD) (t : Fin cfg0.N) : Vec F S512x1024 .f32 := View.canon (mainAt m c t (used m c t.val)).1.1

theorem out_cover (c : Dev nD) (t : Fin cfg0.N) (h : Vec F S512x1024 .bf16 × Vec F S1280x512 .bf16) (y : S512x1024.Idx) : ∃ p ∈ (mainAt m c t h).1.1, y ∈ p.1.set :=
  View.cover_of_tiledL (mainAt m c t h).1.1 S512x1024.size (by sl_kernel_rfl) y

/-- What a point leaves in the keys, -/
theorem left_keys (c : Dev nD) (t : Fin cfg0.N) (h : Vec F S512x1024 .bf16 × Vec F S1280x512 .bf16) :
    ∃ L, (mainAt m c t h).1.2.1 = histK (step m c t h).1 :: L :=
  ⟨mainRun.sl.H13_5 (ms0_0 t) (hs0_0 t) scM0_0 scM0_8 (Memref.isWhole_whole _) (iblk m c 0 t) h.1 (wk m c), by sl_kernel_rfl⟩
/-- and in the values. -/
theorem left_values (c : Dev nD) (t : Fin cfg0.N) (h : Vec F S512x1024 .bf16 × Vec F S1280x512 .bf16) :
    (mainAt m c t h).1.2.2 = histV (step m c t h).2 :: (((([3, 2, 1, 0] : List (Fin 4)).flatMap fun g => [3, 2, 1, 0].map (vPiece (ms0_0 t) (hs0_0 t) scM0_0 scM0_9 (Memref.isWhole_whole _) (iblk m c 0 t) (wv m c) g)) ++ [histV h.2]) ++ ones) := by
  refine (show (mainAt m c t h).1.2.2 = histV (step m c t h).2 :: vPieces (ms0_0 t) (hs0_0 t) scM0_0 scM0_9 (Memref.isWhole_whole _) (iblk m c 0 t) h.2 (wv m c) 4 from ?_).trans ?_
  · rw [← vPieces_eq]; sl_kernel_rfl
  unfold vPieces
  rw [List.append_assoc]
  rfl

theorem keys_held (c : Dev nD) (t : Fin cfg0.N) (h : Vec F S512x1024 .bf16 × Vec F S1280x512 .bf16) (f : scM0_2.view.ty.Contents (Elt F)) :
    ∃ f', scM0_2.view.writes (Elt F) f (mainAt m c t h).1.2.1 = scM0_2.view.writes (Elt F) f' [histK (step m c t h).1] := by
  obtain ⟨L, hL⟩ := left_keys m c t h
  rw [hL]
  exact rebaseK scM0_2 (Memref.isWhole_whole _) f _ L
theorem values_held (c : Dev nD) (t : Fin cfg0.N) (h : Vec F S512x1024 .bf16 × Vec F S1280x512 .bf16) (f : scM0_3.view.ty.Contents (Elt F)) :
    ∃ f', scM0_3.view.writes (Elt F) f (mainAt m c t h).1.2.2 = scM0_3.view.writes (Elt F) f' (histV (step m c t h).2 :: ones) := by
  rw [left_values]
  refine rebaseV scM0_3 (Memref.isWhole_whole _) f _ _ fun p hp => ?_
  rcases List.mem_append.mp hp with hp | hp
  · obtain ⟨g, -, hp⟩ := List.mem_flatMap.mp hp
    obtain ⟨a, -, rfl⟩ := List.mem_map.mp hp
    exact not_vPiece (ms0_0 t) (hs0_0 t) scM0_0 scM0_9 (Memref.isWhole_whole _) (iblk m c 0 t) (wv m c) g a
  · obtain rfl := List.mem_singleton.mp hp
    exact not_histV h.2

/-! ## The proof data -/

/-- The invariant before position `n`: before the first point what the launch hands over; afterwards the carried tables and
    the history named. -/
def PhiS (c : Dev nD) : (n : ℕ) → n ≤ cfg0.N → sProp 𝕄
  | 0, _ => Pipeline.ΦD osem0 spec0 H0 (V m) c
  | n + 1, hn => iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (left m c n).1]) ∗ (∃ f, scM0_3.view.loc (c : Thread nD τ) ↦[scM0_3.view.set]{fullShare} scM0_3.view.writes (Elt F) f (histV (left m c n).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7)))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (left m c (n - 1)).1]) ∗ (∃ f, scM0_3.view.loc (c : Thread nD τ) ↦[scM0_3.view.set]{fullShare} scM0_3.view.writes (Elt F) f (histV (left m c (n - 1)).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7))) := by
  cases n with
  | zero => exact absurd rfl hz
  | succ n => rfl

/-- The proof data of the pipeline on core `c`: each input's buffer at its block after every point, the output's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t))

/-- The main part, on a point's history. -/
theorem main_body (c : Dev nD) (t : Fin cfg0.N) :
    iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (used m c t.val).1]) ∗ (∃ f, scM0_3.view.loc (c : Thread nD τ) ↦[scM0_3.view.set]{fullShare} scM0_3.view.writes (Elt F) f (histV (used m c t.val).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7)))
        ∗ (∃ W, owes (c : Thread nD τ) 0 W) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d))
      ⊢ wp frame (wpE (defs₀ (F := F)) Variants.none c none) Set.univ (mainProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14) (fun _ =>
        iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (left m c t.val).1]) ∗ (∃ f, scM0_3.view.loc (c : Thread nD τ) ↦[scM0_3.view.set]{fullShare} scM0_3.view.writes (Elt F) f (histV (left m c t.val).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7))) ∗ (dats m 0 c).owesAt () t.succ
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (outAt m c t))) := by
  unfold Dat.owesAt Pipeline.owesWithin
  rw [show (dats m 0 c).owed t.succ = 0 from rfl, left_at]
  iintro ⟨⟨⟨HS0, HS1, HS2, HS3, HS4, HS5, HS6, HS7, HS8, HS9, HS10, HS11, HS12, HS13⟩, Hg, Hq, Hh⟩, ⟨%W, HW⟩, H0, H1, H2, H3, H4, H5⟩
  iapply ((mainAt m c t (used m c t.val)).2 W _)
  isplitl [H0]; · iexact H0
  isplitl [H4]; · iexact H4
  isplitl [H5]; · iexact H5
  isplitl [HS0]; · iexact HS0
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HW]; · iexact HW
  iintro ⟨H0, H4, ⟨%f5, H5⟩, HS0, ⟨%f2, HS2⟩, ⟨%f3, HS3⟩, HS4, HS5, HS6, HS7, HS8, HS9, HS10, HS11, HS12, ⟨%W', HW'⟩⟩
  obtain ⟨fk, hk⟩ := keys_held m c t (used m c t.val) f2
  obtain ⟨fv, hv⟩ := values_held m c t (used m c t.val) f3
  rw [hk, hv]
  isplitl [HS0 HS1 HS2 HS3 HS4 HS5 HS6 HS7 HS8 HS9 HS10 HS11 HS12 HS13 Hg Hq Hh]
  · isplitl [HS0 HS1 HS2 HS3 HS4 HS5 HS6 HS7 HS8 HS9 HS10 HS11 HS12 HS13]
    · isplitl [HS0]; · iexact HS0
      isplitl [HS1]; · iexact HS1
      isplitl [HS2]
      · iexists fk; iexact HS2
      isplitl [HS3]
      · iexists fv; iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (out_cover m c t _)

theorem zero_keys (c : Dev nD) (t : Fin cfg0.N) : (zeroRun (F := F) c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14).1.1 = [histK zeroK] := rfl
theorem zero_values (c : Dev nD) (t : Fin cfg0.N) : (zeroRun (F := F) c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14).1.2 = [histV zeroV] := rfl
theorem ones_values (c : Dev nD) (t : Fin cfg0.N) : (onesRun (F := F) c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14).1 = onesRows := rfl

theorem zeroV_held (f : scM0_3.view.ty.Contents (Elt F)) (hv : Vec F S1280x512 .bf16) :
    ∃ f', scM0_3.view.writes (Elt F) (scM0_3.view.writes (Elt F) f (histV hv :: ones)) [histV zeroV] = scM0_3.view.writes (Elt F) f' (histV zeroV :: ones) := by
  obtain ⟨f', h⟩ := rebaseV scM0_3 (Memref.isWhole_whole _) f zeroV [histV hv] (fun p hp => by obtain rfl := List.mem_singleton.mp hp; exact not_histV hv)
  exact ⟨f', ((View.writes_append _ _ [histV zeroV] (histV hv :: ones)).symm.trans h)⟩

set_option maxHeartbeats 1600000 in
/-- The beginning of a sequence past the first, on any history. -/
theorem begin_body (c : Dev nD) (t : Fin cfg0.N) (h0 : t.val ≠ 0) (h8 : t.val % 8 = 0) (h : Vec F S512x1024 .bf16 × Vec F S1280x512 .bf16) :
    iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (h).1]) ∗ (∃ f, scM0_3.view.loc (c : Thread nD τ) ↦[scM0_3.view.set]{fullShare} scM0_3.view.writes (Elt F) f (histV (h).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7)))
        ∗ (∃ W, owes (c : Thread nD τ) 0 W) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d))
      ⊢ wp frame (wpE (defs₀ (F := F)) Variants.none c none) Set.univ (zeroProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 >>= fun _ => mainProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14) (fun _ =>
        iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (left m c t.val).1]) ∗ (∃ f, scM0_3.view.loc (c : Thread nD τ) ↦[scM0_3.view.set]{fullShare} scM0_3.view.writes (Elt F) f (histV (left m c t.val).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7))) ∗ (dats m 0 c).owesAt () t.succ
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (outAt m c t))) := by
  have HB := main_body m c t
  rw [used_begin m c _ h0 h8] at HB
  rw [wp_bind]
  iintro ⟨⟨⟨HS0, HS1, ⟨%f2, HS2⟩, ⟨%f3, HS3⟩, HS4, HS5, HS6, HS7, HS8, HS9, HS10, HS11, HS12, HS13⟩, Hg, Hq, Hh⟩, HW, H0, H1, H2, H3, H4, H5⟩
  iapply ((zeroRun c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14).2 _ _ _)
  isplitl [HS2]; · iexact HS2
  isplitl [HS3]; · iexact HS3
  iintro ⟨HS2, HS3⟩
  obtain ⟨fv, hv⟩ := zeroV_held f3 h.2
  rw [zero_keys, zero_values, hv]
  iapply HB
  isplitl [HS0 HS1 HS2 HS3 HS4 HS5 HS6 HS7 HS8 HS9 HS10 HS11 HS12 HS13 Hg Hq Hh]
  · isplitl [HS0 HS1 HS2 HS3 HS4 HS5 HS6 HS7 HS8 HS9 HS10 HS11 HS12 HS13]
    · isplitl [HS0]; · iexact HS0
      isplitl [HS1]; · iexact HS1
      isplitl [HS2]
      · iexists _; iexact HS2
      isplitl [HS3]
      · iexists _; iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq]; · iexact Hq
    iexact Hh
  isplitl [HW]; · iexact HW
  isplitl [H0]; · iexact H0
  isplitl [H1]; · iexact H1
  isplitl [H2]; · iexact H2
  isplitl [H3]; · iexact H3
  isplitl [H4]; · iexact H4
  iexact H5

set_option maxHeartbeats 1600000 in
/-- The rows of ones, then the main part, at the first point. -/
theorem ones_body (c : Dev nD) (t : Fin cfg0.N) (h0 : t.val = 0) :
    iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK zeroK]) ∗ (∃ f, scM0_3.view.loc (c : Thread nD τ) ↦[scM0_3.view.set]{fullShare} scM0_3.view.writes (Elt F) f [histV zeroV]) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7)))
        ∗ (∃ W, owes (c : Thread nD τ) 0 W) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d))
      ⊢ wp frame (wpE (defs₀ (F := F)) Variants.none c none) Set.univ (onesProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 >>= fun _ => mainProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14) (fun _ =>
        iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (left m c t.val).1]) ∗ (∃ f, scM0_3.view.loc (c : Thread nD τ) ↦[scM0_3.view.set]{fullShare} scM0_3.view.writes (Elt F) f (histV (left m c t.val).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7))) ∗ (dats m 0 c).owesAt () t.succ
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (outAt m c t))) := by
  have HB := main_body m c t
  rw [show used m c t.val = (zeroK, firstV) by rw [h0]; rfl] at HB
  rw [wp_bind]
  iintro ⟨⟨⟨HS0, HS1, HS2, ⟨%f3, HS3⟩, HS4, HS5, HS6, HS7, HS8, HS9, HS10, HS11, HS12, HS13⟩, Hg, Hq, Hh⟩, HW, H0, H1, H2, H3, H4, H5⟩
  iapply ((onesRun c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14).2 _ _)
  isplitl [HS3]; · iexact HS3
  iintro HS3
  obtain ⟨fv, hv⟩ := rebaseFirst scM0_3 (Memref.isWhole_whole _) f3
  rw [ones_values, hv]
  iapply HB
  isplitl [HS0 HS1 HS2 HS3 HS4 HS5 HS6 HS7 HS8 HS9 HS10 HS11 HS12 HS13 Hg Hq Hh]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]
      · iexists _; iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq]; · iexact Hq
    iexact Hh
  isplitl [HW]; · iexact HW
  isplitl [H0]; · iexact H0
  isplitl [H1]; · iexact H1
  isplitl [H2]; · iexact H2
  isplitl [H3]; · iexact H3
  isplitl [H4]; · iexact H4
  iexact H5

set_option maxHeartbeats 1600000 in
/-- The clearing, the rows of ones, then the main part, at the first point. -/
theorem first_body (c : Dev nD) (t : Fin cfg0.N) (h0 : t.val = 0) :
    iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7)))
        ∗ (∃ W, owes (c : Thread nD τ) 0 W) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d))
      ⊢ wp frame (wpE (defs₀ (F := F)) Variants.none c none) Set.univ (zeroProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 >>= fun _ => onesProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 >>= fun _ => mainProg (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14) (fun _ =>
        iprop(iprop(iprop((∃ d, owns (c : Thread nD τ) scM0_0 fullShare d) ∗ (∃ d, owns (c : Thread nD τ) scM0_1 fullShare d) ∗ (∃ f, scM0_2.view.loc (c : Thread nD τ) ↦[scM0_2.view.set]{fullShare} scM0_2.view.writes (Elt F) f [histK (left m c t.val).1]) ∗ (∃ f, scM0_3.view.loc (c : Thread nD τ) ↦[scM0_3.view.set]{fullShare} scM0_3.view.writes (Elt F) f (histV (left m c t.val).2 :: ones)) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (bias m c) ∗ owns (c : Thread nD τ) scM0_8 fullShare (wk m c) ∗ owns (c : Thread nD τ) scM0_9 fullShare (wv m c) ∗ owns (c : Thread nD τ) scM0_10 fullShare (wq m c) ∗ owns (c : Thread nD τ) scM0_11 fullShare (wz m c) ∗ owns (c : Thread nD τ) scM0_12 fullShare (wo m c) ∗ (∃ d, owns (c : Thread nD τ) scM0_13 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_v6) ∗ hbPt0 c hbM0_2 (V m c main_v7))) ∗ (dats m 0 c).owesAt () t.succ
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (outAt m c t))) := by
  have HB := ones_body m c t h0
  rw [wp_bind]
  iintro ⟨⟨⟨HS0, HS1, ⟨%d2, HS2⟩, ⟨%d3, HS3⟩, HS4, HS5, HS6, HS7, HS8, HS9, HS10, HS11, HS12, HS13⟩, Hg, Hq, Hh⟩, HW, H0, H1, H2, H3, H4, H5⟩
  ihave HT : iprop(∃ f, ⌜scM0_2.view.read (Elt F) f = d2⌝ ∗ (scM0_2.view.loc (c : Thread nD τ) ↦[scM0_2.view.set]{fullShare} f)) $$ [HS2]
  · unfold owns; iexact HS2
  icases HT with ⟨%f2, -, HS2⟩
  ihave HT : iprop(∃ f, ⌜scM0_3.view.read (Elt F) f = d3⌝ ∗ (scM0_3.view.loc (c : Thread nD τ) ↦[scM0_3.view.set]{fullShare} f)) $$ [HS3]
  · unfold owns; iexact HS3
  icases HT with ⟨%f3, -, HS3⟩
  iapply ((zeroRun c (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14).2 _ _ _)
  isplitl [HS2]; · iexact HS2
  isplitl [HS3]; · iexact HS3
  iintro ⟨HS2, HS3⟩
  rw [zero_keys, zero_values]
  iapply HB
  isplitl [HS0 HS1 HS2 HS3 HS4 HS5 HS6 HS7 HS8 HS9 HS10 HS11 HS12 HS13 Hg Hq Hh]
  · isplitl [HS0 HS1 HS2 HS3 HS4 HS5 HS6 HS7 HS8 HS9 HS10 HS11 HS12 HS13]
    · isplitl [HS0]; · iexact HS0
      isplitl [HS1]; · iexact HS1
      isplitl [HS2]
      · iexists _; iexact HS2
      isplitl [HS3]
      · iexists _; iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq]; · iexact Hq
    iexact Hh
  isplitl [HW]; · iexact HW
  isplitl [H0]; · iexact H0
  isplitl [H1]; · iexact H1
  isplitl [H2]; · iexact H2
  isplitl [H3]; · iexact H3
  isplitl [H4]; · iexact H4
  iexact H5

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = PhiS m c (t.val + 1) t.isLt from rfl, PhiS_pos m c _ _ (Nat.succ_ne_zero _), Nat.succ_sub_one,
    after0_0, after0_1, after0_2, after0_3, after0_4, after0_5]
  rw [show (dats m 0 c).owesAt () t.castSucc = Pipeline.owesWithin c 0 _ from rfl]
  rw [PhiS_castSucc m c t]
  unfold Pipeline.owesWithin
  by_cases hz : t.val = 0
  · obtain rfl : t = t0 := Fin.ext hz
    have HB := first_body m c t0 rfl
    rw [PhiS_zero m c _ _ rfl, PhiD0_eq]
    rw [show bodyAt0 (F := F) t0 = _ from body_first (grid0.coords t0) (ms0_0 t0) (hs0_0 t0) (ms0_1 t0) (hs0_1 t0) (ms0_2 t0) (hs0_2 t0) (Memref.whole main_arg2) (Memref.isWhole_whole _) (Memref.whole main_v6) (Memref.isWhole_whole _) (ms0_3 t0) (hs0_3 t0) (Memref.whole main_v7) (Memref.isWhole_whole _) (ms0_4 t0) (hs0_4 t0) (ms0_5 t0) (hs0_5 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 ((hcond0_0 t0).mpr rfl) ((hcond0_1 t0).mpr rfl)]
    rw [wp_bind]
    iintro ⟨⟨⟨HS0, HS1, HS2, HS3, HS4, HS5, HS6, HS7, HS8, HS9, HS10, HS11, HS12, HS13⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩⟩
    iapply ((biasRun c (grid0.coords t0) (ms0_0 t0) (hs0_0 t0) (ms0_1 t0) (hs0_1 t0) (ms0_2 t0) (hs0_2 t0) (Memref.whole main_arg2) (Memref.isWhole_whole _) (Memref.whole main_v6) (Memref.isWhole_whole _) (ms0_3 t0) (hs0_3 t0) (Memref.whole main_v7) (Memref.isWhole_whole _) (ms0_4 t0) (hs0_4 t0) (ms0_5 t0) (hs0_5 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 (iblk m c 3 t0)).2 _)
    isplitl [H3]; · iexact H3
    isplitl [HS7]; · iexact HS7
    iintro ⟨H3, ⟨%es7, HS7⟩⟩
    iapply (streamRun c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (iblk m c 1 t0) (iblk m c 2 t0) (V m c main_arg2) (V m c main_v6) (V m c main_v7) _ _)
    isplitl [H1]; · iexact H1
    isplitl [H2]; · iexact H2
    isplitl [HS8]; · iexact HS8
    isplitl [HS9]; · iexact HS9
    isplitl [HS10]; · iexact HS10
    isplitl [HS11]; · iexact HS11
    isplitl [HS12]; · iexact HS12
    isplitl [HS13]; · iexact HS13
    isplitl [Hq0]; · iexact Hq0
    isplitl [Hq1]; · iexact Hq1
    isplitl [Hh0]; · iexact Hh0
    isplitl [Hh1]; · iexact Hh1
    isplitl [Hh2]; · iexact Hh2
    isplitl [HW]; · iexists W; iexact HW
    iintro ⟨H1, H2, ⟨%es8, HS8⟩, ⟨%es9, HS9⟩, ⟨%es10, HS10⟩, ⟨%es11, HS11⟩, ⟨%es12, HS12⟩, HS13, Hq0, Hq1, Hh0, Hh1, Hh2, HW⟩
    iapply HB
    isplitl [HS0 HS1 HS2 HS3 HS4 HS5 HS6 HS7 HS8 HS9 HS10 HS11 HS12 HS13 Hg Hq0 Hq1 Hh0 Hh1 Hh2]
    · isplitl [HS0 HS1 HS2 HS3 HS4 HS5 HS6 HS7 HS8 HS9 HS10 HS11 HS12 HS13]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]
        · unfold owns; iexists _; isplitr
          swap; · iexact HS7
          ipureintro; exact View.read_writes_eq_canon _ _ _ (bias_cover m c)
        isplitl [HS8]
        · unfold owns; iexists _; isplitr
          swap; · iexact HS8
          ipureintro; exact View.read_writes_eq_canon _ _ _ (wk_cover c _ _)
        isplitl [HS9]
        · unfold owns; iexists _; isplitr
          swap; · iexact HS9
          ipureintro; exact View.read_writes_eq_canon _ _ _ (wv_cover c _ _)
        isplitl [HS10]
        · unfold owns; iexists _; isplitr
          swap; · iexact HS10
          ipureintro; exact View.read_writes_eq_canon _ _ _ (wq_cover c _ _)
        isplitl [HS11]
        · unfold owns; iexists _; isplitr
          swap; · iexact HS11
          ipureintro; exact View.read_writes_eq_canon _ _ _ (wz_cover c _ _)
        isplitl [HS12]
        · unfold owns; iexists _; isplitr
          swap; · iexact HS12
          ipureintro; exact View.read_writes_eq_canon _ _ _ (wo_cover c _)
        iexact HS13
      isplitl [Hg]; · iexact Hg
      isplitl [Hq0 Hq1]
      · isplitl [Hq0]; · iexact Hq0
        iexact Hq1
      isplitl [Hh0]; · iexact Hh0
      isplitl [Hh1]; · iexact Hh1
      iexact Hh2
    isplitl [HW]; · iexact HW
    isplitl [H0]; · iexact H0
    isplitl [H1]; · iexact H1
    isplitl [H2]; · iexact H2
    isplitl [H3]; · iexact H3
    isplitl [H4]; · iexact H4
    iexists _; iexact H5
  by_cases h8 : t.val % 8 = 0
  · have HB := begin_body m c t hz h8 (left m c (t.val - 1))
    rw [PhiS_pos m c _ _ hz]
    rw [show bodyAt0 (F := F) t = _ from body_begin (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 (fun h => hz ((hcond0_0 t).mp h)) ((hcond0_1 t).mpr h8)]
    iintro ⟨HP, ⟨%W, -, HW⟩, ⟨%d0, H0⟩, ⟨%d1, H1⟩, ⟨%d2, H2⟩, ⟨%d3, H3⟩, ⟨%d4, H4⟩, ⟨%d5, H5⟩⟩
    iapply HB
    isplitl [HP]; · iexact HP
    isplitl [HW]; · iexists W; iexact HW
    isplitl [H0]; · iexact H0
    isplitl [H1]; · iexact H1
    isplitl [H2]; · iexact H2
    isplitl [H3]; · iexact H3
    isplitl [H4]; · iexact H4
    iexists _; iexact H5
  · have HB := main_body m c t
    rw [used_within m c _ hz h8] at HB
    rw [PhiS_pos m c _ _ hz]
    rw [show bodyAt0 (F := F) t = _ from body_within (grid0.coords t) (ms0_0 t) (hs0_0 t) (ms0_1 t) (hs0_1 t) (ms0_2 t) (hs0_2 t) (Memref.whole main_arg2) (Memref.isWhole_whole _) (Memref.whole main_v6) (Memref.isWhole_whole _) (ms0_3 t) (hs0_3 t) (Memref.whole main_v7) (Memref.isWhole_whole _) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 (fun h => hz ((hcond0_0 t).mp h)) (fun h => h8 ((hcond0_1 t).mp h))]
    iintro ⟨HP, ⟨%W, -, HW⟩, ⟨%d0, H0⟩, ⟨%d1, H1⟩, ⟨%d2, H2⟩, ⟨%d3, H3⟩, ⟨%d4, H4⟩, ⟨%d5, H5⟩⟩
    iapply HB
    isplitl [HP]; · iexact HP
    isplitl [HW]; · iexists W; iexact HW
    isplitl [H0]; · iexact H0
    isplitl [H1]; · iexact H1
    isplitl [H2]; · iexact H2
    isplitl [H3]; · iexact H3
    isplitl [H4]; · iexact H4
    iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- and after the last the carried copies' contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiD0_eq]
  iintro ⟨⟨HS0, HS1, ⟨%f2, HS2⟩, ⟨%f3, HS3⟩, HS4, HS5, HS6, HS7, HS8, HS9, HS10, HS11, HS12, HS13⟩, Hg, Hq, Hh⟩
  isplitl [HS0 HS1 HS2 HS3 HS4 HS5 HS6 HS7 HS8 HS9 HS10 HS11 HS12 HS13]
  · isplitl [HS0]; · iexact HS0
    isplitl [HS1]; · iexact HS1
    isplitl [HS2]
    · iexists _; unfold owns; iexists _; isplitr; swap; · iexact HS2
      ipureintro; rfl
    isplitl [HS3]
    · iexists _; unfold owns; iexists _; isplitr; swap; · iexact HS3
      ipureintro; rfl
    isplitl [HS4]; · iexact HS4
    isplitl [HS5]; · iexact HS5
    isplitl [HS6]; · iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    iexact HS13
  isplitl [Hg]; · iexact Hg
  isplitl [Hq]; · iexact Hq
  iexact Hh

/-! ## The run -/

-- the launch's implicit arguments are found by unifying its conclusion with this one, which takes unfolding plain
-- definitions in a metavariable's type
set_option backward.isDefEq.respectTransparency.types false in
/-- The launch: the region's post, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run ends with every semaphore counter at zero and the arguments unchanged; the result is the array the
    pipeline's output window wrote. -/
theorem frame : θ_run defs (onTc (τ := τ) (main (F := F))) ⟨m, fun _ => 0, ρ⟩ (fun r => (∀ c : Dev nD,
      r.2.mem ((c.tc : Thread nD τ).loc main_v9) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 5,
      ((h.1 c).2 main_arg0 (Pipeline.mem_restRefs_of main_arg0 (by decide) (by decide))).trans (V_of_ne m c main_arg0 (by decide)),
      ((h.1 c).2 main_arg1 (Pipeline.mem_restRefs_of main_arg1 (by decide) (by decide))).trans (V_of_ne m c main_arg1 (by decide)),
      ((h.1 c).2 main_arg2 (Pipeline.mem_restRefs_of main_arg2 (by decide) (by decide))).trans (V_of_ne m c main_arg2 (by decide)),
      ((h.1 c).2 main_arg3 (Pipeline.mem_restRefs_of main_arg3 (by decide) (by decide))).trans (V_of_ne m c main_arg3 (by decide)),
      ((h.1 c).2 main_arg4 (Pipeline.mem_restRefs_of main_arg4 (by decide) (by decide))).trans (V_of_ne m c main_arg4 (by decide)),
      ((h.1 c).2 main_arg5 (Pipeline.mem_restRefs_of main_arg5 (by decide) (by decide))).trans (V_of_ne m c main_arg5 (by decide)),
      ((h.1 c).2 main_arg6 (Pipeline.mem_restRefs_of main_arg6 (by decide) (by decide))).trans (V_of_ne m c main_arg6 (by decide)),
      ((h.1 c).2 main_arg7 (Pipeline.mem_restRefs_of main_arg7 (by decide) (by decide))).trans (V_of_ne m c main_arg7 (by decide))⟩, h.2⟩) (run_main m ρ)

end Cert.Kernel2Ideal.Att

end
-- ==== Proof.AttFrames.lean ====
/- The frames of the second call: the kernel's and the idealized kernel's from the one run of Proof/AttRun.lean, the reference's from its generated run. -/
module

public import proofs.«01_k».proof.Defs
public import proofs.«01_k».proof.Proof.AttRun
public import proofs.«01_k».proof.Proof.Gen.Kernel2
public import proofs.«01_k».proof.Proof.Gen.Reference2Ideal.Run

@[expose] public section

noncomputable section

namespace Cert.Proof.Att

open Idealize.ShloMosaic Idealize.SL.Sem

/-- The idealized kernel ends with its arguments unchanged and every counter at zero. -/
theorem frame_ideal : Cert.quiescent_Kernel2Ideal := fun m ρ _ =>
  (θ_run Cert.Kernel2Ideal.defs _ _).mono (fun _ h => ⟨fun c => (h.1 c).2, h.2⟩) (Cert.Kernel2Ideal.Att.frame (F := Ideal) m ρ)

section
-- the two programs' texts are compared by unfolding their definitions
set_option maxRecDepth 100000
set_option backward.isDefEq.respectTransparency false

/-- A named constant read as the number its literal writes: what the kernel's own text has at its place. -/
local instance : Named Bits where
  named _ _ {φ} bits := Scalar.ofBits φ bits

/-- The two programs' kernels are one text but for the named constants, -/
theorem rows : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

/-- and so are their tables of bodies. -/
theorem tables : Cert.Kernel2.defs (F := Bits) = Cert.Kernel2Ideal.defs (F := Bits) := by
  unfold Cert.Kernel2.defs Cert.Kernel2Ideal.defs
  exact congrArg _ rows

/-- So does the kernel, whose text is the same. -/
theorem frame_kernel : Cert.quiescent_Kernel2 := fun m ρ _ =>
  (congrArg (fun d => θ_run d (onTc (τ := Cert.Kernel2.τ) (Cert.Kernel2.main (F := Bits))) ⟨m, fun _ => 0, ρ⟩ _) tables).mpr
    ((θ_run Cert.Kernel2Ideal.defs _ _).mono (fun _ h => And.intro (fun c => (h.1 c).2) h.2) (Cert.Kernel2Ideal.Att.frame (F := Bits) m ρ))

end

/-- So does the reference. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Proof.Att

end
-- ==== Proof.AttSpec.lean ====
module

public import proofs.«01_k».proof.Proof.Spec

@[expose] public section

noncomputable section

namespace Cert.Spec.Att

open Idealize.ShloMosaic Cert.Spec

/-! # Attention, row by row

The mathematics both programs come down to, on a sequence of rows of extended reals. The scores are real, so the weights are taken
as real numbers, not divided by their sum. -/

/-- A row over the root of its mean square. -/
def unit (x : Fin 1024 → EReal) (k : Fin 1024) : EReal :=
  x k * Ideal.rsqrt (Ideal.div (∑ k, x k * x k) (Ideal.ofBits .f32 0x44800000#32) + Ideal.ofBits .f32 0x358637BD#32)

theorem norm_eq (x g : Fin 1024 → EReal) (k : Fin 1024) : norm x g k = unit x k * g k := rfl

/-- A product with a weight. -/
def proj (h : Fin 1024 → EReal) (w : Fin 1024 → Fin 2048 → EReal) (o : Fin 2048) : EReal := ∑ k, h k * w k o

/-- A product with a weight whose rows are scaled by the gain is the product of the normed row with the weight. -/
theorem proj_scaled (x g : Fin 1024 → EReal) (w : Fin 1024 → Fin 2048 → EReal) (o : Fin 2048) :
    ∑ k, unit x k * (w k o * g k) = proj (norm x g) w o :=
  Finset.sum_congr rfl fun k _ => by rw [norm_eq, mul_assoc, mul_comm (w k o)]

/-- The two halves of a product's columns. -/
abbrev lo (e : Fin 1024) : Fin 2048 := ⟨e.val, by omega⟩
abbrev hi (e : Fin 1024) : Fin 2048 := ⟨1024 + e.val, by omega⟩
/-- Channel `d` of head `h`. -/
abbrev chan (h : Fin 16) (d : Fin 64) : Fin 1024 := ⟨64 * h.val + d.val, by omega⟩

/-- Where the bias of a key is: the distance back to it, clipped. -/
def dist (i j : Fin 4096) : Fin 513 := ⟨min (i.val + 256 - j.val) 512, by omega⟩
/-- Each chunk of 64 sees itself and the eight before it. -/
def seen (i j : Fin 4096) : Prop := j.val / 64 ≤ i.val / 64 ∧ i.val / 64 ≤ j.val / 64 + 8
instance (i j : Fin 4096) : Decidable (seen i j) := by unfold seen; infer_instance

section
variable (x : Fin 4096 → Fin 1024 → EReal) (gk gb : Fin 1024 → EReal) (wkv wqz : Fin 1024 → Fin 2048 → EReal) (bias : Fin 16 → Fin 513 → EReal)
  (wo : Fin 1024 → Fin 1024 → EReal) (gf : Fin 1024 → EReal)

def key (j : Fin 4096) (e : Fin 1024) : EReal := proj (norm (x j) gk) wkv (lo e)
def value (j : Fin 4096) (e : Fin 1024) : EReal := proj (norm (x j) gk) wkv (hi e)
def query (i : Fin 4096) (e : Fin 1024) : EReal := proj (norm (x i) gb) wqz (lo e)
def gate (i : Fin 4096) (e : Fin 1024) : EReal := silu (proj (norm (x i) gb) wqz (hi e))
/-- The product of a query and a key. -/
def dot (h : Fin 16) (i j : Fin 4096) : EReal := ∑ d : Fin 64, key x gk wkv j (chan h d) * query x gb wqz i (chan h d)
/-- The score of a key. -/
def score (h : Fin 16) (i j : Fin 4096) : ℝ := (dot x gk gb wkv wqz h i j).toReal / 8 + (bias h (dist i j)).toReal
/-- Its weight. -/
def weight (h : Fin 16) (i j : Fin 4096) : ℝ := if seen i j then Real.exp (score x gk gb wkv wqz bias h i j) else 0
def total (h : Fin 16) (i : Fin 4096) : ℝ := ∑ j, weight x gk gb wkv wqz bias h i j
/-- The values by their weights. -/
def mix (h : Fin 16) (i : Fin 4096) (d : Fin 64) : EReal :=
  (∑ j, value x gk wkv j (chan h d) * ((weight x gk gb wkv wqz bias h i j : ℝ) : EReal)) * (((total x gk gb wkv wqz bias h i)⁻¹ : ℝ) : EReal)
/-- The gated channels. -/
def gated (i : Fin 4096) (e : Fin 1024) : EReal :=
  mix x gk gb wkv wqz bias ⟨e.val / 64, by omega⟩ i ⟨e.val % 64, by omega⟩ * gate x gb wqz i e
def result (i : Fin 4096) (n : Fin 1024) : EReal :=
  norm (fun n => x i n + ∑ e, gated x gk gb wkv wqz bias i e * wo e n) gf n

variable (hgk : ∀ k, IsReal (gk k)) (hgb : ∀ k, IsReal (gb k)) (hwk : ∀ k e, IsReal (wkv k (lo e))) (hwq : ∀ k o, IsReal (wqz k o))

include hgk hwk in
theorem key_isReal (j : Fin 4096) (e : Fin 1024) : IsReal (key x gk wkv j e) := IsReal.sum fun k => (norm_isReal _ _ hgk k).mul (hwk k e)
include hgb hwq in
theorem query_isReal (i : Fin 4096) (e : Fin 1024) : IsReal (query x gb wqz i e) := IsReal.sum fun k => (norm_isReal _ _ hgb k).mul (hwq k _)
include hgb hwq in
theorem inner_isReal (i : Fin 4096) (e : Fin 1024) : IsReal (proj (norm (x i) gb) wqz (hi e)) := IsReal.sum fun k => (norm_isReal _ _ hgb k).mul (hwq k _)
include hgk hgb hwk hwq in
theorem dot_isReal (h : Fin 16) (i j : Fin 4096) : IsReal (dot x gk gb wkv wqz h i j) :=
  IsReal.sum fun d => (key_isReal x gk wkv hgk hwk j _).mul (query_isReal x gb wqz hgb hwq i _)

theorem weight_nonneg (h : Fin 16) (i j : Fin 4096) : 0 ≤ weight x gk gb wkv wqz bias h i j := by
  unfold weight; split
  · exact (Real.exp_pos _).le
  · exact le_rfl
theorem total_pos (h : Fin 16) (i : Fin 4096) : 0 < total x gk gb wkv wqz bias h i := by
  refine Finset.sum_pos' (fun j _ => weight_nonneg x gk gb wkv wqz bias h i j) ⟨i, Finset.mem_univ i, ?_⟩
  unfold weight; rw [if_pos ⟨le_rfl, by omega⟩]; exact Real.exp_pos _
end

/-! ## Real numbers among the extended reals -/

theorem IsReal.eq {e : EReal} (h : IsReal e) : e = ((e.toReal : ℝ) : EReal) := by
  obtain ⟨r, rfl⟩ := h; rw [EReal.toReal_coe]

theorem coe_sum {n : ℕ} (f : Fin n → ℝ) : ((∑ i, f i : ℝ) : EReal) = ∑ i, (f i : EReal) :=
  map_sum (⟨⟨Real.toEReal, rfl⟩, EReal.coe_add⟩ : ℝ →+ EReal) f Finset.univ

/-- A nonnegative real multiple of a sum. -/
theorem sum_mul_coe {n : ℕ} (f : Fin n → EReal) (c : ℝ) (hc : 0 ≤ c) : (∑ i, f i) * (c : EReal) = ∑ i, f i * (c : EReal) := by
  induction n with
  | zero => rw [Fin.sum_univ_zero, Fin.sum_univ_zero, zero_mul]
  | succ n ih =>
    rw [Fin.sum_univ_succ, Fin.sum_univ_succ, EReal.right_distrib_of_nonneg_of_ne_top (EReal.coe_nonneg.mpr hc) (EReal.coe_ne_top c), ih]

/-- A real multiple of a sum of reals. -/
theorem sum_mul_of_isReal {n : ℕ} (f : Fin n → EReal) (hf : ∀ i, IsReal (f i)) (c : ℝ) : ∑ i, f i * (c : EReal) = (∑ i, f i) * (c : EReal) := by
  choose r hr using hf
  obtain rfl : f = fun i => (r i : EReal) := funext hr
  dsimp only
  rw [← coe_sum, ← EReal.coe_mul, Finset.sum_mul, coe_sum]
  exact Finset.sum_congr rfl fun i _ => (EReal.coe_mul _ _).symm

/-- Values by multiples of their weights, over the sum of the multiples. -/
theorem mix_of_multiples {n : ℕ} (v : Fin n → EReal) (w : Fin n → ℝ) (C : ℝ) (hC : 0 < C) (hw : 0 < ∑ j, w j) :
    (∑ j, v j * ((w j * C : ℝ) : EReal)) * Ideal.div 1 (∑ j, ((w j * C : ℝ) : EReal)) = (∑ j, v j * (w j : EReal)) * (((∑ j, w j)⁻¹ : ℝ) : EReal) := by
  have e1 : ∑ j, v j * ((w j * C : ℝ) : EReal) = (∑ j, v j * (w j : EReal)) * (C : EReal) := by
    rw [sum_mul_coe _ _ hC.le]
    exact Finset.sum_congr rfl fun j _ => by rw [EReal.coe_mul, mul_assoc]
  have e2 : ∑ j, ((w j * C : ℝ) : EReal) = (((∑ j, w j) * C : ℝ) : EReal) := by rw [Finset.sum_mul, coe_sum]
  rw [e1, e2, Ideal.div_coe (by positivity), one_mul, mul_assoc, ← EReal.coe_mul]
  congr 2
  field_simp

/-- Values by their weights each divided by the sum of the multiples. -/
theorem mix_of_quotients {n : ℕ} (v : Fin n → EReal) (w : Fin n → ℝ) (C : ℝ) (hC : 0 < C) (hw : 0 < ∑ j, w j) :
    ∑ j, v j * Ideal.div ((w j * C : ℝ) : EReal) (∑ j, ((w j * C : ℝ) : EReal)) = (∑ j, v j * (w j : EReal)) * (((∑ j, w j)⁻¹ : ℝ) : EReal) := by
  have e2 : ∑ j, ((w j * C : ℝ) : EReal) = (((∑ j, w j) * C : ℝ) : EReal) := by rw [Finset.sum_mul, coe_sum]
  rw [e2, sum_mul_coe _ _ (by positivity)]
  refine Finset.sum_congr rfl fun j _ => ?_
  rw [Ideal.div_coe (by positivity), mul_assoc, ← EReal.coe_mul, ← EReal.coe_mul]
  congr 2
  field_simp

/-- A weight by the natural exponential, measured from a real number. -/
theorem exp_sub (s M : ℝ) : Ideal.exp ((s : EReal) - (M : EReal)) = ((Real.exp s * Real.exp (-M) : ℝ) : EReal) := by
  rw [← EReal.coe_sub, Ideal.exp_coe, ← Real.exp_add, sub_eq_add_neg]

/-- A weight by the exponential to base two, of a score in those units. -/
theorem exp2_sub (s m : ℝ) : Ideal.exp2 (((s * (Real.log 2)⁻¹ : ℝ) : EReal) - (m : EReal)) = ((Real.exp s * Real.exp (-(m * Real.log 2)) : ℝ) : EReal) := by
  rw [← EReal.coe_sub, Ideal.exp2_coe, ← Real.exp_add]
  congr 1
  show (2 : ℝ) ^ (_ : ℝ) = _
  have h2 : Real.log 2 ≠ 0 := (Real.log_pos (by norm_num)).ne'
  rw [Real.rpow_def_of_pos (by norm_num)]
  congr 1
  field_simp
  ring

/-- A sum over a window of 640 keys that ends 128 past `b`, as one over the sequence. -/
theorem sum_window (b : ℕ) (hb : b + 128 ≤ 4096) (f : Fin 640 → EReal) (g : Fin 4096 → EReal)
    (hin : ∀ (k : Fin 640) (j : Fin 4096), b + k.val = 512 + j.val → f k = g j) (hbefore : ∀ k : Fin 640, b + k.val < 512 → f k = 0)
    (hout : ∀ j : Fin 4096, (j.val + 512 < b ∨ b + 128 ≤ j.val) → g j = 0) : ∑ k, f k = ∑ j, g j := by
  rw [← Finset.sum_subset (Finset.filter_subset (fun k : Fin 640 => 512 ≤ b + k.val) Finset.univ) fun k _ hk => hbefore k (by simpa using hk)]
  refine Finset.sum_of_injOn (fun k : Fin 640 => (⟨(b + k.val - 512) % 4096, by omega⟩ : Fin 4096)) ?_ (fun _ _ => Finset.mem_coe.mpr (Finset.mem_univ _)) ?_ ?_
  · intro k hk k' hk' he
    have hk : 512 ≤ b + k.val := by simpa using hk
    have hk' : 512 ≤ b + k'.val := by simpa using hk'
    have := congrArg Fin.val he
    dsimp only at this
    exact Fin.ext (by omega)
  · intro j _ hj
    refine hout j (by_contra fun hn => hj ?_)
    refine ⟨⟨j.val + 512 - b, by omega⟩, ?_, Fin.ext ?_⟩
    · simp; omega
    · dsimp only; omega
  · intro k hk
    have hk : 512 ≤ b + k.val := by simpa using hk
    exact hin k _ (by dsimp only; omega)

/-- A sum over a group's 256 rows in which one head's are not zero. -/
theorem sum_head (f : Fin 256 → EReal) (a : Fin 4) (h0 : ∀ l : Fin 256, l.val / 64 ≠ a.val → f l = 0) : ∑ l, f l = ∑ d : Fin 64, f ⟨64 * a.val + d.val, by omega⟩ := by
  refine (Finset.sum_of_injOn (fun d : Fin 64 => (⟨64 * a.val + d.val, by omega⟩ : Fin 256)) ?_ (fun _ _ => Finset.mem_coe.mpr (Finset.mem_univ _)) ?_ (fun _ _ => rfl)).symm
  · intro d _ d' _ he
    have := congrArg Fin.val he
    dsimp only at this
    exact Fin.ext (by omega)
  · intro l _ hl
    refine h0 l fun he => hl ⟨⟨l.val % 64, by omega⟩, Finset.mem_coe.mpr (Finset.mem_univ _), Fin.ext ?_⟩
    dsimp only; omega

/-- The greatest of a family below the top element that has an element above the bottom one is real. -/
theorem isReal_fold {n : ℕ} (f : Fin n → EReal) (ht : ∀ i, f i ≠ ⊤) (i : Fin n) (hi : f i ≠ ⊥) : IsReal ((Finset.univ : Finset (Fin n)).fold max ⊥ f) := by
  have hb : (Finset.univ : Finset (Fin n)).fold max ⊥ f ≠ ⊤ := by
    refine ne_of_lt ((Finset.fold_max_lt ⊤).mpr ⟨bot_lt_top, fun i _ => lt_top_iff_ne_top.mpr (ht i)⟩)
  have hl : f i ≤ (Finset.univ : Finset (Fin n)).fold max ⊥ f := (Finset.le_fold_max _).mpr (Or.inr ⟨i, Finset.mem_univ i, le_rfl⟩)
  exact ⟨_, (EReal.coe_toReal hb fun h => hi (le_bot_iff.mp (h ▸ hl))).symm⟩

end Cert.Spec.Att

end
-- ==== Proof.AttOps.lean ====
module

public import proofs.«01_k».proof.Proof.AttStages
public import proofs.«01_k».proof.Proof.AttSpec

@[expose] public section

set_option maxRecDepth 16384

noncomputable section

namespace Cert.Kernel2Ideal.Att

open Idealize.ShloMosaic Cert.Kernel2Ideal Cert.Kernel2Ideal.Gen

/-! # The stages' operations at an index -/

theorem norm_apply (x : Vec Ideal S512x1024 .f32) (r : Fin 512) (l : Fin 1024) :
    k0_pay152 x (ix2 r l) = Spec.Att.unit (fun k => x (ix2 r k)) l := by
  pointwise [k0_pay152]
  rfl

theorem key_apply (h : Vec Ideal S512x1024 .bf16) (w : Vec Ideal S1024x256 .bf16) (r : Fin 512) (l : Fin 256) :
    k0_pay156 h w (ix2 r l) = ∑ k, h (ix2 r k) * w (ix2 k l) := by
  pointwise [k0_pay156]

theorem query_apply (w : Vec Ideal S256x1024 .bf16) (h : Vec Ideal S512x1024 .bf16) (l : Fin 256) (r : Fin 512) :
    k0_pay157 w h (ix2 l r) = (∑ k, w (ix2 l k) * h (ix2 r k)) * (((8 * Real.log 2)⁻¹ : ℝ) : EReal) := by
  pointwise [k0_pay157]
  rfl

theorem value_apply (w : Vec Ideal S256x1024 .bf16) (h : Vec Ideal S512x1024 .bf16) (l : Fin 256) (r : Fin 512) :
    k0_pay158 w h (ix2 l r) = ∑ k, w (ix2 l k) * h (ix2 r k) := by
  pointwise [k0_pay158]

theorem gate_apply (w : Vec Ideal S256x1024 .bf16) (h : Vec Ideal S512x1024 .bf16) (l : Fin 256) (r : Fin 512) :
    k0_pay163 w h (ix2 l r) = Spec.silu (∑ k, w (ix2 l k) * h (ix2 r k)) := by
  pointwise [k0_pay163]
  rfl

theorem headRows_apply (a : Fin 4) (v : FVec Ideal S256x512 .bf16) (d : Fin 64) (r : Fin 512) : headRows a v (ix2 d r) = v (ix2 ⟨64 * a.val + d.val, by omega⟩ r) := by
  pointwise [headRows]

/-- The head that a row of a group's queries belongs to. -/
theorem head_apply (i : grid0.Coords) (l : Fin 256) (q : Fin 128) : mainRun.sl.r (F := Ideal) i (ix2 l q) = BitVec.ofNat 32 (l.val / 64) := by
  show k0_pay155 (iota .tc S256x128 32 [0] iota_S256x128_d0_w32) 64#32 k0_pay154 0#32 (ix2 l q) = _
  pointwise [k0_pay155, k0_pay154]
  revert l; decide +kernel

theorem pen_apply (i : grid0.Coords) : k0_pay153 (F := Ideal) i = if (i 1).val = 0 then (⊥ : EReal) else 0 := by
  have h : ∀ n : Fin 8, Scalar.cmpi .eq (BitVec.ofNat 32 n.val) 0#32 = if n.val = 0 then 1#1 else 0#1 := by decide +kernel
  have := h (i 1)
  unfold k0_pay153
  dsimp only
  rw [this]
  split
  · rfl
  · show Ideal.ofBits .f32 0x00000000#32 = 0
    exact Ideal.ofBits_zero _

theorem block_apply (s : FVec Ideal S640x512 .f32) (b : Fin 5) (r : Fin 128) (q : Fin 512) : block s b (ix2 r q) = s (ix2 ⟨128 * b.val + r.val, by omega⟩ q) := by
  pointwise [block]

theorem fold_apply (v : FVec Ideal S128x512 .f32) (r : Fin 8) (q : Fin 512) :
    fold v (ix2 r q) =
      max (max (max (max (v (ix2 ⟨r.val, by omega⟩ q)) (v (ix2 ⟨8 + r.val, by omega⟩ q))) (max (v (ix2 ⟨16 + r.val, by omega⟩ q)) (v (ix2 ⟨24 + r.val, by omega⟩ q))))
          (max (max (v (ix2 ⟨32 + r.val, by omega⟩ q)) (v (ix2 ⟨40 + r.val, by omega⟩ q))) (max (v (ix2 ⟨48 + r.val, by omega⟩ q)) (v (ix2 ⟨56 + r.val, by omega⟩ q)))))
        (max (max (max (v (ix2 ⟨64 + r.val, by omega⟩ q)) (v (ix2 ⟨72 + r.val, by omega⟩ q))) (max (v (ix2 ⟨80 + r.val, by omega⟩ q)) (v (ix2 ⟨88 + r.val, by omega⟩ q))))
          (max (max (v (ix2 ⟨96 + r.val, by omega⟩ q)) (v (ix2 ⟨104 + r.val, by omega⟩ q))) (max (v (ix2 ⟨112 + r.val, by omega⟩ q)) (v (ix2 ⟨120 + r.val, by omega⟩ q))))) := by
  pointwise [fold, eight]

theorem top_apply (pen : EReal) (s : FVec Ideal S640x512 .f32) (j : Fin 4) (q : Fin 512) :
    top (F := Ideal) pen s j (ix2 0 q) = (Finset.univ : Finset (Fin 8)).fold max ⊥ fun r =>
      max (max (max (max (folded (F := Ideal) pen s j 0 (ix2 r q)) (folded (F := Ideal) pen s j 1 (ix2 r q))) (folded (F := Ideal) pen s j 2 (ix2 r q))) (folded (F := Ideal) pen s j 3 (ix2 r q))) (folded (F := Ideal) pen s j 4 (ix2 r q)) := by
  pointwise [top]
  rw [show Ideal.ofBits .f32 0xFF800000#32 = ⊥ by simp [Ideal.ofBits, Ideal.ieee]]

theorem weighed_apply (p : FVec Ideal S640x512 .bf16) (a : Fin 4) (vt : FVec Ideal S80x640 .bf16) (r : Fin 80) (q : Fin 128) :
    weighed p a vt (ix2 r q) = ∑ k, vt (ix2 r k) * p (ix2 k ⟨128 * a.val + q.val, by omega⟩) := by
  pointwise [weighed]

theorem headOut_apply (p : FVec Ideal S640x512 .bf16) (a : Fin 4) (vt : FVec Ideal S80x640 .bf16) (z : FVec Ideal S64x128 .f32) (d : Fin 64) (q : Fin 128) :
    headOut p a vt z (ix2 d q) = weighed p a vt (ix2 ⟨d.val, by omega⟩ q) * Ideal.div 1 (weighed p a vt (ix2 64 q)) * z (ix2 d q) := by
  pointwise [headOut]

theorem last_apply (x : Vec Ideal S512x1024 .f32) (o : Vec Ideal S1024x512 .bf16) (w : Vec Ideal S1024x1024 .bf16) (g : Vec Ideal S1x1024 .f32) (r : Fin 512) (n : Fin 1024) :
    k0_pay788 (k0_pay786 x) (k0_pay787 o) w g (ix2 r n) = Spec.norm (fun n => x (ix2 r n) + ∑ k, o (ix2 k r) * w (ix2 k n)) (fun n => g (ix2 0 n)) n := by
  pointwise [k0_pay788, k0_pay786, k0_pay787]
  rfl

/-- A head's row of the queries, masked by it. -/
theorem masked_apply (i : grid0.Coords) (qt : Vec Ideal S256x128 .bf16) (a : Fin 4) (l : Fin 256) (q : Fin 128) (x : EReal) :
    x * Scalar.select (IntOp.cmpi .eq (mainRun.sl.r (F := Ideal) i (ix2 l q)) (BitVec.ofNat 32 a.val)) (qt (ix2 l q)) (0 : EReal) = x * (if l.val / 64 = a.val then qt (ix2 l q) else 0) := by
  have key : ∀ (n : Fin 4) (a : Fin 4), IntOp.cmpi .eq (BitVec.ofNat 32 n.val) (BitVec.ofNat 32 a.val) = if n.val = a.val then 1#1 else 0#1 := by decide +kernel
  rw [head_apply, key ⟨l.val / 64, by omega⟩ a]
  split <;> rfl

theorem masked_apply' (i : grid0.Coords) (qt : Vec Ideal S256x128 .bf16) (a : Fin 4) (l : Fin 256) (q : Fin 128) (x : EReal) :
    Scalar.select (IntOp.cmpi .eq (mainRun.sl.r (F := Ideal) i (ix2 l q)) (BitVec.ofNat 32 a.val)) (x * qt (ix2 l q)) (0 : EReal) = x * (if l.val / 64 = a.val then qt (ix2 l q) else 0) := by
  rw [← masked_apply i qt a l q x]
  unfold Scalar.select
  split
  · rfl
  · exact (mul_zero _).symm

theorem scores_apply (i : grid0.Coords) (qt : Vec Ideal S256x128 .bf16) (ks : Vec Ideal S640x256 .bf16) (b : Vec Ideal S1x640x512 .f32) (k : Fin 640) (a : Fin 4) (q : Fin 128) :
    k0_pay164 (mainRun.sl.r (F := Ideal) i) qt ks b (ix2 k ⟨128 * a.val + q.val, by omega⟩)
      = (∑ l : Fin 256, ks (ix2 k l) * (if l.val / 64 = a.val then qt (ix2 l q) else 0)) + b (ix3 0 k ⟨128 * a.val + q.val, by omega⟩) := by
  match a with
  | 0 =>
    pointwise [k0_pay164]
    exact congrArg (· + _) (Finset.sum_congr rfl fun l _ => masked_apply' i qt 0 l q _)
  | 1 =>
    pointwise [k0_pay164]
    exact congrArg (· + _) (Finset.sum_congr rfl fun l _ => masked_apply' i qt 1 l q _)
  | 2 =>
    pointwise [k0_pay164]
    refine congrArg (· + _) (Finset.sum_congr rfl fun l _ => ?_)
    rw [dif_neg (by omega), dif_neg (by omega), dif_pos (by omega)]
    exact (masked_apply i qt 2 l ⟨256 + q.val - 128 - 128, by omega⟩ _).trans (congrArg (fun q' => ks (ix2 k l) * (if l.val / 64 = 2 then qt (ix2 l q') else 0)) (Fin.ext (by dsimp only; omega)))
  | 3 =>
    pointwise [k0_pay164]
    refine congrArg (· + _) (Finset.sum_congr rfl fun l _ => ?_)
    rw [dif_neg (by omega), dif_neg (by omega), dif_neg (by omega)]
    exact (masked_apply i qt 3 l ⟨384 + q.val - 128 - 128 - 128, by omega⟩ _).trans (congrArg (fun q' => ks (ix2 k l) * (if l.val / 64 = 3 then qt (ix2 l q') else 0)) (Fin.ext (by dsimp only; omega)))

end Cert.Kernel2Ideal.Att

end
-- ==== Proof.AttValue.lean ====
module

public import proofs.«01_k».proof.Proof.AttOps
public import proofs.«01_k».proof.Proof.Pieces

@[expose] public section

set_option maxRecDepth 16384

noncomputable section

namespace Cert.Kernel2Ideal.Att

open Idealize.ShloMosaic Cert.Kernel2Ideal Cert.Kernel2Ideal.Gen Cert.Pieces

/-! # The buffers of the main part, and a head's output, at an index -/

theorem held2 : ∀ j g : Fin 4, g ∈ ([3, 2, 1, 0] : List (Fin 4)).drop (4 - stored 2 j g) := by decide
theorem held3 : ∀ j g : Fin 4, g ∈ ([3, 2, 1, 0] : List (Fin 4)).drop (4 - stored 3 j g) := by decide
theorem heads : ∀ a : Fin 4, a ∈ ([3, 2, 1, 0] : List (Fin 4)) := by decide
theorem all_heads : ∀ h : Fin 16, h ∈ ([15, 14, 13, 12, 11, 10, 9, 8, 7, 6, 5, 4, 3, 2, 1, 0] : List (Fin 16)) := by decide
theorem all_groups : ∀ g : Fin 4, g ∈ ([3, 2, 1, 0] : List (Fin 4)).drop (4 - 4) := by decide

theorem one_bf16 : (Scalar.ofBits .bf16 0x3F80#16 : Ideal .bf16) = (1 : EReal) := by
  show Ideal.ofBits .bf16 0x3F80#16 = 1
  simp [Ideal.ofBits, Ideal.ieee]
  rw [← EReal.coe_mul]
  norm_num

section
variable (i : grid0.Coords) (arg2 : Memref sig .tc .vmem S512x1024 .f32) (harg2 : arg2.IsWhole) (arg9 : Memref sig .tc .vmem S1x1024 .f32) (harg9 : arg9.IsWhole) (arg11 : Memref sig .tc .vmem S512x1024 .bf16) (arg13 : Memref sig .tc .vmem S1024x1024 .bf16) (arg14 : Memref sig .tc .vmem S1280x1024 .bf16) (arg15 : Memref sig .tc .vmem S1024x512 .bf16) (arg16 : Memref sig .tc .vmem S1024x512 .f32) (arg17 : Memref sig .tc .vmem S1024x512 .bf16) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole)
  (x0 : Vec Ideal S512x1024 .f32) (x4 : Vec Ideal S1x1024 .f32) (hk : Vec Ideal S512x1024 .bf16) (hv : Vec Ideal S1280x512 .bf16) (xs7 : Vec Ideal S4x640x512 .f32) (xs8 xs9 xs10 xs11 xs12 : Vec Ideal S1024x1024 .bf16)

/-- A row over the root of its mean square. -/
abbrev urow (r : Fin 512) : Fin 1024 → EReal := Spec.Att.unit fun k => x0 (ix2 r k)
/-- What the buffers of the keys, the queries, the gates and the values hold. -/
def kbuf (R E : Fin 1024) : EReal := if h : R.val < 512 then hk (ix2 ⟨R.val, h⟩ E) else ∑ k, urow x0 ⟨R.val - 512, by omega⟩ k * xs8 (ix2 k E)
def qbuf (E : Fin 1024) (r : Fin 512) : EReal := (∑ k, xs10 (ix2 E k) * urow x0 r k) * (((8 * Real.log 2)⁻¹ : ℝ) : EReal)
def zbuf (E : Fin 1024) (r : Fin 512) : EReal := Spec.silu (∑ k, xs11 (ix2 E k) * urow x0 r k)
def vbuf (R : Fin 1280) (C : Fin 1024) : EReal :=
  if h : C.val < 512 then hv (ix2 R ⟨C.val, h⟩) else if h' : R.val % 80 < 64 then ∑ k, xs9 (ix2 ⟨64 * (R.val / 80) + R.val % 80, by omega⟩ k) * urow x0 ⟨C.val - 512, by omega⟩ k else 1

theorem normed_apply (r : Fin 512) (k : Fin 1024) : normed arg2 harg2 arg11 x0 (ix2 r k) = urow x0 r k := by
  refine (readCov2 arg11.view (mainRun.sl.H11_1 arg2 harg2 x0) (urow x0) (fun p hp => ?_) (View.cover_of_tiledL _ S512x1024.size (by sl_kernel_rfl)) 0 0 inb_S512x1024_S512x1024_0_0 r k).trans ?_
  · rw [List.mem_singleton.mp hp]
    refine piece2 (e := .bf16) (urow x0) 0 0 inb_S512x1024_S512x1024_0_0 _ fun i j => ?_
    rw [fin_zero_add, fin_zero_add]
    exact (congrFun (congrArg k0_pay152 (readAt_whole2 arg2 harg2 x0 _)) _).trans (norm_apply x0 i j)
  · rw [fin_zero_add, fin_zero_add]

theorem colsAt_apply (g : Fin 4) (k : Fin 1024) (l : Fin 256) : colsAt arg19 harg19 xs8 g (ix2 k l) = xs8 (ix2 k ⟨256 * g.val + l.val, by omega⟩) :=
  (readAt2 arg19 harg19 xs8 0 (256 * g.val) (fits_cols g) k l).trans (by rw [fin_zero_add])
theorem rowsAt_apply (arg : Memref sig .tc .vmem S1024x1024 .bf16) (harg : arg.IsWhole) (x : Vec Ideal S1024x1024 .bf16) (g : Fin 4) (l : Fin 256) (k : Fin 1024) :
    rowsAt arg harg x g (ix2 l k) = x (ix2 ⟨256 * g.val + l.val, by omega⟩ k) :=
  (readAt2 arg harg x (256 * g.val) 0 (fits_rows g) l k).trans (by rw [fin_zero_add])

theorem kPieces_apply (n : ℕ) : ∀ p ∈ kPieces arg2 harg2 arg11 arg19 harg19 x0 hk xs8 n, ∀ y : p.1.shape.Idx, p.2 y = (fun y : S1024x1024.Idx => kbuf x0 hk xs8 (y 0) (y 1)) (p.1.emb y) := by
  intro p hp
  rcases List.mem_append.mp hp with hp | hp
  · obtain ⟨g, -, rfl⟩ := List.mem_map.mp hp
    refine piece2 (e := .bf16) (kbuf x0 hk xs8) 512 (256 * g.val) (fits_knew g) _ fun r l => ?_
    unfold kbuf
    rw [dif_neg (by dsimp only; omega)]
    refine (key_apply _ _ r l).trans (Finset.sum_congr rfl fun k _ => congrArg₂ (· * ·) ((normed_apply arg2 harg2 arg11 x0 r k).trans ?_) (colsAt_apply arg19 harg19 xs8 g k l))
    exact congrArg (fun r => urow x0 r k) (Fin.ext (by dsimp only; omega))
  · obtain rfl := List.mem_singleton.mp hp
    refine piece2 (e := .bf16) (kbuf x0 hk xs8) 0 0 inb_S1024x1024_S512x1024_0_0 _ fun r l => ?_
    unfold kbuf
    rw [dif_pos (by dsimp only; omega)]
    exact congrArg₂ (fun a b => hk (ix2 a b)) (Fin.ext (by dsimp only; omega)) (Fin.ext (by dsimp only; omega))

theorem keysAt_apply (n : ℕ) (g : Fin 4) (hg : g ∈ ([3, 2, 1, 0] : List (Fin 4)).drop (4 - n)) (j : Fin 4) (r : Fin 640) (l : Fin 256) :
    arg13.view.readCov (kPieces arg2 harg2 arg11 arg19 harg19 x0 hk xs8 n) (Rect.unit (s := S1024x1024) ![128 * j.val, 256 * g.val] S640x256.size (fits_keys j g)).toLoadRect (ix2 r l)
      = kbuf x0 hk xs8 ⟨128 * j.val + r.val, by omega⟩ ⟨256 * g.val + l.val, by omega⟩ := by
  refine readCov_at arg13.view _ (kbuf x0 hk xs8) (kPieces_apply arg2 harg2 arg11 arg19 harg19 x0 hk xs8 n) (128 * j.val) (256 * g.val) (fits_keys j g) r l ?_
  by_cases h : 128 * j.val + r.val < 512
  · exact ⟨histK hk, List.mem_append_right _ (List.mem_singleton.mpr rfl), mem_unit2 0 0 inb_S1024x1024_S512x1024_0_0 _ _ ⟨Nat.zero_le _, by dsimp only; omega⟩ ⟨Nat.zero_le _, by dsimp only; omega⟩⟩
  · exact ⟨kPiece arg2 harg2 arg11 arg19 harg19 x0 xs8 g, List.mem_append_left _ (List.mem_map_of_mem hg), mem_unit2 512 (256 * g.val) (fits_knew g) _ _ ⟨by dsimp only; omega, by dsimp only; omega⟩ ⟨by dsimp only; omega, by dsimp only; omega⟩⟩

theorem queriesAt_apply (n : ℕ) (g : Fin 4) (hg : g ∈ ([3, 2, 1, 0] : List (Fin 4)).drop (4 - n)) (j : Fin 4) (l : Fin 256) (q : Fin 128) :
    arg15.view.readCov (qPieces arg2 harg2 arg11 arg21 harg21 x0 xs10 n) (Rect.unit (s := S1024x512) ![256 * g.val, 128 * j.val] S256x128.size (fits_queries j g)).toLoadRect (ix2 l q)
      = qbuf x0 xs10 ⟨256 * g.val + l.val, by omega⟩ ⟨128 * j.val + q.val, by omega⟩ := by
  refine readCov_at arg15.view _ (qbuf x0 xs10) (fun p hp => ?_) (256 * g.val) (128 * j.val) (fits_queries j g) l q
    ⟨qPiece arg2 harg2 arg11 arg21 harg21 x0 xs10 g, List.mem_map_of_mem hg, mem_unit2 (256 * g.val) 0 (fits_group g) _ _ ⟨by dsimp only; omega, by dsimp only; omega⟩ ⟨Nat.zero_le _, by dsimp only; omega⟩⟩
  obtain ⟨g, -, rfl⟩ := List.mem_map.mp hp
  refine piece2 (e := .bf16) (qbuf x0 xs10) (256 * g.val) 0 (fits_group g) _ fun l r => ?_
  rw [fin_zero_add]
  unfold qbuf
  refine (query_apply _ _ l r).trans (congrArg (· * _) (Finset.sum_congr rfl fun k _ => congrArg₂ (· * ·) (rowsAt_apply arg21 harg21 xs10 g l k) (normed_apply arg2 harg2 arg11 x0 r k)))

theorem gatesAt_apply (n : ℕ) (g : Fin 4) (hg : g ∈ ([3, 2, 1, 0] : List (Fin 4)).drop (4 - n)) (j a : Fin 4) (d : Fin 64) (q : Fin 128) :
    arg16.view.readCov (zPieces arg2 harg2 arg11 arg22 harg22 x0 xs11 n) (Rect.unit (s := S1024x512) ![64 * (4 * g.val + a.val), 128 * j.val] S64x128.size (fits_gate j g a)).toLoadRect (ix2 d q)
      = zbuf x0 xs11 ⟨64 * (4 * g.val + a.val) + d.val, by omega⟩ ⟨128 * j.val + q.val, by omega⟩ := by
  refine readCov_at arg16.view _ (zbuf x0 xs11) (fun p hp => ?_) (64 * (4 * g.val + a.val)) (128 * j.val) (fits_gate j g a) d q
    ⟨zPiece arg2 harg2 arg11 arg22 harg22 x0 xs11 g, List.mem_map_of_mem hg, mem_unit2 (256 * g.val) 0 (fits_group g) _ _ ⟨by dsimp only; omega, by dsimp only; omega⟩ ⟨Nat.zero_le _, by dsimp only; omega⟩⟩
  obtain ⟨g, -, rfl⟩ := List.mem_map.mp hp
  refine piece2 (e := .f32) (zbuf x0 xs11) (256 * g.val) 0 (fits_group g) _ fun l r => ?_
  rw [fin_zero_add]
  unfold zbuf
  exact (gate_apply _ _ l r).trans (congrArg Spec.silu (Finset.sum_congr rfl fun k _ => congrArg₂ (· * ·) (rowsAt_apply arg22 harg22 xs11 g l k) (normed_apply arg2 harg2 arg11 x0 r k)))

theorem vPiece_apply (g a : Fin 4) : ∀ y : S64x512.Idx, (vPiece arg2 harg2 arg11 arg20 harg20 x0 xs9 g a).2 y = (fun y : S1280x1024.Idx => vbuf x0 hv xs9 (y 0) (y 1)) ((vPiece arg2 harg2 arg11 arg20 harg20 x0 xs9 g a).1.emb y) := by
  refine piece2 (e := .bf16) (vbuf x0 hv xs9) (80 * (4 * g.val + a.val)) 512 (fits_head g a) _ fun d r => ?_
  unfold vbuf
  rw [dif_neg (by dsimp only; omega), dif_pos (by dsimp only; omega)]
  refine (headRows_apply a _ d r).trans ((value_apply _ _ _ r).trans (Finset.sum_congr rfl fun k _ => congrArg₂ (· * ·) ((rowsAt_apply arg20 harg20 xs9 g _ k).trans ?_) ((normed_apply arg2 harg2 arg11 x0 r k).trans ?_)))
  · exact congrArg (fun e => xs9 (ix2 e k)) (Fin.ext (by dsimp only; omega))
  · exact congrArg (fun r => urow x0 r k) (Fin.ext (by dsimp only; omega))
theorem onesPiece_apply (h : Fin 16) : ∀ y : (⟨2, ![16, 512]⟩ : Shape).Idx, (onesPiece (F := Ideal) h).2 y = (fun y : S1280x1024.Idx => vbuf x0 hv xs9 (y 0) (y 1)) ((onesPiece (F := Ideal) h).1.emb y) := by
  refine piece2 (e := .bf16) (vbuf x0 hv xs9) (80 * h.val + 64) 512 (fits_ones h) _ fun d r => ?_
  unfold vbuf
  rw [dif_neg (by dsimp only; omega), dif_neg (by dsimp only; omega)]
  exact one_bf16
theorem histV_apply : ∀ y : S1280x512.Idx, (histV hv).2 y = (fun y : S1280x1024.Idx => vbuf x0 hv xs9 (y 0) (y 1)) ((histV hv).1.emb y) := by
  refine piece2 (e := .bf16) (vbuf x0 hv xs9) 0 0 inb_S1280x1024_S1280x512_0_0 _ fun d r => ?_
  unfold vbuf
  rw [dif_pos (by dsimp only; omega)]
  exact congrArg₂ (fun a b => hv (ix2 a b)) (Fin.ext (by dsimp only; omega)) (Fin.ext (by dsimp only; omega))

theorem vPieces_apply (n : ℕ) : ∀ p ∈ vPieces arg2 harg2 arg11 arg20 harg20 x0 hv xs9 n, ∀ y : p.1.shape.Idx, p.2 y = (fun y : S1280x1024.Idx => vbuf x0 hv xs9 (y 0) (y 1)) (p.1.emb y) := by
  intro p hp
  rcases List.mem_append.mp hp with hp | hp
  · obtain ⟨g, -, hp⟩ := List.mem_flatMap.mp hp
    obtain ⟨a, -, rfl⟩ := List.mem_map.mp hp
    exact vPiece_apply arg2 harg2 arg11 arg20 harg20 x0 hv xs9 g a
  · rcases List.mem_cons.mp hp with rfl | hp
    · exact histV_apply x0 hv xs9
    · obtain ⟨h, -, rfl⟩ := List.mem_map.mp hp
      exact onesPiece_apply x0 hv xs9 h

/-- The pieces that cover a place of the values. -/
theorem vPieces_cover (n : ℕ) (g : Fin 4) (hg : g ∈ ([3, 2, 1, 0] : List (Fin 4)).drop (4 - n)) (a : Fin 4) (R : Fin 1280) (hR : R.val / 80 = 4 * g.val + a.val) (C : Fin 1024) :
    ∃ p ∈ vPieces arg2 harg2 arg11 arg20 harg20 x0 hv xs9 n, (ix2 R C : S1280x1024.Idx) ∈ p.1.set := by
  by_cases h : C.val < 512
  · exact ⟨histV hv, List.mem_append_right _ List.mem_cons_self, mem_unit2 0 0 inb_S1280x1024_S1280x512_0_0 _ _ ⟨Nat.zero_le _, by omega⟩ ⟨Nat.zero_le _, by omega⟩⟩
  · by_cases h' : R.val % 80 < 64
    · exact ⟨vPiece arg2 harg2 arg11 arg20 harg20 x0 xs9 g a, List.mem_append_left _ (List.mem_flatMap.mpr ⟨g, hg, List.mem_map_of_mem (heads a)⟩),
        mem_unit2 (80 * (4 * g.val + a.val)) 512 (fits_head g a) _ _ ⟨by omega, by omega⟩ ⟨by omega, by omega⟩⟩
    · exact ⟨onesPiece ⟨4 * g.val + a.val, by omega⟩, List.mem_append_right _ (List.mem_cons_of_mem _ (List.mem_map_of_mem (all_heads _))),
        mem_unit2 (80 * (4 * g.val + a.val) + 64) 512 (fits_ones ⟨4 * g.val + a.val, by omega⟩) _ _ ⟨by omega, by omega⟩ ⟨by omega, by omega⟩⟩

theorem valuesAt_apply (n : ℕ) (g : Fin 4) (hg : g ∈ ([3, 2, 1, 0] : List (Fin 4)).drop (4 - n)) (j a : Fin 4) (d : Fin 80) (r : Fin 640) :
    arg14.view.readCov (vPieces arg2 harg2 arg11 arg20 harg20 x0 hv xs9 n) (Rect.unit (s := S1280x1024) ![80 * (4 * g.val + a.val), 128 * j.val] S80x640.size (fits_values j g a)).toLoadRect (ix2 d r)
      = vbuf x0 hv xs9 ⟨80 * (4 * g.val + a.val) + d.val, by omega⟩ ⟨128 * j.val + r.val, by omega⟩ :=
  readCov_at arg14.view _ (vbuf x0 hv xs9) (vPieces_apply arg2 harg2 arg11 arg20 harg20 x0 hv xs9 n) (80 * (4 * g.val + a.val)) (128 * j.val) (fits_values j g a) d r
    (vPieces_cover arg2 harg2 arg11 arg20 harg20 x0 hv xs9 n g hg a _ (by dsimp only; omega) _)

/-- A head's scores. -/
theorem scoresAt_apply (j g a : Fin 4) (r : Fin 640) (q : Fin 128) :
    scores i arg2 harg2 arg11 arg13 arg15 arg18 harg18 arg19 harg19 arg21 harg21 x0 hk xs7 xs8 xs10 j g (ix2 r ⟨128 * a.val + q.val, by omega⟩)
      = (∑ d : Fin 64, kbuf x0 hk xs8 ⟨128 * j.val + r.val, by omega⟩ (Spec.Att.chan ⟨4 * g.val + a.val, by omega⟩ d) * qbuf x0 xs10 (Spec.Att.chan ⟨4 * g.val + a.val, by omega⟩ d) ⟨128 * j.val + q.val, by omega⟩)
        + xs7 (ix3 g r ⟨128 * a.val + q.val, by omega⟩) := by
  unfold scores
  rw [scores_apply, Spec.Att.sum_head _ a fun l hl => by rw [if_neg hl, mul_zero]]
  refine congrArg₂ (· + ·) (Finset.sum_congr rfl fun d _ => ?_) ?_
  · rw [if_pos (by dsimp only; omega), keysAt_apply arg2 harg2 arg11 arg13 arg19 harg19 x0 hk xs8 _ g (held2 j g), queriesAt_apply arg2 harg2 arg11 arg15 arg21 harg21 x0 xs10 _ g (held3 j g)]
    have e : (⟨256 * g.val + (64 * a.val + d.val), by omega⟩ : Fin 1024) = Spec.Att.chan ⟨4 * g.val + a.val, by omega⟩ d := Fin.ext (by dsimp only; omega)
    exact congrArg (fun e => kbuf x0 hk xs8 ⟨128 * j.val + r.val, by omega⟩ e * qbuf x0 xs10 e ⟨128 * j.val + q.val, by omega⟩) e
  · refine (readAt3 arg18 harg18 xs7 g.val 0 0 (fits_bias g) 0 r _).trans ?_
    exact congrArg₂ (fun a b => xs7 (ix3 g a b)) (Fin.ext (by dsimp only; omega)) (Fin.ext (by dsimp only; omega))

/-- A head's output, before the weights are given. -/
theorem oPiece_apply (j g a : Fin 4) (d : Fin 64) (q : Fin 128) :
    (oPiece i arg2 harg2 arg11 arg13 arg14 arg15 arg16 arg18 harg18 arg19 harg19 arg20 harg20 arg21 harg21 arg22 harg22 x0 hk hv xs7 xs8 xs9 xs10 xs11 j g a).2 (ix2 d q)
      = (∑ r, vbuf x0 hv xs9 ⟨80 * (4 * g.val + a.val) + d.val, by omega⟩ ⟨128 * j.val + r.val, by omega⟩
            * window (k0_pay153 i) (scores i arg2 harg2 arg11 arg13 arg15 arg18 harg18 arg19 harg19 arg21 harg21 x0 hk xs7 xs8 xs10 j g) j (ix2 r ⟨128 * a.val + q.val, by omega⟩))
        * Ideal.div 1 (∑ r, vbuf x0 hv xs9 ⟨80 * (4 * g.val + a.val) + 64, by omega⟩ ⟨128 * j.val + r.val, by omega⟩
            * window (k0_pay153 i) (scores i arg2 harg2 arg11 arg13 arg15 arg18 harg18 arg19 harg19 arg21 harg21 x0 hk xs7 xs8 xs10 j g) j (ix2 r ⟨128 * a.val + q.val, by omega⟩))
        * zbuf x0 xs11 (Spec.Att.chan ⟨4 * g.val + a.val, by omega⟩ d) ⟨128 * j.val + q.val, by omega⟩ := by
  refine (headOut_apply _ a _ _ d q).trans ?_
  rw [weighed_apply, weighed_apply, gatesAt_apply arg2 harg2 arg11 arg16 arg22 harg22 x0 xs11 _ g (held3 j g)]
  refine congrArg (· * _) (congrArg₂ (fun x y => x * Ideal.div 1 y) (Finset.sum_congr rfl fun r _ => ?_) (Finset.sum_congr rfl fun r _ => ?_))
  · exact congrArg (· * _) (valuesAt_apply arg2 harg2 arg11 arg14 arg20 harg20 x0 hv xs9 _ g (held2 j g) j a ⟨d.val, by omega⟩ r)
  · exact congrArg (· * _) (valuesAt_apply arg2 harg2 arg11 arg14 arg20 harg20 x0 hv xs9 _ g (held2 j g) j a 64 r)

end

end Cert.Kernel2Ideal.Att

end
-- ==== Proof.AttWeights.lean ====
module

public import proofs.«01_k».proof.Proof.AttRun
public import proofs.«01_k».proof.Proof.AttValue

@[expose] public section

set_option maxRecDepth 16384

noncomputable section

namespace Cert.Kernel2Ideal.Att

open Idealize.ShloMosaic Cert.Kernel2Ideal Cert.Kernel2Ideal.Gen Cert.Pieces
open Cert.Spec.Att (lo hi chan)

variable (m : (ℓ : Loc nD τ sig) → Buf (Elt Ideal) ℓ) (c : Dev nD)

/-! # The carried weights at an index -/

theorem scaled_apply (g : Vec Ideal S1024x1 .f32) (v : Vec Ideal S1024x512 .f32) (i : Fin 1024) (j : Fin 512) : scaled g v (ix2 i j) = v (ix2 i j) * g (ix2 i 0) := by
  pointwise [scaled, gained]
theorem turned_apply (g : Vec Ideal S1024x1 .f32) (v : Vec Ideal S1024x512 .f32) (i : Fin 1024) (j : Fin 512) : turned g v (ix2 j i) = v (ix2 i j) * g (ix2 i 0) := by
  pointwise [turned, gained]
theorem kept_apply (v : Vec Ideal S1024x512 .f32) (i : Fin 1024) (j : Fin 512) : kept v (ix2 i j) = v (ix2 i j) := by
  pointwise [kept]

/-- The weights as the call finds them. -/
abbrev inKv : Vec Ideal S1024x2048 .f32 := V m c main_arg2
abbrev inQz : Vec Ideal S1024x2048 .f32 := V m c main_v6
abbrev inOut : Vec Ideal S1024x1024 .f32 := V m c main_v7
/-- The gains as it finds them. -/
abbrev inGk : Vec Ideal S1024x1 .f32 := iblk m c 1 t0
abbrev inGb : Vec Ideal S1024x1 .f32 := iblk m c 2 t0

theorem blk0_apply (o1 : ℕ) (h) (i : Fin 1024) (j : Fin 512) :
    blk0 c (V m c main_arg2) ![0, o1] h (ix2 i j) = inKv m c (ix2 i ⟨o1 + j.val, lt_of_lt_of_le (Nat.add_lt_add_left j.isLt o1) (h 1)⟩) :=
  (congrArg (inKv m c) (idx_unit2 0 o1 h i j)).trans (congrArg (fun a => inKv m c (ix2 a _)) (Fin.ext (Nat.zero_add _)))
theorem blk1_apply (o1 : ℕ) (h) (i : Fin 1024) (j : Fin 512) :
    blk1 c (V m c main_v6) ![0, o1] h (ix2 i j) = inQz m c (ix2 i ⟨o1 + j.val, lt_of_lt_of_le (Nat.add_lt_add_left j.isLt o1) (h 1)⟩) :=
  (congrArg (inQz m c) (idx_unit2 0 o1 h i j)).trans (congrArg (fun a => inQz m c (ix2 a _)) (Fin.ext (Nat.zero_add _)))
theorem blk2_apply (o1 : ℕ) (h) (i : Fin 1024) (j : Fin 512) :
    blk2 c (V m c main_v7) ![0, o1] h (ix2 i j) = inOut m c (ix2 i ⟨o1 + j.val, lt_of_lt_of_le (Nat.add_lt_add_left j.isLt o1) (h 1)⟩) :=
  (congrArg (inOut m c) (idx_unit2 0 o1 h i j)).trans (congrArg (fun a => inOut m c (ix2 a _)) (Fin.ext (Nat.zero_add _)))

theorem wk_apply (k e : Fin 1024) : wk m c (ix2 k e) = inKv m c (ix2 k (lo e)) * inGk m c (ix2 k 0) := by
  refine View.canon_apply_of_pieces (S := S1024x1024) (e := .bf16) (fun y => (fun k e : Fin 1024 => inKv m c (ix2 k (lo e)) * inGk m c (ix2 k 0)) (y 0) (y 1)) (wkPieces c (iblk m c 1 t0) (V m c main_arg2)) (fun p hp => ?_) (ix2 k e) (wk_cover c _ _ _)
  simp only [wkPieces, List.mem_cons, List.not_mem_nil, or_false] at hp
  rcases hp with rfl | rfl <;>
  · refine piece2 (fun k e : Fin 1024 => inKv m c (ix2 k (lo e)) * inGk m c (ix2 k 0)) _ _ (by decide) _ fun i j => (scaled_apply _ _ i j).trans ?_
    rw [blk0_apply]
    simp only [fin_zero_add]

theorem wo_apply (k e : Fin 1024) : wo m c (ix2 k e) = inOut m c (ix2 k e) := by
  refine View.canon_apply_of_pieces (S := S1024x1024) (e := .bf16) (fun y => (fun k e : Fin 1024 => inOut m c (ix2 k e)) (y 0) (y 1)) (woPieces c (V m c main_v7)) (fun p hp => ?_) (ix2 k e) (wo_cover c _ _)
  simp only [woPieces, List.mem_cons, List.not_mem_nil, or_false] at hp
  rcases hp with rfl | rfl <;>
  · refine piece2 (fun k e : Fin 1024 => inOut m c (ix2 k e)) _ _ (by decide) _ fun i j => (kept_apply _ i j).trans ?_
    rw [blk2_apply]
    simp only [fin_zero_add]

theorem wv_apply (e k : Fin 1024) : wv m c (ix2 e k) = inKv m c (ix2 k (hi e)) * inGk m c (ix2 k 0) := by
  refine View.canon_apply_of_pieces (S := S1024x1024) (e := .bf16) (fun y => (fun e k : Fin 1024 => inKv m c (ix2 k (hi e)) * inGk m c (ix2 k 0)) (y 0) (y 1)) (wvPieces c (iblk m c 1 t0) (V m c main_arg2)) (fun p hp => ?_) (ix2 e k) (wv_cover c _ _ _)
  simp only [wvPieces, List.mem_cons, List.not_mem_nil, or_false] at hp
  rcases hp with rfl | rfl <;>
  · refine piece2 (fun e k : Fin 1024 => inKv m c (ix2 k (hi e)) * inGk m c (ix2 k 0)) _ _ (by decide) _ fun j i => (turned_apply _ _ i j).trans ?_
    rw [blk0_apply]
    simp only [fin_zero_add]
    exact congrArg (fun e => inKv m c (ix2 i e) * inGk m c (ix2 i 0)) (Fin.ext (by simp only [hi] <;> omega))

theorem wq_apply (e k : Fin 1024) : wq m c (ix2 e k) = inQz m c (ix2 k (lo e)) * inGb m c (ix2 k 0) := by
  refine View.canon_apply_of_pieces (S := S1024x1024) (e := .bf16) (fun y => (fun e k : Fin 1024 => inQz m c (ix2 k (lo e)) * inGb m c (ix2 k 0)) (y 0) (y 1)) (wqPieces c (iblk m c 2 t0) (V m c main_v6)) (fun p hp => ?_) (ix2 e k) (wq_cover c _ _ _)
  simp only [wqPieces, List.mem_cons, List.not_mem_nil, or_false] at hp
  rcases hp with rfl | rfl <;>
  · refine piece2 (fun e k : Fin 1024 => inQz m c (ix2 k (lo e)) * inGb m c (ix2 k 0)) _ _ (by decide) _ fun j i => (turned_apply _ _ i j).trans ?_
    rw [blk1_apply]
    simp only [fin_zero_add]

theorem wz_apply (e k : Fin 1024) : wz m c (ix2 e k) = inQz m c (ix2 k (hi e)) * inGb m c (ix2 k 0) := by
  refine View.canon_apply_of_pieces (S := S1024x1024) (e := .bf16) (fun y => (fun e k : Fin 1024 => inQz m c (ix2 k (hi e)) * inGb m c (ix2 k 0)) (y 0) (y 1)) (wzPieces c (iblk m c 2 t0) (V m c main_v6)) (fun p hp => ?_) (ix2 e k) (wz_cover c _ _ _)
  simp only [wzPieces, List.mem_cons, List.not_mem_nil, or_false] at hp
  rcases hp with rfl | rfl <;>
  · refine piece2 (fun e k : Fin 1024 => inQz m c (ix2 k (hi e)) * inGb m c (ix2 k 0)) _ _ (by decide) _ fun j i => (turned_apply _ _ i j).trans ?_
    rw [blk1_apply]
    simp only [fin_zero_add]
    exact congrArg (fun e => inQz m c (ix2 i e) * inGb m c (ix2 i 0)) (Fin.ext (by simp only [hi] <;> omega))

end Cert.Kernel2Ideal.Att

end
-- ==== Proof.AttBias.lean ====
module

public import proofs.«01_k».proof.Proof.AttRun
public import proofs.«01_k».proof.Proof.AttValue

@[expose] public section

set_option maxRecDepth 16384

noncomputable section

namespace Cert.Kernel2Ideal.Att

open Idealize.ShloMosaic Cert.Kernel2Ideal Cert.Kernel2Ideal.Gen Cert.Pieces
open Cert.Spec.Att (lo hi chan)

variable (m : (ℓ : Loc nD τ sig) → Buf (Elt Ideal) ℓ) (c : Dev nD)

/-! # The bias table at an index -/

/-- A row's chunk of 64, as the kernel counts it. -/
def rowChunk : IVec S128x128 32 := select k0_pay5 (subi k0_pay4 (broadcast S128x128 1#32)) k0_pay4
/-- Whether a query sees a key, both by their places in a tile: the key's chunk within the query's and the eight before it. -/
def band (w : BitVec 32) : IVec S128x128 1 :=
  andi (cmpi .sge (addi (broadcast S128x128 w) rowChunk) k0_pay3) (cmpi .sle (addi (broadcast S128x128 w) rowChunk) (addi k0_pay3 (broadcast S128x128 8#32)))

variable {F : FTy → Type} [FloatOps F] [Named F]

/-- A tile of the table: a stretch of a head's bias, shifted row by row, the places outside the band masked. -/
def tile (w : BitVec 32) (v : Vec F S1x256 .f32) : FVec F S1x128x128 .f32 :=
  shapeCast S1x128x128 (select (band w)
    (mulf (extractStridedSlice S128x128 ![0, 128] (dynamicRotate 1 0#32 (some (1, 0)) (broadcastTo S128x256 (shapeCast S1x256 (shapeCast S1x256 v shapeCasts_S1x256_S1x256) shapeCasts_S1x256_S1x256) broadcasts_S1x256_S128x256) rotates_S128x256_d1s1a0) slices_S128x256_o0_128_S128x128)
      (broadcast S128x128 (Named.named κ "log2e" 0x3FB8AA3B#32)))
    (broadcast S128x128 (Named.named κ "mask" 0xF149F2CA#32))) shapeCasts_S128x128_S1x128x128

theorem fits_tile (j : Fin 5) (h : Fin 16) : ∀ a, (![h.val / 4, 128 * j.val, 128 * (h.val % 4)] : Fin 3 → ℕ) a + S1x128x128.size a ≤ S4x640x512.size a := by
  intro a; match a with
  | 0 => show h.val / 4 + 1 ≤ 4; omega
  | 1 => show 128 * j.val + 128 ≤ 640; omega
  | 2 => show 128 * (h.val % 4) + 128 ≤ 512; omega
theorem fits_row (j : Fin 5) (h : Fin 16) : ∀ a, (![h.val, 640 - 128 * j.val] : Fin 2 → ℕ) a + S1x256.size a ≤ S16x1024.size a := by
  intro a; match a with
  | 0 => show h.val + 1 ≤ 16; omega
  | 1 => show 640 - 128 * j.val + 256 ≤ 1024; omega

/-- The tile of a head and of a block of 128 keys. -/
def biasPiece (arg7 : Memref sig .tc .vmem S16x1024 .f32) (harg7 : arg7.IsWhole) (x3 : Vec F S16x1024 .f32) (j : Fin 5) (h : Fin 16) : View.Piece (Elt F) S4x640x512 .f32 :=
  ⟨Rect.unit ![h.val / 4, 128 * j.val, 128 * (h.val % 4)] S1x128x128.size (fits_tile j h),
    tile (BitVec.ofNat 32 (2 * j.val)) (View.readAt (Elt F) arg7.view (Rect.unit (s := S16x1024) ![h.val, 640 - 128 * j.val] S1x256.size (fits_row j h)).toLoadRect (harg7.unread x3))⟩

set_option maxHeartbeats 8000000 in
theorem biasPieces_eq (m : (ℓ : Loc nD τ sig) → Buf (Elt F) ℓ) : biasPieces m c = ([4, 3, 2, 1, 0] : List (Fin 5)).flatMap fun j => ([15, 14, 13, 12, 11, 10, 9, 8, 7, 6, 5, 4, 3, 2, 1, 0] : List (Fin 16)).map (biasPiece (ms0_3 t0) (hs0_3 t0) (iblk m c 3 t0) j) := by
  sl_kernel_rfl

theorem rowChunk_apply (r q : Fin 128) : rowChunk (ix2 r q) = BitVec.ofNat 32 (r.val / 64) := by
  have h : ∀ r : Fin 128, rowChunk (ix2 r 0) = BitVec.ofNat 32 (r.val / 64) := by decide +kernel
  exact (show rowChunk (ix2 r q) = rowChunk (ix2 r 0) from rfl).trans (h r)
theorem columnChunk_apply (r q : Fin 128) : k0_pay3 (ix2 r q) = BitVec.ofNat 32 (q.val / 64) := by
  have h : ∀ q : Fin 128, k0_pay3 (ix2 0 q) = BitVec.ofNat 32 (q.val / 64) := by decide +kernel
  exact (show k0_pay3 (ix2 r q) = k0_pay3 (ix2 0 q) from rfl).trans (h q)

theorem band_apply (j : Fin 5) (r q : Fin 128) :
    band (BitVec.ofNat 32 (2 * j.val)) (ix2 r q) = if q.val / 64 ≤ (128 * j.val + r.val) / 64 ∧ (128 * j.val + r.val) / 64 ≤ q.val / 64 + 8 then 1#1 else 0#1 := by
  have h : ∀ (j : Fin 5) (a b : Fin 2), (Scalar.andi (Scalar.cmpi .sge (Scalar.addi (BitVec.ofNat 32 (2 * j.val)) (BitVec.ofNat 32 a.val)) (BitVec.ofNat 32 b.val))
      (Scalar.cmpi .sle (Scalar.addi (BitVec.ofNat 32 (2 * j.val)) (BitVec.ofNat 32 a.val)) (Scalar.addi (BitVec.ofNat 32 b.val) 8#32)) : BitVec 1)
      = if b.val ≤ 2 * j.val + a.val ∧ 2 * j.val + a.val ≤ b.val + 8 then 1#1 else 0#1 := by decide +kernel
  have e : (128 * j.val + r.val) / 64 = 2 * j.val + r.val / 64 := by omega
  rw [e]
  refine Eq.trans ?_ (h j ⟨r.val / 64, by omega⟩ ⟨q.val / 64, by omega⟩)
  show Scalar.andi (Scalar.cmpi .sge (Scalar.addi (BitVec.ofNat 32 (2 * j.val)) (rowChunk (ix2 r q))) (k0_pay3 (ix2 r q)))
      (Scalar.cmpi .sle (Scalar.addi (BitVec.ofNat 32 (2 * j.val)) (rowChunk (ix2 r q))) (Scalar.addi (k0_pay3 (ix2 r q)) 8#32)) = _
  rw [rowChunk_apply, columnChunk_apply]

theorem tile_apply (w : BitVec 32) (v : Vec Ideal S1x256 .f32) (r q : Fin 128) :
    tile w v (ix3 0 r q) = if band w (ix2 r q) = 1#1 then v (ix2 0 ⟨128 + q.val - r.val, by omega⟩) * (((Real.log 2)⁻¹ : ℝ) : EReal) else (⊥ : EReal) := by
  have e : (((⟨128 + q.val, by omega⟩ : Fin 256).val + 256 - (0 + 1 * r.val) % 256) % 256) = 128 + q.val - r.val := by dsimp only; omega
  have hr : dynamicRotate 1 0#32 (some (1, 0)) (broadcastTo S128x256 (shapeCast S1x256 (shapeCast S1x256 v shapeCasts_S1x256_S1x256) shapeCasts_S1x256_S1x256) broadcasts_S1x256_S128x256) rotates_S128x256_d1s1a0 (ix2 r ⟨128 + q.val, by omega⟩)
      = v (ix2 0 ⟨128 + q.val - r.val, by omega⟩) := by
    have hi : (fun b : Fin 2 => if b = 1 then (⟨((ix2 r (⟨128 + q.val, by omega⟩ : Fin 256) : S128x256.Idx) b + S128x256.size b - (0 + 1 * r.val) % S128x256.size b) % S128x256.size b, Nat.mod_lt _ (Fin.pos ((ix2 r (⟨128 + q.val, by omega⟩ : Fin 256) : S128x256.Idx) b))⟩ : Fin (S128x256.size b)) else (ix2 r (⟨128 + q.val, by omega⟩ : Fin 256) : S128x256.Idx) b)
        = (ix2 r (⟨128 + q.val - r.val, by omega⟩ : Fin 256) : S128x256.Idx) := by
      funext a
      match a with
      | 0 => rfl
      | 1 => exact Fin.ext e
    refine (congrArg (broadcastTo S128x256 (shapeCast S1x256 (shapeCast S1x256 v shapeCasts_S1x256_S1x256) shapeCasts_S1x256_S1x256) broadcasts_S1x256_S128x256) hi).trans ?_
    pointwise
  have hm : (Named.named κ "mask" 0xF149F2CA#32 : Ideal .f32) = (⊥ : EReal) := rfl
  have hl : (Named.named κ "log2e" 0x3FB8AA3B#32 : Ideal .f32) = (((Real.log 2)⁻¹ : ℝ) : EReal) := rfl
  unfold tile
  rw [hm, hl]
  generalize dynamicRotate 1 0#32 (some (1, 0)) (broadcastTo S128x256 (shapeCast S1x256 (shapeCast S1x256 v shapeCasts_S1x256_S1x256) shapeCasts_S1x256_S1x256) broadcasts_S1x256_S128x256) rotates_S128x256_d1s1a0 = z at hr ⊢
  rw [← hr]
  pointwise
  rfl

/-- The extended bias as the call finds it. -/
abbrev inBias : Vec Ideal S16x1024 .f32 := iblk m c 3 t0
/-- The bias table's element. -/
def entry (x3 : Vec Ideal S16x1024 .f32) (g : Fin 4) (k : Fin 640) (l : Fin 512) : EReal :=
  if l.val % 128 / 64 ≤ k.val / 64 ∧ k.val / 64 ≤ l.val % 128 / 64 + 8 then x3 (ix2 ⟨4 * g.val + l.val / 128, by omega⟩ ⟨768 + l.val % 128 - k.val, by omega⟩) * (((Real.log 2)⁻¹ : ℝ) : EReal) else ⊥

theorem biasPiece_apply (arg7 : Memref sig .tc .vmem S16x1024 .f32) (harg7 : arg7.IsWhole) (x3 : Vec Ideal S16x1024 .f32) (j : Fin 5) (h : Fin 16) (y : S1x128x128.Idx) :
    (biasPiece arg7 harg7 x3 j h).2 y = (fun y : S4x640x512.Idx => entry x3 (y 0) (y 1) (y 2)) ((biasPiece arg7 harg7 x3 j h).1.emb y) := by
  obtain ⟨u, r, q, rfl⟩ : ∃ (u : Fin 1) (r q : Fin 128), y = ix3 u r q := ⟨y 0, y 1, y 2, eq_ix3 y⟩
  obtain rfl : u = 0 := Subsingleton.elim _ _
  refine (tile_apply _ _ r q).trans ?_
  rw [band_apply]
  refine Eq.trans ?_ (congrArg (fun y : S4x640x512.Idx => entry x3 (y 0) (y 1) (y 2)) (idx_unit3 (h.val / 4) (128 * j.val) (128 * (h.val % 4)) (fits_tile j h) 0 r q)).symm
  show _ = entry x3 ⟨h.val / 4 + 0, by omega⟩ ⟨128 * j.val + r.val, by omega⟩ ⟨128 * (h.val % 4) + q.val, by omega⟩
  unfold entry
  have e : (128 * (h.val % 4) + q.val) % 128 = q.val := by omega
  dsimp only
  simp only [e]
  by_cases hb : q.val / 64 ≤ (128 * j.val + r.val) / 64 ∧ (128 * j.val + r.val) / 64 ≤ q.val / 64 + 8
  · rw [if_pos hb, if_pos rfl, if_pos hb, readAt2]
    exact congrArg (· * (((Real.log 2)⁻¹ : ℝ) : EReal)) (congrArg₂ (fun a b => x3 (ix2 a b)) (Fin.ext (by dsimp only; omega)) (Fin.ext (by dsimp only; omega)))
  · rw [if_neg hb, if_neg (by decide), if_neg hb]

theorem bias_apply (g : Fin 4) (k : Fin 640) (l : Fin 512) : bias m c (ix3 g k l) = entry (inBias m c) g k l := by
  refine View.canon_apply_of_pieces (S := S4x640x512) (e := .f32) (fun y => entry (inBias m c) (y 0) (y 1) (y 2)) (biasPieces m c) (fun p hp => ?_) (ix3 g k l) (bias_cover m c _)
  rw [biasPieces_eq] at hp
  obtain ⟨j, -, hp⟩ := List.mem_flatMap.mp hp
  obtain ⟨h, -, rfl⟩ := List.mem_map.mp hp
  exact biasPiece_apply _ _ _ j h

end Cert.Kernel2Ideal.Att

end
-- ==== Proof.AttTables.lean ====
module

public import proofs.«01_k».proof.Proof.AttWeights
public import proofs.«01_k».proof.Proof.AttBias
public import Idealize.ShloMosaic.Lib.Pipeline.ValueKit

@[expose] public section

set_option maxRecDepth 16384

noncomputable section

namespace Cert.Kernel2Ideal.Att

open Idealize.ShloMosaic Cert.Kernel2Ideal Cert.Kernel2Ideal.Gen Cert.Pieces
open Idealize.ShloMosaic.TcCoe
open Cert.Spec.Att (lo hi chan)

/-! # The operands, as the arguments hold them -/

/-! ## The bias, extended -/

/-- The bias with nothing put above or below it, -/
def edged (z w : Vec Ideal S0x513 .f32) (v : Vec Ideal S16x513 .f32) : Vec Ideal S16x513 .f32 :=
  concatenate S16x513 0 [⟨S0x513, z⟩, ⟨S16x513, v⟩, ⟨S0x513, w⟩] concatenates_S0x513_S16x513_S0x513_S16x513_d0
/-- with nothing put before it and its last column repeated after it. -/
def stretched (z : Vec Ideal S16x0 .f32) (v : Vec Ideal S16x513 .f32) : Vec Ideal S16x1024 .f32 :=
  concatenate S16x1024 1 [⟨S16x0, z⟩, ⟨S16x513, v⟩, ⟨S16x511, shapeCast S16x511 (broadcastInDim S16x1x511 ![0, 1] bcast_S16x1_S16x1x511_0_1 (extractStridedSlice S16x1 ![0, 512] v slices_S16x513_S16x1_0_512)) shapeCasts_S16x1x511_S16x511⟩] concatenates_S16x0_S16x513_S16x511_S16x1024_d1

theorem edged_apply (z w : Vec Ideal S0x513 .f32) (v : Vec Ideal S16x513 .f32) (h : Fin 16) (y : Fin 513) : edged z w v (ix2 h y) = v (ix2 h y) :=
  concatenate_apply_piece 0 _ _ (ix2 h y) 1 (by show 1 < 3; decide) S16x513 v rfl rfl 0 rfl (ix2 h y) (fun _ _ => rfl) (Nat.zero_add _)

theorem repeated_apply (v : Vec Ideal S16x513 .f32) (h : Fin 16) (y : Fin 511) :
    shapeCast S16x511 (broadcastInDim S16x1x511 ![0, 1] bcast_S16x1_S16x1x511_0_1 (extractStridedSlice S16x1 ![0, 512] v slices_S16x513_S16x1_0_512)) shapeCasts_S16x1x511_S16x511 (ix2 h y) = v (ix2 h 512) := by
  pointwise

theorem stretched_apply (z : Vec Ideal S16x0 .f32) (v : Vec Ideal S16x513 .f32) (h : Fin 16) (y : Fin 1024) : stretched z v (ix2 h y) = v (ix2 h ⟨min y.val 512, by omega⟩) := by
  by_cases hy : y.val < 513
  · have e : (⟨min y.val 512, by omega⟩ : Fin 513) = ⟨y.val, hy⟩ := Fin.ext (by dsimp only; omega)
    rw [e]
    exact concatenate_apply_piece 1 _ _ (ix2 h y) 1 (by show 1 < 3; decide) S16x513 v rfl rfl 0 rfl (ix2 h ⟨y.val, hy⟩) (fun b hb => match b with | 0 => rfl | 1 => absurd rfl hb) (Nat.zero_add _)
  · have e : (⟨min y.val 512, by omega⟩ : Fin 513) = 512 := Fin.ext (by show min y.val 512 = 512; omega)
    rw [e]
    refine Eq.trans ?_ (repeated_apply v h ⟨y.val - 513, by omega⟩)
    exact concatenate_apply_piece 1 _ _ (ix2 h y) 2 (by show 2 < 3; decide) S16x511 _ rfl rfl 513 rfl (ix2 h ⟨y.val - 513, by omega⟩) (fun b hb => match b with | 0 => rfl | 1 => absurd rfl hb) (by show 513 + (y.val - 513) = y.val; omega)

/-! ## What a block leaves in the history -/

section
variable (arg2 : Memref sig .tc .vmem S512x1024 .f32) (harg2 : arg2.IsWhole) (arg11 : Memref sig .tc .vmem S512x1024 .bf16) (x0 : Vec Ideal S512x1024 .f32) (xs : Vec Ideal S1024x1024 .bf16)

theorem leftKeys_apply (arg13 arg19 : Memref sig .tc .vmem S1024x1024 .bf16) (harg19 : arg19.IsWhole) (hk : Vec Ideal S512x1024 .bf16) (r : Fin 512) (e : Fin 1024) :
    mainRun.sl.v4650 arg2 harg2 arg11 arg13 arg19 harg19 x0 hk xs (ix2 r e) = ∑ k, urow x0 r k * xs (ix2 k e) := by
  unfold mainRun.sl.v4650
  rw [kPieces_eq]
  refine (readCov_at arg13.view _ (kbuf x0 hk xs) (kPieces_apply arg2 harg2 arg11 arg19 harg19 x0 hk xs 4) 512 0 inb_S1024x1024_S512x1024_512_0 r e
    ⟨kPiece arg2 harg2 arg11 arg19 harg19 x0 xs ⟨e.val / 256, by omega⟩, List.mem_append_left _ (List.mem_map_of_mem (all_groups _)),
      mem_unit2 512 (256 * (e.val / 256)) (fits_knew ⟨e.val / 256, by omega⟩) _ _ ⟨by dsimp only; omega, by dsimp only; omega⟩ ⟨by dsimp only; omega, by dsimp only; omega⟩⟩).trans ?_
  unfold kbuf
  rw [dif_neg (by dsimp only; omega)]
  exact Finset.sum_congr rfl fun k _ => congrArg₂ (fun r e => urow x0 r k * xs (ix2 k e)) (Fin.ext (by dsimp only; omega)) (Fin.ext (by dsimp only; omega))

theorem leftValues_apply (arg14 : Memref sig .tc .vmem S1280x1024 .bf16) (arg20 : Memref sig .tc .vmem S1024x1024 .bf16) (harg20 : arg20.IsWhole) (hv : Vec Ideal S1280x512 .bf16) (R : Fin 1280) (r : Fin 512) :
    mainRun.sl.v4654 arg2 harg2 arg11 arg14 arg20 harg20 x0 hv xs (ix2 R r) = if R.val % 80 < 64 then ∑ k, xs (ix2 ⟨64 * (R.val / 80) + R.val % 80 % 64, by omega⟩ k) * urow x0 r k else 1 := by
  unfold mainRun.sl.v4654
  rw [vPieces_eq]
  refine (readCov_at arg14.view _ (vbuf x0 hv xs) (vPieces_apply arg2 harg2 arg11 arg20 harg20 x0 hv xs 4) 0 512 inb_S1280x1024_S1280x512_0_512 R r
    (vPieces_cover arg2 harg2 arg11 arg20 harg20 x0 hv xs 4 ⟨R.val / 80 / 4, by omega⟩ (all_groups _) ⟨R.val / 80 % 4, by omega⟩ _ (by dsimp only; omega) _)).trans ?_
  unfold vbuf
  rw [dif_neg (by dsimp only; omega)]
  by_cases hR : R.val % 80 < 64
  · rw [dif_pos (by dsimp only; omega), if_pos hR]
    exact Finset.sum_congr rfl fun k _ => congrArg₂ (fun e r => xs (ix2 e k) * urow x0 r k) (Fin.ext (by dsimp only; omega)) (Fin.ext (by dsimp only; omega))
  · rw [dif_neg (by dsimp only; omega), if_neg hR]
end

variable (m : (ℓ : Loc nD τ sig) → Buf (Elt Ideal) ℓ) (c : Dev nD)

/-- The arguments. -/
abbrev argX : Vec Ideal S4x4096x1024 .f32 := m ((c : Thread nD τ).loc main_arg0)
abbrev argGk : Vec Ideal S1024 .f32 := m ((c : Thread nD τ).loc main_arg1)
abbrev argWkv : Vec Ideal S1024x2048 .f32 := m ((c : Thread nD τ).loc main_arg2)
abbrev argGb : Vec Ideal S1x1024 .f32 := m ((c : Thread nD τ).loc main_arg3)
abbrev argWqz : Vec Ideal S1x1024x2048 .f32 := m ((c : Thread nD τ).loc main_arg4)
abbrev argBias : Vec Ideal S1x16x513 .f32 := m ((c : Thread nD τ).loc main_arg5)
abbrev argWo : Vec Ideal S1x1024x1024 .f32 := m ((c : Thread nD τ).loc main_arg6)
abbrev argGf : Vec Ideal S1024 .f32 := m ((c : Thread nD τ).loc main_arg7)

theorem V_arg2 : V m c main_arg2 = argWkv m c := rfl
theorem V_v0 : V m c main_v0 = shapeCast S16384x1024 (argX m c) shapeCasts_S4x4096x1024_S16384x1024 := rfl
/-- The bias as a matrix, -/
abbrev biasRows : Vec Ideal S16x513 .f32 := shapeCast S16x513 (argBias m c) shapeCasts_S1x16x513_S16x513
/-- with nothing above or below it. -/
abbrev biasEdged : Vec Ideal S16x513 .f32 :=
  edged (shapeCast S0x513 (broadcastInDim S1x0x513 ![0, 2] bcast_S1x513_S1x0x513_0_2 (extractStridedSlice S1x513 ![0, 0] (biasRows m c) slices_S16x513_S1x513_0_0)) shapeCasts_S1x0x513_S0x513)
    (shapeCast S0x513 (broadcastInDim S1x0x513 ![0, 2] bcast_S1x513_S1x0x513_0_2 (extractStridedSlice S1x513 ![15, 0] (biasRows m c) slices_S16x513_S1x513_15_0)) shapeCasts_S1x0x513_S0x513) (biasRows m c)
theorem V_v2 : V m c main_v2 = stretched (shapeCast S16x0 (broadcastInDim S16x1x0 ![0, 1] bcast_S16x1_S16x1x0_0_1 (extractStridedSlice S16x1 ![0, 0] (biasEdged m c) slices_S16x513_S16x1_0_0)) shapeCasts_S16x1x0_S16x0) (biasEdged m c) := by
  sl_kernel_rfl
theorem V_v3 : V m c main_v3 = shapeCast S1024x1 (argGk m c) shapeCasts_S1024_S1024x1 := rfl
theorem V_v5 : V m c main_v5 = shapeCast S1024x1 (shapeCast S1024 (argGb m c) shapeCasts_S1x1024_S1024) shapeCasts_S1024_S1024x1 := rfl
theorem V_v6 : V m c main_v6 = shapeCast S1024x2048 (argWqz m c) shapeCasts_S1x1024x2048_S1024x2048 := rfl
theorem V_v7 : V m c main_v7 = shapeCast S1024x1024 (argWo m c) shapeCasts_S1x1024x1024_S1024x1024 := rfl
theorem V_v8 : V m c main_v8 = shapeCast S1x1024 (argGf m c) shapeCasts_S1024_S1x1024 := rfl

/-! ## The windows' places -/

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![0, 0] := by decide +kernel
theorem place3 : ∀ t : Fin cfg0.N, win0_3.index t = ![0, 0] := by decide +kernel
theorem place4 : ∀ t : Fin cfg0.N, win0_4.index t = ![0, 0] := by decide +kernel
theorem place5 : ∀ t : Fin cfg0.N, win0_5.index t = ![t.val, 0] := by decide +kernel
theorem place : ∀ t : Fin cfg0.N, (grid0.coords t 1).val = t.val % 8 := by decide +kernel

theorem points (t : Fin cfg0.N) : t.val < 32 := lt_of_lt_of_eq t.isLt (show cfg0.N = 32 from N_0)

/-- The tokens of a sequence. -/
abbrev tokens (b : Fin 4) (s : Fin 4096) (k : Fin 1024) : EReal := argX m c (ix3 b s k)
/-- The gains, the weights and the bias. -/
abbrev gk (k : Fin 1024) : EReal := argGk m c (ix1 k)
abbrev gb (k : Fin 1024) : EReal := argGb m c (ix2 0 k)
abbrev wkv (k : Fin 1024) (o : Fin 2048) : EReal := argWkv m c (ix2 k o)
abbrev wqz (k : Fin 1024) (o : Fin 2048) : EReal := argWqz m c (ix3 0 k o)
abbrev relBias (h : Fin 16) (d : Fin 513) : EReal := argBias m c (ix3 0 h d)
abbrev wout (e n : Fin 1024) : EReal := argWo m c (ix3 0 e n)
abbrev gf (n : Fin 1024) : EReal := argGf m c (ix1 n)

/-- The sequence of point `t`'s block, and the place in it of the block's row `r`. -/
abbrev seqOf (t : Fin cfg0.N) : Fin 4 := ⟨t.val / 8, by have := points t; omega⟩
abbrev posOf (t : Fin cfg0.N) (r : Fin 512) : Fin 4096 := ⟨512 * (t.val % 8) + r.val, by omega⟩

theorem block0_apply (t : Fin cfg0.N) (r : Fin 512) (k : Fin 1024) : iblk m c 0 t (ix2 r k) = tokens m c (seqOf t) (posOf t r) k := by
  have ht := points t
  have e : V m c main_v0 (ix2 (⟨512 * t.val + r.val, by omega⟩ : Fin 16384) k) = tokens m c (seqOf t) (posOf t r) k := by
    have e' : ∀ R : Fin 16384, V m c main_v0 (ix2 R k) = argX m c (ix3 ⟨R.val / 4096, by omega⟩ ⟨R.val % 4096, by omega⟩ k) := fun R => by rw [V_v0]; pointwise
    exact (e' _).trans (congrArg₂ (fun a b => argX m c (ix3 a b k)) (Fin.ext (by dsimp only; omega)) (Fin.ext (by dsimp only; omega)))
  refine Eq.trans ?_ e
  unfold iblk
  blk_ext [place0]

theorem block1_apply (t : Fin cfg0.N) (k : Fin 1024) : iblk m c 1 t (ix2 k 0) = gk m c k := by
  have e : V m c main_v3 (ix2 k 0) = gk m c k := by rw [V_v3]; pointwise
  refine Eq.trans ?_ e
  unfold iblk
  blk_ext [place1]

theorem block2_apply (t : Fin cfg0.N) (k : Fin 1024) : iblk m c 2 t (ix2 k 0) = gb m c k := by
  have e : V m c main_v5 (ix2 k 0) = gb m c k := by rw [V_v5]; pointwise
  refine Eq.trans ?_ e
  unfold iblk
  blk_ext [place2]

theorem block3_apply (t : Fin cfg0.N) (h : Fin 16) (y : Fin 1024) : iblk m c 3 t (ix2 h y) = relBias m c h ⟨min y.val 512, by omega⟩ := by
  have e : V m c main_v2 (ix2 h y) = relBias m c h ⟨min y.val 512, by omega⟩ := by
    rw [V_v2, stretched_apply]
    refine (edged_apply _ _ _ _ _).trans ?_
    pointwise
  refine Eq.trans ?_ e
  unfold iblk
  blk_ext [place3]

theorem block4_apply (t : Fin cfg0.N) (n : Fin 1024) : iblk m c 4 t (ix2 0 n) = gf m c n := by
  have e : V m c main_v8 (ix2 0 n) = gf m c n := by rw [V_v8]; pointwise
  refine Eq.trans ?_ e
  unfold iblk
  blk_ext [place4]

theorem inQz_apply (k : Fin 1024) (o : Fin 2048) : inQz m c (ix2 k o) = wqz m c k o := by
  rw [inQz, V_v6]; pointwise
theorem inOut_apply (k n : Fin 1024) : inOut m c (ix2 k n) = wout m c k n := by
  rw [inOut, V_v7]; pointwise

/-! ## A block's products -/

theorem urow_eq (t : Fin cfg0.N) (r : Fin 512) : urow (iblk m c 0 t) r = Spec.Att.unit (tokens m c (seqOf t) (posOf t r)) :=
  congrArg Spec.Att.unit (funext fun k => block0_apply m c t r k)

theorem wk_arg (k e : Fin 1024) : wk m c (ix2 k e) = wkv m c k (lo e) * gk m c k :=
  (wk_apply m c k e).trans (congrArg₂ (fun a b : EReal => a * b) (congrFun (V_arg2 m c) _) (block1_apply m c t0 k))
theorem wv_arg (e k : Fin 1024) : wv m c (ix2 e k) = wkv m c k (hi e) * gk m c k :=
  (wv_apply m c e k).trans (congrArg₂ (fun a b : EReal => a * b) (congrFun (V_arg2 m c) _) (block1_apply m c t0 k))
theorem wq_arg (e k : Fin 1024) : wq m c (ix2 e k) = wqz m c k (lo e) * gb m c k :=
  (wq_apply m c e k).trans (congrArg₂ (fun a b : EReal => a * b) (inQz_apply m c k _) (block2_apply m c t0 k))
theorem wz_arg (e k : Fin 1024) : wz m c (ix2 e k) = wqz m c k (hi e) * gb m c k :=
  (wz_apply m c e k).trans (congrArg₂ (fun a b : EReal => a * b) (inQz_apply m c k _) (block2_apply m c t0 k))

theorem newKey_apply (t : Fin cfg0.N) (r : Fin 512) (e : Fin 1024) :
    ∑ k, urow (iblk m c 0 t) r k * wk m c (ix2 k e) = Spec.Att.key (tokens m c (seqOf t)) (gk m c) (wkv m c) (posOf t r) e := by
  rw [urow_eq]
  refine Eq.trans (Finset.sum_congr rfl fun k _ => ?_) (Spec.Att.proj_scaled (tokens m c (seqOf t) (posOf t r)) (gk m c) (wkv m c) (lo e))
  rw [wk_arg]
theorem newValue_apply (t : Fin cfg0.N) (r : Fin 512) (e : Fin 1024) :
    ∑ k, wv m c (ix2 e k) * urow (iblk m c 0 t) r k = Spec.Att.value (tokens m c (seqOf t)) (gk m c) (wkv m c) (posOf t r) e := by
  rw [urow_eq]
  refine Eq.trans (Finset.sum_congr rfl fun k _ => ?_) (Spec.Att.proj_scaled (tokens m c (seqOf t) (posOf t r)) (gk m c) (wkv m c) (hi e))
  rw [wv_arg, mul_comm]
theorem newQuery_apply (t : Fin cfg0.N) (r : Fin 512) (e : Fin 1024) :
    ∑ k, wq m c (ix2 e k) * urow (iblk m c 0 t) r k = Spec.Att.query (tokens m c (seqOf t)) (gb m c) (wqz m c) (posOf t r) e := by
  rw [urow_eq]
  refine Eq.trans (Finset.sum_congr rfl fun k _ => ?_) (Spec.Att.proj_scaled (tokens m c (seqOf t) (posOf t r)) (gb m c) (wqz m c) (lo e))
  rw [wq_arg, mul_comm]
theorem newGate_apply (t : Fin cfg0.N) (r : Fin 512) (e : Fin 1024) :
    ∑ k, wz m c (ix2 e k) * urow (iblk m c 0 t) r k = Spec.Att.proj (Spec.norm (tokens m c (seqOf t) (posOf t r)) (gb m c)) (wqz m c) (hi e) := by
  rw [urow_eq]
  refine Eq.trans (Finset.sum_congr rfl fun k _ => ?_) (Spec.Att.proj_scaled (tokens m c (seqOf t) (posOf t r)) (gb m c) (wqz m c) (hi e))
  rw [wz_arg, mul_comm]

/-! ## The history -/

theorem zeroK_apply (r : Fin 512) (e : Fin 1024) : zeroK (F := Ideal) (ix2 r e) = (0 : EReal) := by
  have h : Ideal.ofBits .bf16 0x0000#16 = (0 : EReal) := by simp [Ideal.ofBits, Ideal.ieee]
  exact h

/-- At a sequence's first block the keys before it are zero. -/
theorem usedK_begin (t : Fin cfg0.N) (h8 : t.val % 8 = 0) (r : Fin 512) (e : Fin 1024) : (used m c t.val).1 (ix2 r e) = (0 : EReal) := by
  by_cases h : t.val = 0
  · rw [h]; exact zeroK_apply r e
  · rw [used_begin m c _ h h8]; exact zeroK_apply r e

theorem kept_keys (z : Vec Ideal S512x1024 .bf16) (r : Fin 512) (e : Fin 1024) : k0_pay1 z (ix2 r e) = z (ix2 r e) := by pointwise [k0_pay1]
theorem kept_values (z : Vec Ideal S1280x512 .bf16) (R : Fin 1280) (r : Fin 512) : k0_pay2 z (ix2 R r) = z (ix2 R r) := by pointwise [k0_pay2]

theorem stepK_apply (t : Fin cfg0.N) (h : Vec Ideal S512x1024 .bf16 × Vec Ideal S1280x512 .bf16) (r : Fin 512) (e : Fin 1024) :
    (step m c t h).1 (ix2 r e) = Spec.Att.key (tokens m c (seqOf t)) (gk m c) (wkv m c) (posOf t r) e := by
  unfold step
  dsimp only
  rw [kept_keys, leftKeys_apply, newKey_apply]

theorem stepV_apply (t : Fin cfg0.N) (h : Vec Ideal S512x1024 .bf16 × Vec Ideal S1280x512 .bf16) (R : Fin 1280) (r : Fin 512) :
    (step m c t h).2 (ix2 R r) = if R.val % 80 < 64 then Spec.Att.value (tokens m c (seqOf t)) (gk m c) (wkv m c) (posOf t r) ⟨64 * (R.val / 80) + R.val % 80 % 64, by omega⟩ else 1 := by
  unfold step
  dsimp only
  rw [kept_values, leftValues_apply, newValue_apply]

/-- Within a sequence the history is the block before. -/
theorem used_step (t : Fin cfg0.N) (h8 : t.val % 8 ≠ 0) : used m c t.val = step m c ⟨t.val - 1, lt_of_le_of_lt (Nat.sub_le _ _) t.isLt⟩ (used m c (t.val - 1)) :=
  (used_within m c t.val (fun h => h8 (by rw [h])) h8).trans (left_at m c ⟨t.val - 1, lt_of_le_of_lt (Nat.sub_le _ _) t.isLt⟩)

theorem seqOf_prev (t : Fin cfg0.N) (h8 : t.val % 8 ≠ 0) : seqOf ⟨t.val - 1, lt_of_le_of_lt (Nat.sub_le _ _) t.isLt⟩ = seqOf t := Fin.ext (by dsimp only; omega)

theorem usedK_apply (t : Fin cfg0.N) (h8 : t.val % 8 ≠ 0) (r : Fin 512) (e : Fin 1024) :
    (used m c t.val).1 (ix2 r e) = Spec.Att.key (tokens m c (seqOf t)) (gk m c) (wkv m c) ⟨512 * (t.val % 8) + r.val - 512, by omega⟩ e := by
  rw [used_step m c t h8, stepK_apply, seqOf_prev t h8]
  exact congrArg (fun p => Spec.Att.key (tokens m c (seqOf t)) (gk m c) (wkv m c) p e) (Fin.ext (by dsimp only; omega))
theorem usedV_apply (t : Fin cfg0.N) (h8 : t.val % 8 ≠ 0) (R : Fin 1280) (r : Fin 512) :
    (used m c t.val).2 (ix2 R r) = if R.val % 80 < 64 then Spec.Att.value (tokens m c (seqOf t)) (gk m c) (wkv m c) ⟨512 * (t.val % 8) + r.val - 512, by omega⟩ ⟨64 * (R.val / 80) + R.val % 80 % 64, by omega⟩ else 1 := by
  rw [used_step m c t h8, stepV_apply, seqOf_prev t h8]
  exact congrArg (fun p => if R.val % 80 < 64 then Spec.Att.value (tokens m c (seqOf t)) (gk m c) (wkv m c) p ⟨64 * (R.val / 80) + R.val % 80 % 64, by omega⟩ else 1) (Fin.ext (by dsimp only; omega))

end Cert.Kernel2Ideal.Att

end
-- ==== Proof.AttTop.lean ====
module

public import proofs.«01_k».proof.Proof.AttOps

@[expose] public section

set_option maxRecDepth 16384

noncomputable section

namespace Cert.Kernel2Ideal.Att

open Idealize.ShloMosaic Cert.Kernel2Ideal Cert.Kernel2Ideal.Gen

/-! # The weights of a window

The greatest score is real; what is measured from it is a real or the bottom element; and where the history is to be left out its
weights are zero. -/

theorem eight_apply (v : FVec Ideal S128x512 .f32) (u : Fin 16) (r : Fin 8) (q : Fin 512) : eight v u (ix2 r q) = v (ix2 ⟨8 * u.val + r.val, by omega⟩ q) := by
  pointwise [eight]

theorem eight_le_fold (v : FVec Ideal S128x512 .f32) (u : Fin 16) (y : S8x512.Idx) : (eight v u y : EReal) ≤ fold v y := by
  show (eight v u y : EReal) ≤ max (max (max (max (eight v 0 y) (eight v 1 y)) (max (eight v 2 y) (eight v 3 y))) (max (max (eight v 4 y) (eight v 5 y)) (max (eight v 6 y) (eight v 7 y))))
    (max (max (max (eight v 8 y) (eight v 9 y)) (max (eight v 10 y) (eight v 11 y))) (max (max (eight v 12 y) (eight v 13 y)) (max (eight v 14 y) (eight v 15 y))))
  fin_cases u <;> simp [le_max_iff]

theorem fold_lt (v : FVec Ideal S128x512 .f32) (y : S8x512.Idx) (h : ∀ u, (eight v u y : EReal) < ⊤) : (fold v y : EReal) < ⊤ := by
  show max (max (max (max (eight v 0 y) (eight v 1 y)) (max (eight v 2 y) (eight v 3 y))) (max (max (eight v 4 y) (eight v 5 y)) (max (eight v 6 y) (eight v 7 y))))
    (max (max (max (eight v 8 y) (eight v 9 y)) (max (eight v 10 y) (eight v 11 y))) (max (max (eight v 12 y) (eight v 13 y)) (max (eight v 14 y) (eight v 15 y)))) < (⊤ : EReal)
  simp only [max_lt_iff, h, and_self]

variable (pen : EReal) (hpen : pen = ⊥ ∨ pen = 0) (s : FVec Ideal S640x512 .f32) (j : Fin 4) (q : Fin 512) (ht : ∀ k, (s (ix2 k q) : EReal) ≠ ⊤)

include ht in
theorem block_fold_lt (b : Fin 5) (r : Fin 8) : (fold (block s b) (ix2 r q) : EReal) < ⊤ :=
  fold_lt _ _ fun u => by rw [eight_apply, block_apply]; exact lt_top_iff_ne_top.mpr (ht _)

include hpen ht in
theorem folded_lt (b : Fin 5) (r : Fin 8) : (folded (F := Ideal) pen s j b (ix2 r q) : EReal) < ⊤ := by
  have h := block_fold_lt s q ht b r
  unfold folded
  cases early j b
  · exact h
  · show (fold (block s b) (ix2 r q) : EReal) + pen < ⊤
    rcases hpen with rfl | rfl
    · rw [EReal.add_bot]; exact bot_lt_top
    · rw [add_zero]; exact h

include hpen ht in
/-- The greatest of a query's scores is real, where its own key's is not the bottom element. -/
theorem top_isReal (o : Fin 128) (ho : (s (ix2 ⟨512 + o.val, by omega⟩ q) : EReal) ≠ ⊥) : Spec.IsReal (top (F := Ideal) pen s j (ix2 0 q)) := by
  rw [top_apply]
  refine Spec.Att.isReal_fold _ (fun r => ne_of_lt ?_) ⟨o.val % 8, by omega⟩ fun hb => ho (le_bot_iff.mp (le_trans ?_ (le_of_eq hb)))
  · simp only [max_lt_iff, folded_lt pen hpen s j q ht, and_self]
  · refine le_trans ?_ (le_max_right _ _)
    have he : early j 4 = false := by unfold early; exact decide_eq_false (by show ¬j.val + 4 < 4; omega)
    have hf : folded (F := Ideal) pen s j 4 = fold (block s 4) := by unfold folded; rw [he]; rfl
    rw [hf]
    refine le_trans (le_of_eq ?_) (eight_le_fold (block s 4) ⟨o.val / 8, by omega⟩ _)
    rw [eight_apply, block_apply]
    exact congrArg (fun k => s (ix2 k q)) (Fin.ext (by show 512 + o.val = 128 * 4 + (8 * (o.val / 8) + o.val % 8); omega))

theorem weights_apply (b : Fin 5) (r : Fin 128) : weights (F := Ideal) pen s j b (ix2 r q) = Ideal.exp2 (block s b (ix2 r q) - origin (F := Ideal) pen s j b (ix2 0 q)) := by
  pointwise [weights]
  rfl

theorem window_block (b : Fin 5) (r : Fin 128) : window (F := Ideal) pen s j (ix2 ⟨128 * b.val + r.val, by omega⟩ q) = weights (F := Ideal) pen s j b (ix2 r q) := by
  match b with
  | 0 | 1 => pointwise [window]
  | 2 =>
    pointwise [window]
    rw [dif_neg (by omega), dif_neg (by omega), dif_pos (by omega)]
    exact congrArg (fun t => weights (F := Ideal) pen s j 2 (ix2 t q)) (Fin.ext (by dsimp only; omega))
  | 3 =>
    pointwise [window]
    rw [dif_neg (by omega), dif_neg (by omega), dif_neg (by omega), dif_pos (by omega)]
    exact congrArg (fun t => weights (F := Ideal) pen s j 3 (ix2 t q)) (Fin.ext (by dsimp only; omega))
  | 4 =>
    pointwise [window]
    rw [dif_neg (by omega), dif_neg (by omega), dif_neg (by omega), dif_neg (by omega)]
    exact congrArg (fun t => weights (F := Ideal) pen s j 4 (ix2 t q)) (Fin.ext (by dsimp only; omega))

theorem window_apply (k : Fin 640) (M : ℝ) (hM : (top (F := Ideal) pen s j (ix2 0 q) : EReal) = (M : EReal)) :
    window (F := Ideal) pen s j (ix2 k q) = Ideal.exp2 (s (ix2 k q) - (if 128 * j.val + k.val < 512 then (M : EReal) - pen else (M : EReal))) := by
  have e := window_block pen s j q ⟨k.val / 128, by omega⟩ ⟨k.val % 128, by omega⟩
  have hk : (⟨128 * (k.val / 128) + k.val % 128, by omega⟩ : Fin 640) = k := Fin.ext (Nat.div_add_mod _ _)
  rw [weights_apply, block_apply] at e
  simp only [hk] at e
  rw [e]
  congr 2
  unfold origin early
  by_cases h : 128 * j.val + k.val < 512
  · rw [if_pos h, decide_eq_true (show j.val + k.val / 128 < 4 by omega)]
    show (top (F := Ideal) pen s j (ix2 0 q) : EReal) - pen = _
    rw [hM]
  · rw [if_neg h, decide_eq_false (show ¬j.val + k.val / 128 < 4 by omega)]
    exact hM

end Cert.Kernel2Ideal.Att

end
-- ==== Proof.AttMix.lean ====
module

public import proofs.«01_k».proof.Proof.AttTop

@[expose] public section

set_option maxRecDepth 16384

noncomputable section

namespace Cert.Kernel2Ideal.Att

open Idealize.ShloMosaic Cert.Kernel2Ideal Cert.Kernel2Ideal.Gen

/-! # A window's mixture is the sequence's -/

section
variable (pen : EReal) (hpen : pen = ⊥ ∨ pen = 0) (s : FVec Ideal S640x512 .f32) (j : Fin 4) (q : Fin 512) (o : Fin 128)
  (b : ℕ) (hb : b + 128 ≤ 4096) (v one : Fin 640 → EReal) (value : Fin 4096 → EReal) (sc : Fin 4096 → ℝ) (sn : Fin 4096 → Prop) [DecidablePred sn]
  (hs : ∀ (k : Fin 640) (p : Fin 4096), b + k.val = 512 + p.val → (s (ix2 k q) : EReal) = if sn p then ((sc p * (Real.log 2)⁻¹ : ℝ) : EReal) else ⊥)
  (hv : ∀ (k : Fin 640) (p : Fin 4096), b + k.val = 512 + p.val → v k = value p ∧ one k = 1)
  (hbefore : ∀ k : Fin 640, b + k.val < 512 → pen = ⊥ ∧ 128 * j.val + k.val < 512 ∧ (s (ix2 k q) : EReal) ≠ ⊤)
  (hwithin : ∀ (k : Fin 640) (p : Fin 4096), b + k.val = 512 + p.val → 128 * j.val + k.val < 512 → pen = 0)
  (own : Fin 4096) (he : own.val = b + o.val) (hown : sn own) (hout : ∀ p : Fin 4096, (p.val + 512 < b ∨ b + 128 ≤ p.val) → ¬sn p)

/-- The weight of a position of the sequence. -/
abbrev wt (p : Fin 4096) : ℝ := if sn p then Real.exp (sc p) else 0

include hpen hb hs hbefore hwithin he hown in
/-- A window's weights are the sequence's multiples by one positive number. -/
theorem window_weight : ∃ C : ℝ, 0 < C ∧ (∀ (k : Fin 640) (p : Fin 4096), b + k.val = 512 + p.val → (window (F := Ideal) pen s j (ix2 k q) : EReal) = ((wt sc sn p * C : ℝ) : EReal))
    ∧ ∀ k : Fin 640, b + k.val < 512 → (window (F := Ideal) pen s j (ix2 k q) : EReal) = 0 := by
  have ht : ∀ k, (s (ix2 k q) : EReal) ≠ ⊤ := fun k => by
    by_cases hk : b + k.val < 512
    · exact (hbefore k hk).2.2
    · rw [hs k ⟨b + k.val - 512, by omega⟩ (by dsimp only; omega)]
      split
      · exact EReal.coe_ne_top _
      · exact bot_ne_top
  have ho : (s (ix2 ⟨512 + o.val, by omega⟩ q) : EReal) ≠ ⊥ := by
    rw [hs ⟨512 + o.val, by omega⟩ own (by dsimp only; omega), if_pos hown]
    exact EReal.coe_ne_bot _
  obtain ⟨M, hM⟩ := top_isReal pen hpen s j q ht o ho
  refine ⟨Real.exp (-(M * Real.log 2)), Real.exp_pos _, fun k p hp => ?_, fun k hk => ?_⟩
  · rw [window_apply pen s j q k M hM, hs k p hp]
    have e : (if 128 * j.val + k.val < 512 then (M : EReal) - pen else (M : EReal)) = (M : EReal) := by
      split
      · rename_i h; rw [hwithin k p hp h, sub_zero]
      · rfl
    rw [e]
    unfold wt
    split
    · exact Spec.Att.exp2_sub _ _
    · rw [zero_mul, EReal.bot_sub]
      exact Ideal.exp2_bot
  · obtain ⟨hp, hj, hn⟩ := hbefore k hk
    rw [window_apply pen s j q k M hM, if_pos hj, hp, EReal.coe_sub_bot]
    have e : (s (ix2 k q) : EReal) - ⊤ = ⊥ := by
      generalize (s (ix2 k q) : EReal) = z at hn
      induction z using EReal.rec with
      | bot => rfl
      | top => exact absurd rfl hn
      | coe r => rfl
    exact (congrArg Ideal.exp2 e).trans Ideal.exp2_bot

include hpen hs hv hbefore hwithin he hown hout hb in
theorem attend_apply :
    (∑ k, v k * window (F := Ideal) pen s j (ix2 k q)) * Ideal.div 1 (∑ k, one k * window (F := Ideal) pen s j (ix2 k q))
      = (∑ p, value p * ((wt sc sn p : ℝ) : EReal)) * (((∑ p, wt sc sn p)⁻¹ : ℝ) : EReal) := by
  obtain ⟨C, hC, hw, h0⟩ := window_weight pen hpen s j q o b hb sc sn hs hbefore hwithin own he hown
  have hz : ∀ p : Fin 4096, (p.val + 512 < b ∨ b + 128 ≤ p.val) → wt sc sn p * C = 0 := fun p hp => by unfold wt; rw [if_neg (hout p hp), zero_mul]
  rw [Spec.Att.sum_window b hb (fun k => v k * window (F := Ideal) pen s j (ix2 k q)) (fun p => value p * ((wt sc sn p * C : ℝ) : EReal))
      (fun k p hp => by rw [hw k p hp, (hv k p hp).1]) (fun k hk => by rw [h0 k hk, mul_zero]) (fun p hp => by rw [hz p hp, EReal.coe_zero, mul_zero]),
    Spec.Att.sum_window b hb (fun k => one k * window (F := Ideal) pen s j (ix2 k q)) (fun p => ((wt sc sn p * C : ℝ) : EReal))
      (fun k p hp => by rw [hw k p hp, (hv k p hp).2, one_mul]) (fun k hk => by rw [h0 k hk, mul_zero]) (fun p hp => by rw [hz p hp, EReal.coe_zero])]
  refine Spec.Att.mix_of_multiples value (wt sc sn) C hC ?_
  refine Finset.sum_pos' (fun p _ => ?_) ⟨own, Finset.mem_univ _, ?_⟩
  · unfold wt; split
    · exact (Real.exp_pos _).le
    · exact le_rfl
  · unfold wt; rw [if_pos hown]; exact Real.exp_pos _
end

end Cert.Kernel2Ideal.Att

end
-- ==== Proof.AttOut.lean ====
module

public import proofs.«01_k».proof.Proof.AttTables
public import proofs.«01_k».proof.Proof.AttMix

@[expose] public section

set_option maxRecDepth 16384

noncomputable section

namespace Cert.Kernel2Ideal.Att

open Idealize.ShloMosaic Cert.Kernel2Ideal Cert.Kernel2Ideal.Gen Cert.Pieces
open Idealize.ShloMosaic.TcCoe
open Cert.Spec.Att (lo hi chan)

/-! # The call's result -/

/-! ## The block's rows, from its heads' outputs -/

section
variable (i : grid0.Coords) (arg2 : Memref sig .tc .vmem S512x1024 .f32) (harg2 : arg2.IsWhole) (arg9 : Memref sig .tc .vmem S1x1024 .f32) (harg9 : arg9.IsWhole) (arg11 : Memref sig .tc .vmem S512x1024 .bf16) (arg13 : Memref sig .tc .vmem S1024x1024 .bf16) (arg14 : Memref sig .tc .vmem S1280x1024 .bf16) (arg15 : Memref sig .tc .vmem S1024x512 .bf16) (arg16 : Memref sig .tc .vmem S1024x512 .f32) (arg17 : Memref sig .tc .vmem S1024x512 .bf16) (arg18 : Memref sig .tc .vmem S4x640x512 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole)
  (x0 : Vec Ideal S512x1024 .f32) (x4 : Vec Ideal S1x1024 .f32) (hk : Vec Ideal S512x1024 .bf16) (hv : Vec Ideal S1280x512 .bf16) (xs7 : Vec Ideal S4x640x512 .f32) (xs8 xs9 xs10 xs11 xs12 : Vec Ideal S1024x1024 .bf16)

theorem oPieces_cover (y : S1024x512.Idx) : ∃ p ∈ oPieces i arg2 harg2 arg11 arg13 arg14 arg15 arg16 arg18 harg18 arg19 harg19 arg20 harg20 arg21 harg21 arg22 harg22 x0 hk hv xs7 xs8 xs9 xs10 xs11, y ∈ p.1.set :=
  View.cover_of_tiledL (oPieces i arg2 harg2 arg11 arg13 arg14 arg15 arg16 arg18 harg18 arg19 harg19 arg20 harg20 arg21 harg21 arg22 harg22 x0 hk hv xs7 xs8 xs9 xs10 xs11) S64x128.size (by sl_kernel_rfl) y

theorem outBlock_apply (G : Fin 1024 → Fin 512 → EReal)
    (hG : ∀ (j g a : Fin 4) (d : Fin 64) (q : Fin 128), (oPiece i arg2 harg2 arg11 arg13 arg14 arg15 arg16 arg18 harg18 arg19 harg19 arg20 harg20 arg21 harg21 arg22 harg22 x0 hk hv xs7 xs8 xs9 xs10 xs11 j g a).2 (ix2 d q) = G ⟨64 * (4 * g.val + a.val) + d.val, by omega⟩ ⟨128 * j.val + q.val, by omega⟩) (r : Fin 512) (n : Fin 1024) :
    outBlock i arg2 harg2 arg9 harg9 arg11 arg13 arg14 arg15 arg16 arg17 arg18 harg18 arg19 harg19 arg20 harg20 arg21 harg21 arg22 harg22 arg23 harg23 x0 x4 hk hv xs7 xs8 xs9 xs10 xs11 xs12 (ix2 r n) = Spec.norm (fun n => x0 (ix2 r n) + ∑ e, G e r * xs12 (ix2 e n)) (fun n => x4 (ix2 0 n)) n := by
  unfold outBlock
  rw [last_apply, readAt_whole2, readAt_whole2, readAt_whole2]
  have h : ∀ e : Fin 1024, arg17.view.readCov (oPieces i arg2 harg2 arg11 arg13 arg14 arg15 arg16 arg18 harg18 arg19 harg19 arg20 harg20 arg21 harg21 arg22 harg22 x0 hk hv xs7 xs8 xs9 xs10 xs11) (Rect.unit (s := S1024x512) ![0, 0] S1024x512.size inb_S1024x512_S1024x512_0_0).toLoadRect (ix2 e r) = G e r := fun e => by
    refine (readCov2 arg17.view _ G (fun p hp => ?_) (oPieces_cover i arg2 harg2 arg11 arg13 arg14 arg15 arg16 arg18 harg18 arg19 harg19 arg20 harg20 arg21 harg21 arg22 harg22 x0 hk hv xs7 xs8 xs9 xs10 xs11) 0 0 inb_S1024x512_S1024x512_0_0 e r).trans (by rw [fin_zero_add, fin_zero_add])
    obtain ⟨g, -, hp⟩ := List.mem_flatMap.mp hp
    obtain ⟨j, -, hp⟩ := List.mem_flatMap.mp hp
    obtain ⟨a, -, rfl⟩ := List.mem_map.mp hp
    exact piece2 (e := .bf16) G (64 * (4 * g.val + a.val)) (128 * j.val) (fits_gate j g a) _ fun d q => hG j g a d q
  simp only [h]
end

variable (m : (ℓ : Loc nD τ sig) → Buf (Elt Ideal) ℓ) (c : Dev nD)

/-! ## The buffers at a point -/

theorem kbuf_apply (t : Fin cfg0.N) (R e : Fin 1024) (p : Fin 4096) (hp : 512 * (t.val % 8) + R.val = 512 + p.val) :
    kbuf (iblk m c 0 t) (used m c t.val).1 (wk m c) R e = Spec.Att.key (tokens m c (seqOf t)) (gk m c) (wkv m c) p e := by
  unfold kbuf
  by_cases h : R.val < 512
  · rw [dif_pos h, usedK_apply m c t (by omega)]
    exact congrArg (fun p => Spec.Att.key (tokens m c (seqOf t)) (gk m c) (wkv m c) p e) (Fin.ext (by dsimp only; omega))
  · rw [dif_neg h, newKey_apply]
    exact congrArg (fun p => Spec.Att.key (tokens m c (seqOf t)) (gk m c) (wkv m c) p e) (Fin.ext (by dsimp only; omega))
theorem kbuf_begin (t : Fin cfg0.N) (h8 : t.val % 8 = 0) (R e : Fin 1024) (h : R.val < 512) : kbuf (iblk m c 0 t) (used m c t.val).1 (wk m c) R e = 0 := by
  unfold kbuf
  rw [dif_pos h, usedK_begin m c t h8]
theorem vbuf_apply (t : Fin cfg0.N) (R : Fin 1280) (C : Fin 1024) (p : Fin 4096) (hp : 512 * (t.val % 8) + C.val = 512 + p.val) :
    vbuf (iblk m c 0 t) (used m c t.val).2 (wv m c) R C = if R.val % 80 < 64 then Spec.Att.value (tokens m c (seqOf t)) (gk m c) (wkv m c) p ⟨64 * (R.val / 80) + R.val % 80 % 64, by omega⟩ else 1 := by
  unfold vbuf
  by_cases h : C.val < 512
  · rw [dif_pos h, usedV_apply m c t (by omega)]
    exact congrArg (fun p => if R.val % 80 < 64 then Spec.Att.value (tokens m c (seqOf t)) (gk m c) (wkv m c) p ⟨64 * (R.val / 80) + R.val % 80 % 64, by omega⟩ else 1) (Fin.ext (by dsimp only; omega))
  · rw [dif_neg h]
    by_cases hR : R.val % 80 < 64
    · rw [dif_pos hR, if_pos hR, newValue_apply]
      exact congrArg₂ (fun p e => Spec.Att.value (tokens m c (seqOf t)) (gk m c) (wkv m c) p e) (Fin.ext (by dsimp only; omega)) (Fin.ext (by dsimp only; omega))
    · rw [dif_neg hR, if_neg hR]
theorem qbuf_apply (t : Fin cfg0.N) (e : Fin 1024) (r : Fin 512) :
    qbuf (iblk m c 0 t) (wq m c) e r = Spec.Att.query (tokens m c (seqOf t)) (gb m c) (wqz m c) (posOf t r) e * (((8 * Real.log 2)⁻¹ : ℝ) : EReal) := by
  unfold qbuf
  rw [newQuery_apply]
theorem zbuf_apply (t : Fin cfg0.N) (e : Fin 1024) (r : Fin 512) : zbuf (iblk m c 0 t) (wz m c) e r = Spec.Att.gate (tokens m c (seqOf t)) (gb m c) (wqz m c) (posOf t r) e := by
  unfold zbuf
  rw [newGate_apply]
  rfl

theorem bias_entry (g a : Fin 4) (k : Fin 640) (q : Fin 128) :
    bias m c (ix3 g k ⟨128 * a.val + q.val, by omega⟩) = if q.val / 64 ≤ k.val / 64 ∧ k.val / 64 ≤ q.val / 64 + 8 then
      relBias m c ⟨4 * g.val + a.val, by omega⟩ ⟨min (768 + q.val - k.val) 512, by omega⟩ * (((Real.log 2)⁻¹ : ℝ) : EReal) else ⊥ := by
  rw [bias_apply]
  unfold entry
  have e : (128 * a.val + q.val) % 128 = q.val := by omega
  have e' : (128 * a.val + q.val) / 128 = a.val := by omega
  dsimp only
  simp only [e, e']
  exact if_congr Iff.rfl (congrArg (· * _) (block3_apply m c t0 _ _)) rfl

variable (hgk : ∀ k, Spec.IsReal (gk m c k)) (hgb : ∀ k, Spec.IsReal (gb m c k)) (hwk : ∀ k e, Spec.IsReal (wkv m c k (lo e))) (hwq : ∀ k o, Spec.IsReal (wqz m c k o))
  (hbi : ∀ h d, Spec.IsReal (relBias m c h d))

/-! ## The scores -/

include hgk hgb hwk hwq hbi in
theorem score_apply (t : Fin cfg0.N) (j g a : Fin 4) (q : Fin 128) (k : Fin 640) (p : Fin 4096) (hp : 512 * (t.val % 8) + 128 * j.val + k.val = 512 + p.val) :
    scores (grid0.coords t) (ms0_0 t) (hs0_0 t) scM0_0 scM0_2 scM0_4 scM0_7 (Memref.isWhole_whole _) scM0_8 (Memref.isWhole_whole _) scM0_10 (Memref.isWhole_whole _) (iblk m c 0 t) (used m c t.val).1 (bias m c) (wk m c) (wq m c) j g (ix2 k ⟨128 * a.val + q.val, by omega⟩)
      = if Spec.Att.seen (posOf t ⟨128 * j.val + q.val, by omega⟩) p then
          ((Spec.Att.score (tokens m c (seqOf t)) (gk m c) (gb m c) (wkv m c) (wqz m c) (relBias m c) ⟨4 * g.val + a.val, by omega⟩ (posOf t ⟨128 * j.val + q.val, by omega⟩) p * (Real.log 2)⁻¹ : ℝ) : EReal) else ⊥ := by
  rw [scoresAt_apply, bias_entry]
  have hd : (∑ d : Fin 64, kbuf (iblk m c 0 t) (used m c t.val).1 (wk m c) ⟨128 * j.val + k.val, by omega⟩ (Spec.Att.chan ⟨4 * g.val + a.val, by omega⟩ d)
        * qbuf (iblk m c 0 t) (wq m c) (Spec.Att.chan ⟨4 * g.val + a.val, by omega⟩ d) ⟨128 * j.val + q.val, by omega⟩)
      = Spec.Att.dot (tokens m c (seqOf t)) (gk m c) (gb m c) (wkv m c) (wqz m c) ⟨4 * g.val + a.val, by omega⟩ (posOf t ⟨128 * j.val + q.val, by omega⟩) p * (((8 * Real.log 2)⁻¹ : ℝ) : EReal) := by
    refine Eq.trans (Finset.sum_congr rfl fun d _ => ?_) (Spec.Att.sum_mul_of_isReal _ (fun d => (Spec.Att.key_isReal _ _ _ hgk hwk p _).mul (Spec.Att.query_isReal _ _ _ hgb hwq _ _)) _)
    rw [kbuf_apply m c t _ _ p (by dsimp only; omega), qbuf_apply, mul_assoc]
  rw [hd]
  obtain ⟨D, hD⟩ := Spec.Att.dot_isReal (tokens m c (seqOf t)) (gk m c) (gb m c) (wkv m c) (wqz m c) hgk hgb hwk hwq ⟨4 * g.val + a.val, by omega⟩ (posOf t ⟨128 * j.val + q.val, by omega⟩) p
  have hs : Spec.Att.seen (posOf t ⟨128 * j.val + q.val, by omega⟩) p ↔ (q.val / 64 ≤ k.val / 64 ∧ k.val / 64 ≤ q.val / 64 + 8) := by
    unfold Spec.Att.seen
    dsimp only
    constructor <;> intro h <;> omega
  by_cases h : q.val / 64 ≤ k.val / 64 ∧ k.val / 64 ≤ q.val / 64 + 8
  · rw [if_pos h, if_pos (hs.mpr h)]
    have e : (⟨min (768 + q.val - k.val) 512, by omega⟩ : Fin 513) = Spec.Att.dist (posOf t ⟨128 * j.val + q.val, by omega⟩) p := by
      unfold Spec.Att.dist
      exact Fin.ext (by dsimp only; omega)
    obtain ⟨B, hB⟩ := hbi ⟨4 * g.val + a.val, by omega⟩ (Spec.Att.dist (posOf t ⟨128 * j.val + q.val, by omega⟩) p)
    rw [e]
    unfold Spec.Att.score
    rw [hD, hB, EReal.toReal_coe, EReal.toReal_coe, ← EReal.coe_mul, ← EReal.coe_mul, ← EReal.coe_add]
    exact congrArg Real.toEReal (by rw [mul_inv]; ring)
  · rw [if_neg h, if_neg fun h' => h (hs.mp h'), hD, ← EReal.coe_mul, EReal.add_bot]

include hbi in
theorem score_begin (t : Fin cfg0.N) (h8 : t.val % 8 = 0) (j g a : Fin 4) (q : Fin 128) (k : Fin 640) (hk : 128 * j.val + k.val < 512) :
    (scores (grid0.coords t) (ms0_0 t) (hs0_0 t) scM0_0 scM0_2 scM0_4 scM0_7 (Memref.isWhole_whole _) scM0_8 (Memref.isWhole_whole _) scM0_10 (Memref.isWhole_whole _) (iblk m c 0 t) (used m c t.val).1 (bias m c) (wk m c) (wq m c) j g (ix2 k ⟨128 * a.val + q.val, by omega⟩) : EReal) ≠ ⊤ := by
  rw [scoresAt_apply, bias_entry, Finset.sum_eq_zero fun d _ => by rw [kbuf_begin m c t h8 _ _ hk, zero_mul], zero_add]
  split
  · obtain ⟨B, hB⟩ := hbi ⟨4 * g.val + a.val, by omega⟩ ⟨min (768 + q.val - k.val) 512, by omega⟩
    rw [hB, ← EReal.coe_mul]
    exact EReal.coe_ne_top _
  · exact bot_ne_top

/-! ## A head's output -/

theorem pen_at (t : Fin cfg0.N) : k0_pay153 (F := Ideal) (grid0.coords t) = if t.val % 8 = 0 then (⊥ : EReal) else 0 := by
  rw [pen_apply, place]

include hgk hgb hwk hwq hbi in
theorem head_out (t : Fin cfg0.N) (j g a : Fin 4) (d : Fin 64) (q : Fin 128) :
    (oPiece (grid0.coords t) (ms0_0 t) (hs0_0 t) scM0_0 scM0_2 scM0_3 scM0_4 scM0_5 scM0_7 (Memref.isWhole_whole _) scM0_8 (Memref.isWhole_whole _) scM0_9 (Memref.isWhole_whole _) scM0_10 (Memref.isWhole_whole _) scM0_11 (Memref.isWhole_whole _) (iblk m c 0 t) (used m c t.val).1 (used m c t.val).2 (bias m c) (wk m c) (wv m c) (wq m c) (wz m c) j g a).2 (ix2 d q)
      = Spec.Att.gated (tokens m c (seqOf t)) (gk m c) (gb m c) (wkv m c) (wqz m c) (relBias m c) (posOf t ⟨128 * j.val + q.val, by omega⟩) (Spec.Att.chan ⟨4 * g.val + a.val, by omega⟩ d) := by
  rw [oPiece_apply, zbuf_apply]
  have e0 : (⟨(Spec.Att.chan ⟨4 * g.val + a.val, by omega⟩ d).val / 64, by omega⟩ : Fin 16) = ⟨4 * g.val + a.val, by omega⟩ := Fin.ext (by dsimp only; omega)
  have e1 : (⟨(Spec.Att.chan ⟨4 * g.val + a.val, by omega⟩ d).val % 64, by omega⟩ : Fin 64) = d := Fin.ext (by dsimp only; omega)
  unfold Spec.Att.gated
  rw [e0, e1]
  refine congrArg (· * _) ?_
  refine attend_apply (k0_pay153 (F := Ideal) (grid0.coords t)) ?_ (scores (grid0.coords t) (ms0_0 t) (hs0_0 t) scM0_0 scM0_2 scM0_4 scM0_7 (Memref.isWhole_whole _) scM0_8 (Memref.isWhole_whole _) scM0_10 (Memref.isWhole_whole _) (iblk m c 0 t) (used m c t.val).1 (bias m c) (wk m c) (wq m c) j g) j ⟨128 * a.val + q.val, by omega⟩ q (512 * (t.val % 8) + 128 * j.val) (by omega) _ _
    (fun p => Spec.Att.value (tokens m c (seqOf t)) (gk m c) (wkv m c) p (Spec.Att.chan ⟨4 * g.val + a.val, by omega⟩ d))
    (fun p => Spec.Att.score (tokens m c (seqOf t)) (gk m c) (gb m c) (wkv m c) (wqz m c) (relBias m c) ⟨4 * g.val + a.val, by omega⟩ (posOf t ⟨128 * j.val + q.val, by omega⟩) p)
    (fun p => Spec.Att.seen (posOf t ⟨128 * j.val + q.val, by omega⟩) p) ?_ ?_ ?_ ?_ (posOf t ⟨128 * j.val + q.val, by omega⟩) (by dsimp only; omega) ?_ ?_
  · rw [pen_at]; split
    · exact Or.inl rfl
    · exact Or.inr rfl
  · exact fun k p hp => score_apply m c hgk hgb hwk hwq hbi t j g a q k p hp
  · intro k p hp
    constructor
    · rw [vbuf_apply m c t _ _ p (by dsimp only; omega), if_pos (by dsimp only; omega)]
      exact congrArg (fun e => Spec.Att.value (tokens m c (seqOf t)) (gk m c) (wkv m c) p e) (Fin.ext (by dsimp only; omega))
    · rw [vbuf_apply m c t _ _ p (by dsimp only; omega), if_neg (by dsimp only; omega)]
  · intro k hk
    have h8 : t.val % 8 = 0 := by omega
    exact ⟨by rw [pen_at, if_pos h8], by omega, score_begin m c hbi t h8 j g a q k (by omega)⟩
  · intro k p hp hk
    rw [pen_at, if_neg (by omega)]
  · unfold Spec.Att.seen
    dsimp only
    omega
  · intro p hp
    unfold Spec.Att.seen
    dsimp only
    omega

/-! ## The result -/

/-- The attention of the arguments. -/
abbrev attention (R : Fin 16384) (n : Fin 1024) : EReal :=
  Spec.Att.result (tokens m c ⟨R.val / 4096, by omega⟩) (gk m c) (gb m c) (wkv m c) (wqz m c) (relBias m c) (wout m c) (gf m c) ⟨R.val % 4096, by omega⟩ n

/-- Row `r` of point `t`'s block, in the list of all the tokens. -/
abbrev rowIdx (t : Fin cfg0.N) (r : Fin 512) : Fin 16384 := ⟨512 * t.val + r.val, by have := points t; omega⟩

theorem rows_eq (t : Fin cfg0.N) (x : FVec Idealize.ShloMosaic.Ideal S512x1024 .f32) (g : FVec Idealize.ShloMosaic.Ideal S1x1024 .f32) (w : FVec Idealize.ShloMosaic.Ideal S1024x1024 .f32)
    (h0 : ∀ r n, x (ix2 r n) = tokens m c (seqOf t) (posOf t r) n) (h4 : ∀ n, g (ix2 0 n) = gf m c n) (hw : ∀ e n, w (ix2 e n) = wout m c e n) (r : Fin 512) (n : Fin 1024) :
    Spec.norm (fun n => x (ix2 r n) + ∑ e, Spec.Att.gated (tokens m c (seqOf t)) (gk m c) (gb m c) (wkv m c) (wqz m c) (relBias m c) (posOf t r) e * w (ix2 e n)) (fun n => g (ix2 0 n)) n = attention m c (rowIdx t r) n := by
  have ht := points t
  have e0 : (⟨(rowIdx t r).val / 4096, by omega⟩ : Fin 4) = seqOf t := Fin.ext (by dsimp only; omega)
  have e1 : (⟨(rowIdx t r).val % 4096, by omega⟩ : Fin 4096) = posOf t r := Fin.ext (by dsimp only; omega)
  simp only [h0, h4, hw]
  show _ = Spec.Att.result (tokens m c ⟨(rowIdx t r).val / 4096, by omega⟩) (gk m c) (gb m c) (wkv m c) (wqz m c) (relBias m c) (wout m c) (gf m c) ⟨(rowIdx t r).val % 4096, by omega⟩ n
  rw [e0, e1]
  rfl

include hgk hgb hwk hwq hbi in
theorem block_attention (t : Fin cfg0.N) (r : Fin 512) (n : Fin 1024) : outBlock (grid0.coords t) (ms0_0 t) (hs0_0 t) (ms0_4 t) (hs0_4 t) scM0_0 scM0_2 scM0_3 scM0_4 scM0_5 scM0_6 scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 4 t) (used m c t.val).1 (used m c t.val).2 (bias m c) (wk m c) (wv m c) (wq m c) (wz m c) (wo m c) (ix2 r n) = attention m c (rowIdx t r) n :=
  (outBlock_apply (grid0.coords t) (ms0_0 t) (hs0_0 t) (ms0_4 t) (hs0_4 t) scM0_0 scM0_2 scM0_3 scM0_4 scM0_5 scM0_6 scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 4 t) (used m c t.val).1 (used m c t.val).2 (bias m c) (wk m c) (wv m c) (wq m c) (wz m c) (wo m c) (fun e r => Spec.Att.gated (tokens m c (seqOf t)) (gk m c) (gb m c) (wkv m c) (wqz m c) (relBias m c) (posOf t r) e) (fun j g a d q => head_out m c hgk hgb hwk hwq hbi t j g a d q) r n).trans (rows_eq m c t (iblk m c 0 t) (iblk m c 4 t) (wo m c) (fun r n => block0_apply m c t r n) (fun n => block4_apply m c t n) (fun e n => (wo_apply m c e n).trans (inOut_apply m c e n)) r n)

/-- The block is stored whole. -/
theorem outPieces_eq (t : Fin cfg0.N) : (mainAt m c t (used m c t.val)).1.1 = [⟨Rect.unit ![0, 0] S512x1024.size inb_S512x1024_S512x1024_0_0, outBlock (grid0.coords t) (ms0_0 t) (hs0_0 t) (ms0_4 t) (hs0_4 t) scM0_0 scM0_2 scM0_3 scM0_4 scM0_5 scM0_6 scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 4 t) (used m c t.val).1 (used m c t.val).2 (bias m c) (wk m c) (wv m c) (wq m c) (wz m c) (wo m c)⟩] := by
  rw [← outBlock_eq]
  sl_kernel_rfl

include hgk hgb hwk hwq hbi in
theorem outAt_apply (t : Fin cfg0.N) (r : Fin 512) (n : Fin 1024) : outAt m c t (ix2 r n) = attention m c (rowIdx t r) n := by
  refine View.canon_apply_of_pieces (S := S512x1024) (e := .f32) (fun y => attention m c (rowIdx t (y 0)) (y 1)) (mainAt m c t (used m c t.val)).1.1 (fun p hp => ?_) _ (out_cover m c t _ _)
  rw [outPieces_eq] at hp
  rw [List.mem_singleton.mp hp]
  refine piece2 (e := .f32) (fun r n => attention m c (rowIdx t r) n) 0 0 inb_S512x1024_S512x1024_0_0 _ fun r n => ?_
  rw [fin_zero_add, fin_zero_add]
  exact block_attention m c hgk hgb hwk hwq hbi t r n

include hgk hgb hwk hwq hbi in
theorem array_eq : (dats m 0 c).arrAt 5 cfg0.N = fun y : S16384x1024.Idx => attention m c (y 0) (y 1) := by
  refine (dats m 0 c).arrAt_eq_of_covers 5 _ (by decide +kernel) fun t hf y => ?_
  obtain ⟨r, n, rfl⟩ : ∃ (r : Fin 512) (n : Fin 1024), y = ix2 r n := ⟨y 0, y 1, eq_ix2 y⟩
  blk_simp [after0_5]
  have e : (win0_5.blk t).view.emb (ix2 r n) = (ix2 (rowIdx t r) n : S16384x1024.Idx) := by blk_ext [place5]
  exact (outAt_apply m c hgk hgb hwk hwq hbi t r n).trans (congrArg (fun y : S16384x1024.Idx => attention m c (y 0) (y 1)) e.symm)

end Cert.Kernel2Ideal.Att

end
-- ==== Proof.AttRef.lean ====
module

public import proofs.«01_k».proof.Proof.AttSpec
public import proofs.«01_k».proof.Proof.Gen.Reference2Ideal.Run

@[expose] public section

set_option maxRecDepth 16384

noncomputable section

namespace Cert.Reference2Ideal.Att

open Idealize.ShloMosaic Cert.Reference2Ideal Cert.Reference2Ideal.Gen Cert.Reference2Ideal.Value
open Idealize.ShloMosaic.TcCoe

/-! # The reference of the attention, stage by stage -/

/-- The rows over the roots of their mean squares. -/
def unitRows (x : FVec Ideal S4x4096x1024 .f32) : FVec Ideal S4x4096x1024 .f32 :=
  mulf x (broadcastInDim S4x4096x1024 ![0, 1, 2] bcast_S4x4096x1_S4x4096x1024_0_1_2 (Host.rsqrt (addf (Host.divf (broadcastInDim S4x4096x1 ![0, 1] bcast_S4x4096_S4x4096x1_0_1
    (Host.reduceAdd (mulf x x) (constant S_ .f32 0x00000000#32) reducesTo_S4x4096x1024_S4x4096_d2 h_S_)) (broadcastInDim S4x4096x1 ![] bcast_S_S4x4096x1 (constant S_ .f32 0x44800000#32)))
    (broadcastInDim S4x4096x1 ![] bcast_S_S4x4096x1 (constant S_ .f32 0x358637BD#32)))))

/-- The rows normed. -/
def normOf (x : FVec Ideal S4x4096x1024 .f32) (g : FVec Ideal S1024 .f32) : FVec Ideal S4x4096x1024 .f32 :=
  mulf (unitRows x) (broadcastInDim S4x4096x1024 ![0, 1, 2] bcast_S1x1x1024_S4x4096x1024_0_1_2 (broadcastInDim S1x1x1024 ![2] bcast_S1024_S1x1x1024_2 g))

/-- The product of the normed rows. -/
def prod (x : FVec Ideal S4x4096x1024 .f32) (g : FVec Ideal S1024 .f32) (w : FVec Ideal S1024x2048 .f32) : FVec Ideal S4x4096x2048 .f32 :=
  Host.dotGeneral dot_S4x4096x1024_S1024x2048_S4x4096x2048_2_0_01_1_n_n none (normOf x g) w

/-- The two halves of a product's columns. -/
def first (p : FVec Ideal S4x4096x2048 .f32) : FVec Ideal S4x4096x1024 .f32 := extractStridedSlice S4x4096x1024 ![0, 0, 0] p slices_S4x4096x2048_S4x4096x1024_0_0_0
def second (p : FVec Ideal S4x4096x2048 .f32) : FVec Ideal S4x4096x1024 .f32 := extractStridedSlice S4x4096x1024 ![0, 0, 1024] p slices_S4x4096x2048_S4x4096x1024_0_0_1024

/-- The sigmoid unit of an array. -/
def gateOf (p : FVec Ideal S4x4096x1024 .f32) : FVec Ideal S4x4096x1024 .f32 :=
  mulf p (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf p))))

/-- Where the bias of each pair of positions is. -/
def place : IVec S4096x4096 32 :=
  addi (minsi (broadcastInDim S4096x4096 ![] bcast_S_S4096x4096 (id (constantI S_ 32 256#32))) (maxsi (broadcastInDim S4096x4096 ![] bcast_S_S4096x4096 (id (constantI S_ 32 4294967040#32)))
    (subi (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))))
    (broadcastInDim S4096x4096 ![] bcast_S_S4096x4096 (constantI S_ 32 256#32))

/-- The chunk of each position. -/
def chunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The pairs in the band. -/
def band : IVec S4096x4096 1 :=
  andi (cmpi .sle (broadcastInDim S4096x4096 ![0, 1] bcast_S1x4096_S4096x4096_0_1 (broadcastInDim S1x4096 ![1] bcast_S4096_S1x4096_1 chunk))
      (broadcastInDim S4096x4096 ![0, 1] bcast_S4096x1_S4096x4096_0_1 (broadcastInDim S4096x1 ![0] bcast_S4096_S4096x1_0 chunk)))
    (cmpi .sge (broadcastInDim S4096x4096 ![0, 1] bcast_S1x4096_S4096x4096_0_1 (broadcastInDim S1x4096 ![1] bcast_S4096_S1x4096_1 chunk))
      (broadcastInDim S4096x4096 ![0, 1] bcast_S4096x1_S4096x4096_0_1 (subi (broadcastInDim S4096x1 ![0] bcast_S4096_S4096x1_0 chunk) (broadcastInDim S4096x1 ![] bcast_S_S4096x1 (constantI S_ 32 8#32)))))

/-- The bias of each pair of positions. -/
def biasOf (b : FVec Ideal S1x16x513 .f32) : FVec Ideal S16x4096x4096 .f32 :=
  Host.gather gather_S16x513_S4096x4096x1_S16x4096x4096_0_1_n_n_1_2_161 (shapeCast S16x513 b shapeCasts_S1x16x513_S16x513)
    (broadcastInDim S4096x4096x1 ![0, 1] bcast_S4096x4096_S4096x4096x1_0_1 (select (cmpi .slt place (broadcastInDim S4096x4096 ![] bcast_S_S4096x4096 (constantI S_ 32 0#32)))
      (addi place (broadcastInDim S4096x4096 ![] bcast_S_S4096x4096 (constantI S_ 32 513#32))) place))

/-- The scores, masked. -/
def scoresOf (k q : FVec Ideal S4x4096x1024 .f32) (b : FVec Ideal S16x4096x4096 .f32) : FVec Ideal S4x16x4096x4096 .f32 :=
  select (broadcastInDim S4x16x4096x4096 ![2, 3] bcast_S4096x4096_S4x16x4096x4096_2_3 band)
    (addf (Host.dotGeneral dot_S4x4096x16x64_S4x4096x16x64_S4x16x4096x4096_3_3_1_1_02_02 none
        (shapeCast S4x4096x16x64 (mulf q (broadcastInDim S4x4096x1024 ![] bcast_S_S4x4096x1024 (constant S_ .f32 0x3E000000#32))) shapeCasts_S4x4096x1024_S4x4096x16x64)
        (shapeCast S4x4096x16x64 k shapeCasts_S4x4096x1024_S4x4096x16x64))
      (broadcastInDim S4x16x4096x4096 ![0, 1, 2, 3] bcast_S1x16x4096x4096_S4x16x4096x4096_0_1_2_3 (broadcastInDim S1x16x4096x4096 ![1, 2, 3] bcast_S16x4096x4096_S1x16x4096x4096_1_2_3 b)))
    (broadcastInDim S4x16x4096x4096 ![] bcast_S_S4x16x4096x4096 (id (constant S_ .f32 0xFF800000#32)))

/-- The greatest of each query's scores. -/
def topOf (s : FVec Ideal S4x16x4096x4096 .f32) : FVec Ideal S4x16x4096 .f32 :=
  maximumf (broadcastInDim S4x16x4096 ![] bcast_S_S4x16x4096 (constant S_ .f32 0xFF800000#32)) (Host.reduce FloatOps.maximumf s (constant S_ .f32 0xFF800000#32) reducesTo_S4x16x4096x4096_S4x16x4096_d3 h_S_)

/-- The scores' exponentials, measured from the greatest. -/
def expOf (s : FVec Ideal S4x16x4096x4096 .f32) (t : FVec Ideal S4x16x4096 .f32) : FVec Ideal S4x16x4096x4096 .f32 :=
  Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 t)))

/-- The values by the exponentials over their sum. -/
def mixOf (v : FVec Ideal S4x4096x1024 .f32) (e : FVec Ideal S4x16x4096x4096 .f32) : FVec Ideal S4x4096x1024 .f32 :=
  shapeCast S4x4096x1024 (transpose S4x4096x16x64 [0, 3, 1, 2] (Host.dotGeneral dot_S4x4096x16x64_S4x16x4096x4096_S4x16x64x4096_1_3_3_2_02_01 none
    (shapeCast S4x4096x16x64 v shapeCasts_S4x4096x1024_S4x4096x16x64)
    (Host.divf e (broadcastInDim S4x16x4096x4096 ![0, 1, 2, 3] bcast_S4x16x4096x1_S4x16x4096x4096_0_1_2_3 (broadcastInDim S4x16x4096x1 ![0, 1, 2] bcast_S4x16x4096_S4x16x4096x1_0_1_2
      (Host.reduceAdd e (constant S_ .f32 0x00000000#32) reducesTo_S4x16x4096x4096_S4x16x4096_d3 h_S_))))) transposes_S4x16x64x4096_S4x4096x16x64_0_3_1_2) shapeCasts_S4x4096x16x64_S4x4096x1024

/-- The rows plus the last product. -/
def addOf (x y : FVec Ideal S4x4096x1024 .f32) (wo : FVec Ideal S1x1024x1024 .f32) : FVec Ideal S4x4096x1024 .f32 :=
  addf x (Host.dotGeneral dot_S4x4096x1024_S1024x1024_S4x4096x1024_2_0_01_1_n_n none y (shapeCast S1024x1024 wo shapeCasts_S1x1024x1024_S1024x1024))

/-- All of it. -/
def outOf (x : FVec Ideal S4x4096x1024 .f32) (gk : FVec Ideal S1024 .f32) (wkv : FVec Ideal S1024x2048 .f32) (gb : FVec Ideal S1x1024 .f32) (wqz : FVec Ideal S1x1024x2048 .f32) (b : FVec Ideal S1x16x513 .f32)
    (wo : FVec Ideal S1x1024x1024 .f32) (gf : FVec Ideal S1024 .f32) : FVec Ideal S16384x1024 .f32 :=
  let kv := prod x gk wkv
  let qz := prod x (shapeCast S1024 gb shapeCasts_S1x1024_S1024) (shapeCast S1024x2048 wqz shapeCasts_S1x1024x2048_S1024x2048)
  let s := scoresOf (first kv) (first qz) (biasOf b)
  shapeCast S16384x1024 (normOf (addOf x (mulf (mixOf (second kv) (expOf s (topOf s))) (gateOf (second qz))) wo) gf) shapeCasts_S4x4096x1024_S16384x1024

theorem result_eq (V0 : Valuation τ sig (Elt Ideal)) :
    (shapeCast _ (normOf (res_main_v95 V0) (V0 (Proc.devRef .tc main_arg7))) shapeCasts_S4x4096x1024_S16384x1024 : FVec Ideal S16384x1024 .f32)
      = outOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
        (V0 (Proc.devRef .tc main_arg6)) (V0 (Proc.devRef .tc main_arg7)) := rfl

/-! ## The stages at an index -/

theorem unitRows_apply (x : FVec Ideal S4x4096x1024 .f32) (b : Fin 4) (s : Fin 4096) (k : Fin 1024) : unitRows x (ix3 b s k) = Spec.Att.unit (fun k => x (ix3 b s k)) k := by
  pointwise [unitRows]
  rfl

theorem normOf_apply (x : FVec Ideal S4x4096x1024 .f32) (g : FVec Ideal S1024 .f32) (b : Fin 4) (s : Fin 4096) (k : Fin 1024) :
    normOf x g (ix3 b s k) = Spec.norm (fun k => x (ix3 b s k)) (fun k => g (ix1 k)) k := by
  rw [Spec.Att.norm_eq, ← unitRows_apply]
  pointwise [normOf]

theorem prod_apply (x : FVec Ideal S4x4096x1024 .f32) (g : FVec Ideal S1024 .f32) (w : FVec Ideal S1024x2048 .f32) (b : Fin 4) (s : Fin 4096) (o : Fin 2048) :
    prod x g w (ix3 b s o) = Spec.Att.proj (Spec.norm (fun k => x (ix3 b s k)) (fun k => g (ix1 k))) (fun k o => w (ix2 k o)) o := by
  pointwise [prod]
  exact Finset.sum_congr rfl fun k _ => congrArg (· * _) (normOf_apply x g b s k)

theorem first_apply (p : FVec Ideal S4x4096x2048 .f32) (b : Fin 4) (s : Fin 4096) (k : Fin 1024) : first p (ix3 b s k) = p (ix3 b s (Spec.Att.lo k)) := by
  pointwise [first]
theorem second_apply (p : FVec Ideal S4x4096x2048 .f32) (b : Fin 4) (s : Fin 4096) (k : Fin 1024) : second p (ix3 b s k) = p (ix3 b s (Spec.Att.hi k)) := by
  pointwise [second]

theorem gateOf_apply (p : FVec Ideal S4x4096x1024 .f32) (b : Fin 4) (s : Fin 4096) (k : Fin 1024) : gateOf p (ix3 b s k) = p (ix3 b s k) * Ideal.div 1 (1 + Ideal.exp (-p (ix3 b s k))) := by
  pointwise [gateOf]

theorem chunk_apply (i : Fin 4096) : chunk (ix1 i) = BitVec.ofNat 32 (i.val / 64) := by
  pointwise [chunk]
  revert i; decide +kernel

theorem band_apply (i j : Fin 4096) : band (ix2 i j) = if Spec.Att.seen i j then 1#1 else 0#1 := by
  pointwise [band]
  rw [chunk_apply, chunk_apply]
  have key : ∀ a b : Fin 64, IntOp.andi (IntOp.cmpi .sle (BitVec.ofNat 32 b.val) (BitVec.ofNat 32 a.val)) (IntOp.cmpi .sge (BitVec.ofNat 32 b.val) (IntOp.subi (BitVec.ofNat 32 a.val) 8#32))
      = if b.val ≤ a.val ∧ a.val ≤ b.val + 8 then 1#1 else 0#1 := by decide +kernel
  exact key ⟨i.val / 64, by omega⟩ ⟨j.val / 64, by omega⟩

theorem place_apply (i j : Fin 4096) : place (ix2 i j) = BitVec.ofNat 32 (Spec.Att.dist i j).val := by
  pointwise [place]
  have key : ∀ d : Fin 8191, IntOp.addi (IntOp.minsi 256#32 (IntOp.maxsi 4294967040#32 (BitVec.ofNat 32 d.val - 4095#32))) 256#32 = BitVec.ofNat 32 (min (d.val + 256 - 4095) 512) := by decide +kernel
  have e : IntOp.subi (BitVec.ofNat 32 i.val) (BitVec.ofNat 32 j.val) = BitVec.ofNat 32 (i.val + (4095 - j.val)) - 4095#32 := by
    show BitVec.ofNat 32 i.val - BitVec.ofNat 32 j.val = _
    apply BitVec.eq_of_toNat_eq
    simp only [BitVec.toNat_sub, BitVec.toNat_ofNat]
    omega
  rw [e]
  refine (key ⟨i.val + (4095 - j.val), by omega⟩).trans (congrArg (BitVec.ofNat 32) ?_)
  show min (i.val + (4095 - j.val) + 256 - 4095) 512 = min (i.val + 256 - j.val) 512
  omega

theorem biasOf_apply (b : FVec Ideal S1x16x513 .f32) (h : Fin 16) (i j : Fin 4096) : biasOf b (ix3 h i j) = b (ix3 0 h (Spec.Att.dist i j)) := by
  have key : ∀ d : Fin 513, (Scalar.select (IntOp.cmpi .slt (BitVec.ofNat 32 d.val) 0#32) (IntOp.addi (BitVec.ofNat 32 d.val) 513#32) (BitVec.ofNat 32 d.val)).toInt.toNat = d.val := by decide +kernel
  have e : (Scalar.select (IntOp.cmpi .slt (place (ix2 i j)) 0#32) (IntOp.addi (place (ix2 i j)) 513#32) (place (ix2 i j))).toInt.toNat = (Spec.Att.dist i j).val := by
    rw [place_apply]; exact key _
  have e1 : shapeCast S16x513 b shapeCasts_S1x16x513_S16x513 (ix2 h (Spec.Att.dist i j)) = b (ix3 0 h (Spec.Att.dist i j)) := by pointwise
  refine Eq.trans ?_ e1
  unfold biasOf Host.gather
  refine congrArg (shapeCast S16x513 b shapeCasts_S1x16x513_S16x513) (funext fun a => ?_)
  match a with
  | 0 =>
    refine Fin.ext ?_
    show _ + _ + _ = h.val
    rw [GatherDims.batchCoord_eq_zero _ _ _ List.not_mem_nil]
    unfold GatherDims.start
    rw [dif_neg (by decide)]
    exact (Nat.zero_add _).trans rfl
  | 1 =>
    refine Fin.ext ?_
    show _ + _ + _ = (Spec.Att.dist i j).val
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (1 : Fin S16x513.rank) ∈ gather_S16x513_S4096x4096x1_S16x4096x4096_0_1_n_n_1_2_161.startIndexMap from List.mem_singleton.mpr rfl)]
    have hd := (Spec.Att.dist i j).isLt
    refine Eq.trans (congrArg (min · 512) ?_) (Nat.min_eq_left (Nat.le_of_lt_succ hd))
    refine Eq.trans ?_ e
    rfl

theorem eighth : Ideal.ofBits .f32 0x3E000000#32 = ((1 / 8 : ℝ) : EReal) := by
  simp [Ideal.ofBits, Ideal.ieee]
  rw [← EReal.coe_mul]
  norm_num

theorem lowest : Ideal.ofBits .f32 0xFF800000#32 = ⊥ := by
  simp [Ideal.ofBits, Ideal.ieee]

theorem scoresOf_apply (k q : FVec Ideal S4x4096x1024 .f32) (t : FVec Ideal S16x4096x4096 .f32) (b : Fin 4) (h : Fin 16) (i j : Fin 4096) :
    scoresOf k q t (ix4 b h i j) = if Spec.Att.seen i j then
      (∑ d : Fin 64, q (ix3 b i (Spec.Att.chan h d)) * ((1 / 8 : ℝ) : EReal) * k (ix3 b j (Spec.Att.chan h d))) + t (ix3 h i j) else ⊥ := by
  pointwise [scoresOf]
  rw [band_apply, eighth]
  split
  · refine congrArg (· + _) (Finset.sum_congr rfl fun d _ => ?_)
    exact congrArg (fun e => q (ix3 b i e) * ((1 / 8 : ℝ) : EReal) * k (ix3 b j e)) (Fin.ext (by show h.val * 64 + d.val = 64 * h.val + d.val; omega))
  · exact lowest

theorem reduce_isReal {s t u : Shape} {axes : List (Fin s.rank)} (x : s.Idx → EReal) (init : u.Idx → EReal) (h : s.ReducesTo axes t) (hu : 0 < u.numel) (hi : init (Shape.Idx.first hu) = ⊥)
    (ht : ∀ y, x y ≠ ⊤) (j : t.Idx) (y : s.Idx) (hy : h.drop y = j) (hb : x y ≠ ⊥) : Spec.IsReal (Host.reduce (FloatOps.maximumf (F := Ideal) (φ := .f32)) x init h hu j) := by
  have e : Host.reduce (FloatOps.maximumf (F := Ideal) (φ := .f32)) x init h hu j = (Finset.univ.filter fun y => h.drop y = j).fold max (init (Shape.Idx.first hu)) x :=
    Host.reduce_eq_fold (max : EReal → EReal → EReal) x init h hu j
  rw [e, hi]
  have hn : (Finset.univ.filter fun y => h.drop y = j).fold max (⊥ : EReal) x ≠ ⊤ :=
    ne_of_lt ((Finset.fold_max_lt ⊤).mpr ⟨bot_lt_top, fun y _ => lt_top_iff_ne_top.mpr (ht y)⟩)
  have hl : x y ≤ (Finset.univ.filter fun y => h.drop y = j).fold max (⊥ : EReal) x :=
    (Finset.le_fold_max _).mpr (Or.inr ⟨_, Finset.mem_filter.mpr ⟨Finset.mem_univ _, hy⟩, le_rfl⟩)
  exact ⟨_, (EReal.coe_toReal hn fun h => hb (le_bot_iff.mp (h ▸ hl))).symm⟩

theorem max_isReal {s : Shape} (z r : FVec Ideal s .f32) (j : s.Idx) (hz : z j = (⊥ : EReal)) (hr : Spec.IsReal (r j)) : Spec.IsReal (maximumf z r j) := by
  show Spec.IsReal (max (z j : EReal) (r j))
  rw [hz, max_eq_right bot_le]; exact hr

/-- The greatest of a query's scores is real where none is the top element and its own is not the bottom one. -/
theorem topOf_isReal (s : FVec Ideal S4x16x4096x4096 .f32) (ht : ∀ y, s y ≠ (⊤ : EReal)) (b : Fin 4) (h : Fin 16) (i : Fin 4096) (hi : s (ix4 b h i i) ≠ (⊥ : EReal)) :
    Spec.IsReal (topOf s (ix3 b h i)) := by
  unfold topOf
  refine max_isReal _ _ _ lowest (reduce_isReal s _ reducesTo_S4x16x4096x4096_S4x16x4096_d3 h_S_ lowest ht _ (ix4 b h i i) ?_ hi)
  funext a
  match a with
  | 0 | 1 | 2 => rfl

theorem expOf_apply (s : FVec Ideal S4x16x4096x4096 .f32) (t : FVec Ideal S4x16x4096 .f32) (b : Fin 4) (h : Fin 16) (i j : Fin 4096) :
    expOf s t (ix4 b h i j) = Ideal.exp (s (ix4 b h i j) - t (ix3 b h i)) := by
  pointwise [expOf]

theorem mixOf_apply (v : FVec Ideal S4x4096x1024 .f32) (e : FVec Ideal S4x16x4096x4096 .f32) (b : Fin 4) (i : Fin 4096) (k : Fin 1024) :
    mixOf v e (ix3 b i k) = ∑ j, v (ix3 b j k) * Ideal.div (e (ix4 b ⟨k.val / 64, by omega⟩ i j)) (∑ j, e (ix4 b ⟨k.val / 64, by omega⟩ i j)) := by
  pointwise [mixOf]

theorem addOf_apply (x y : FVec Ideal S4x4096x1024 .f32) (wo : FVec Ideal S1x1024x1024 .f32) (b : Fin 4) (s : Fin 4096) (n : Fin 1024) :
    addOf x y wo (ix3 b s n) = x (ix3 b s n) + ∑ k, y (ix3 b s k) * wo (ix3 0 k n) := by
  pointwise [addOf]

/-! ## The reference of the specification -/

section
variable (x : FVec Ideal S4x4096x1024 .f32) (gk : FVec Ideal S1024 .f32) (wkv : FVec Ideal S1024x2048 .f32) (gb : FVec Ideal S1x1024 .f32) (wqz : FVec Ideal S1x1024x2048 .f32) (bi : FVec Ideal S1x16x513 .f32)
  (wo : FVec Ideal S1x1024x1024 .f32) (gf : FVec Ideal S1024 .f32) (b : Fin 4)

/-- A sequence's rows, and the weights as matrices. -/
abbrev rows : Fin 4096 → Fin 1024 → EReal := fun i k => x (ix3 b i k)
abbrev vec (g : FVec Ideal S1024 .f32) : Fin 1024 → EReal := fun k => g (ix1 k)
abbrev vec1 (g : FVec Ideal S1x1024 .f32) : Fin 1024 → EReal := fun k => g (ix2 0 k)
abbrev mat : Fin 1024 → Fin 2048 → EReal := fun k o => wkv (ix2 k o)
abbrev mat1 : Fin 1024 → Fin 2048 → EReal := fun k o => wqz (ix3 0 k o)
abbrev tab : Fin 16 → Fin 513 → EReal := fun h d => bi (ix3 0 h d)
abbrev sq : Fin 1024 → Fin 1024 → EReal := fun k n => wo (ix3 0 k n)

/-- The second product, of the weights as they are given. -/
def qzOf : FVec Ideal S4x4096x2048 .f32 := prod x (shapeCast S1024 gb shapeCasts_S1x1024_S1024) (shapeCast S1024x2048 wqz shapeCasts_S1x1024x2048_S1024x2048)

theorem key_apply (j : Fin 4096) (e : Fin 1024) : first (prod x gk wkv) (ix3 b j e) = Spec.Att.key (rows x b) (vec gk) (mat wkv) j e := by
  rw [first_apply, prod_apply]; rfl
theorem value_apply (j : Fin 4096) (e : Fin 1024) : second (prod x gk wkv) (ix3 b j e) = Spec.Att.value (rows x b) (vec gk) (mat wkv) j e := by
  rw [second_apply, prod_apply]; rfl
theorem qz_apply (i : Fin 4096) (o : Fin 2048) : qzOf x gb wqz (ix3 b i o) = Spec.Att.proj (Spec.norm (rows x b i) (vec1 gb)) (mat1 wqz) o := by
  have e0 : (fun k => shapeCast S1024 gb shapeCasts_S1x1024_S1024 (ix1 k)) = vec1 gb := funext fun k => by pointwise
  have e1 : (fun k o => shapeCast S1024x2048 wqz shapeCasts_S1x1024x2048_S1024x2048 (ix2 k o)) = mat1 wqz := funext fun k => funext fun o => by pointwise
  unfold qzOf
  rw [prod_apply, e0, e1]
theorem query_apply (i : Fin 4096) (e : Fin 1024) : first (qzOf x gb wqz) (ix3 b i e) = Spec.Att.query (rows x b) (vec1 gb) (mat1 wqz) i e := by
  rw [first_apply, qz_apply]; rfl

variable (hgk : ∀ k, Spec.IsReal (gk (ix1 k))) (hwk : ∀ k e : Fin 1024, Spec.IsReal (wkv (ix2 k (Spec.Att.lo e)))) (hgb : ∀ k, Spec.IsReal (gb (ix2 0 k))) (hwq : ∀ (k : Fin 1024) (o : Fin 2048), Spec.IsReal (wqz (ix3 0 k o)))
  (hbi : ∀ (h : Fin 16) (d : Fin 513), Spec.IsReal (bi (ix3 0 h d)))

include hgb hwq in
theorem gate_apply (i : Fin 4096) (e : Fin 1024) : gateOf (second (qzOf x gb wqz)) (ix3 b i e) = Spec.Att.gate (rows x b) (vec1 gb) (mat1 wqz) i e := by
  obtain ⟨z, hz⟩ := Spec.Att.inner_isReal (rows x b) (vec1 gb) (mat1 wqz) hgb hwq i e
  unfold Spec.Att.gate
  rw [gateOf_apply, second_apply, qz_apply, hz, Spec.silu_coe]

/-- The scores. -/
abbrev scoresAll : FVec Ideal S4x16x4096x4096 .f32 := scoresOf (first (prod x gk wkv)) (first (qzOf x gb wqz)) (biasOf bi)

include hgk hwk hgb hwq hbi in
theorem score_apply (h : Fin 16) (i j : Fin 4096) :
    scoresAll x gk wkv gb wqz bi (ix4 b h i j) = if Spec.Att.seen i j then ((Spec.Att.score (rows x b) (vec gk) (vec1 gb) (mat wkv) (mat1 wqz) (tab bi) h i j : ℝ) : EReal) else ⊥ := by
  refine (scoresOf_apply _ _ _ b h i j).trans (if_congr Iff.rfl ?_ rfl)
  have e : ∀ d : Fin 64, first (qzOf x gb wqz) (ix3 b i (Spec.Att.chan h d)) * ((1 / 8 : ℝ) : EReal) * first (prod x gk wkv) (ix3 b j (Spec.Att.chan h d))
      = Spec.Att.key (rows x b) (vec gk) (mat wkv) j (Spec.Att.chan h d) * Spec.Att.query (rows x b) (vec1 gb) (mat1 wqz) i (Spec.Att.chan h d) * ((1 / 8 : ℝ) : EReal) := fun d => by
    rw [key_apply, query_apply, mul_right_comm, mul_comm (Spec.Att.query _ _ _ _ _)]
  rw [Finset.sum_congr rfl fun d _ => e d,
    Spec.Att.sum_mul_of_isReal _ (fun d => (Spec.Att.key_isReal (rows x b) (vec gk) (mat wkv) hgk hwk j _).mul (Spec.Att.query_isReal (rows x b) (vec1 gb) (mat1 wqz) hgb hwq i _)), biasOf_apply,
    Spec.Att.IsReal.eq (hbi h (Spec.Att.dist i j))]
  show Spec.Att.dot (rows x b) (vec gk) (vec1 gb) (mat wkv) (mat1 wqz) h i j * _ + _ = _
  rw [Spec.Att.IsReal.eq (Spec.Att.dot_isReal (rows x b) (vec gk) (vec1 gb) (mat wkv) (mat1 wqz) hgk hgb hwk hwq h i j), ← EReal.coe_mul, ← EReal.coe_add]
  unfold Spec.Att.score
  rw [mul_one_div]

include hgk hwk hgb hwq hbi in
/-- The exponentials are the weights' multiples by one positive number. -/
theorem exp_apply (h : Fin 16) (i : Fin 4096) : ∃ C : ℝ, 0 < C ∧ ∀ j, expOf (scoresAll x gk wkv gb wqz bi) (topOf (scoresAll x gk wkv gb wqz bi)) (ix4 b h i j)
    = ((Spec.Att.weight (rows x b) (vec gk) (vec1 gb) (mat wkv) (mat1 wqz) (tab bi) h i j * C : ℝ) : EReal) := by
  have ht : ∀ y, scoresAll x gk wkv gb wqz bi y ≠ (⊤ : EReal) := fun y => by
    obtain ⟨b, h, i, j, rfl⟩ : ∃ (b : Fin 4) (h : Fin 16) (i j : Fin 4096), y = ix4 b h i j := ⟨y 0, y 1, y 2, y 3, eq_ix4 y⟩
    rw [score_apply x gk wkv gb wqz bi b hgk hwk hgb hwq hbi]
    split
    · exact EReal.coe_ne_top _
    · exact bot_ne_top
  have hi : scoresAll x gk wkv gb wqz bi (ix4 b h i i) ≠ (⊥ : EReal) := by
    rw [score_apply x gk wkv gb wqz bi b hgk hwk hgb hwq hbi, if_pos ⟨le_rfl, by omega⟩]
    exact EReal.coe_ne_bot _
  obtain ⟨M, hM⟩ := topOf_isReal _ ht b h i hi
  refine ⟨Real.exp (-M), Real.exp_pos _, fun j => ?_⟩
  rw [expOf_apply, hM, score_apply x gk wkv gb wqz bi b hgk hwk hgb hwq hbi]
  unfold Spec.Att.weight
  split
  · exact Spec.Att.exp_sub _ _
  · rw [zero_mul, EReal.bot_sub, Ideal.exp_bot]; rfl

include hgk hwk hgb hwq hbi in
theorem mix_apply (i : Fin 4096) (e : Fin 1024) :
    mixOf (second (prod x gk wkv)) (expOf (scoresAll x gk wkv gb wqz bi) (topOf (scoresAll x gk wkv gb wqz bi))) (ix3 b i e)
      = Spec.Att.mix (rows x b) (vec gk) (vec1 gb) (mat wkv) (mat1 wqz) (tab bi) ⟨e.val / 64, by omega⟩ i ⟨e.val % 64, by omega⟩ := by
  obtain ⟨C, hC, hw⟩ := exp_apply x gk wkv gb wqz bi b hgk hwk hgb hwq hbi ⟨e.val / 64, by omega⟩ i
  have he : Spec.Att.chan ⟨e.val / 64, by omega⟩ ⟨e.val % 64, by omega⟩ = e := Fin.ext (Nat.div_add_mod _ _)
  rw [mixOf_apply]
  simp only [hw, value_apply]
  unfold Spec.Att.mix
  rw [he]
  exact Spec.Att.mix_of_quotients _ _ C hC (Spec.Att.total_pos _ _ _ _ _ _ _ _)

include hgk hwk hgb hwq hbi in
/-- The reference's result, where its scores and its gate are computed of reals. -/
theorem result_apply (R : Fin 16384) (n : Fin 1024) :
    outOf x gk wkv gb wqz bi wo gf (ix2 R n)
      = Spec.Att.result (rows x ⟨R.val / 4096, by omega⟩) (vec gk) (vec1 gb) (mat wkv) (mat1 wqz) (tab bi) (sq wo) (vec gf) ⟨R.val % 4096, by omega⟩ n := by
  have e : outOf x gk wkv gb wqz bi wo gf (ix2 R n) = normOf (addOf x (mulf (mixOf (second (prod x gk wkv)) (expOf (scoresAll x gk wkv gb wqz bi) (topOf (scoresAll x gk wkv gb wqz bi)))) (gateOf (second (qzOf x gb wqz)))) wo) gf
      (ix3 ⟨R.val / 4096, by omega⟩ ⟨R.val % 4096, by omega⟩ n) := by
    unfold outOf
    pointwise
    rfl
  rw [e, normOf_apply]
  unfold Spec.Att.result
  refine congrArg (fun f => Spec.norm f _ n) (funext fun n => ?_)
  rw [addOf_apply]
  refine congrArg (_ + ·) (Finset.sum_congr rfl fun e _ => congrArg (· * _) ?_)
  show mixOf _ _ _ * gateOf _ _ = _
  rw [mix_apply x gk wkv gb wqz bi _ hgk hwk hgb hwq hbi, gate_apply x gb wqz _ hgb hwq]
  rfl
end

end Cert.Reference2Ideal.Att

end
-- ==== Proof.AttFinite.lean ====
/- What the precondition of the attention says: what its scores and its gate are computed of is real. -/
module

public import proofs.«01_k».proof.Defs
public import proofs.«01_k».proof.Proof.AttSpec
public import proofs.«01_k».proof.Proof.Finite
public import Idealize.ShloMosaic.Lib.ReduceAll
public import Idealize.ShloMosaic.Lib.Pipeline.ValueKit

@[expose] public section

set_option maxRecDepth 16384

noncomputable section

namespace Cert.Pre_scores_are_finite

open Idealize.ShloMosaic
open Cert
open Cert.Pre_gate_is_finite (isReal_of_bit)

/-- The side conditions the predicate states. -/
instance facts : Facts where
  bcast_S_S1024 := by decide
  reducesTo_S1024_S_d0 := by decide
  h_S_ := by decide
  slices_S1024x2048_S1024x1024_0_0 := by decide
  bcast_S_S1024x1024 := by decide
  reducesTo_S1024x1024_S_d0_1 := by decide
  bcast_S_S1x1024 := by decide
  reducesTo_S1x1024_S_d0_1 := by decide
  bcast_S_S1x1024x2048 := by decide
  reducesTo_S1x1024x2048_S_d0_1_2 := by decide
  bcast_S_S1x16x513 := by decide
  reducesTo_S1x16x513_S_d0_1_2 := by decide

variable (x : FVec Ideal S4x4096x1024 .f32) (gk : FVec Ideal S1024 .f32) (wkv : FVec Ideal S1024x2048 .f32) (gb : FVec Ideal S1x1024 .f32) (wqz : FVec Ideal S1x1024x2048 .f32)
  (b : FVec Ideal S1x16x513 .f32) (wo : FVec Ideal S1x1024x1024 .f32) (gf : FVec Ideal S1024 .f32)

/-- Under the predicate the gains of the two norms before the scores are real, and so are the keys' columns of their weight, the whole weight of the queries and the gate,
    and the biases. -/
theorem real_of_fn (h : fn (F := Ideal) x gk wkv gb wqz b wo gf = fun _ => 1#1) :
    (∀ k, Spec.IsReal (gk (ix1 k))) ∧ (∀ (k e : Fin 1024), Spec.IsReal (wkv (ix2 k (Spec.Att.lo e)))) ∧ (∀ k, Spec.IsReal (gb (ix2 0 k))) ∧ (∀ (k : Fin 1024) (o : Fin 2048), Spec.IsReal (wqz (ix3 0 k o)))
      ∧ ∀ (h : Fin 16) (d : Fin 513), Spec.IsReal (b (ix3 0 h d)) := by
  haveI : Subsingleton S_.Idx := ⟨fun _ _ => funext fun a => a.elim0⟩
  have h0 := congrFun h (fun a => a.elim0)
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨fun k => ?_, fun k e => ?_, fun k => ?_, fun k o => ?_, fun a d => ?_⟩
  · have := Host.reduce_andi_all _ _ _ _ _ h1 (ix1 k)
    exact isReal_of_bit (gk (ix1 k)) this
  · have := Host.reduce_andi_all _ _ _ _ _ h2 (ix2 k e)
    rw [show wkv (ix2 k (Spec.Att.lo e)) = extractStridedSlice S1024x1024 ![0, 0] wkv Facts.slices_S1024x2048_S1024x1024_0_0 (ix2 k e) by pointwise]
    exact isReal_of_bit _ this
  · have := Host.reduce_andi_all _ _ _ _ _ h3 (ix2 0 k)
    exact isReal_of_bit (gb (ix2 0 k)) this
  · have := Host.reduce_andi_all _ _ _ _ _ h4 (ix3 0 k o)
    exact isReal_of_bit (wqz (ix3 0 k o)) this
  · have := Host.reduce_andi_all _ _ _ _ _ h5 (ix3 0 a d)
    exact isReal_of_bit (b (ix3 0 a d)) this

end Cert.Pre_scores_are_finite

end
-- ==== Proof.AttAlgebraic.lean ====
/- The algebraic claim of the attention: where the scores and the gate are computed of reals the idealized kernel and the reference compute one function of the arguments, Proof/AttSpec.lean's. -/
module

public import proofs.«01_k».proof.Defs
public import proofs.«01_k».proof.Proof.AttOut
public import proofs.«01_k».proof.Proof.AttRef
public import proofs.«01_k».proof.Proof.AttFinite
public import proofs.«01_k».proof.Proof.Gen.Reference2Ideal.Run

@[expose] public section

noncomputable section

namespace Cert.Proof.Att

open Idealize.ShloMosaic Idealize.SL.Sem Idealize.ShloMosaic.TcCoe

/-- The reference's function of the arguments is the kernel's array where the predicate holds of them. -/
theorem result_agrees (m : (ℓ : Loc Cert.Kernel2Ideal.nD Cert.Kernel2Ideal.τ Cert.Kernel2Ideal.sig) → Buf (Elt Ideal) ℓ) (c : Dev Cert.Kernel2Ideal.nD)
    (hp : Cert.Pre_scores_are_finite.fn (F := Ideal) (Cert.Kernel2Ideal.Att.argX m c) (Cert.Kernel2Ideal.Att.argGk m c) (Cert.Kernel2Ideal.Att.argWkv m c) (Cert.Kernel2Ideal.Att.argGb m c)
      (Cert.Kernel2Ideal.Att.argWqz m c) (Cert.Kernel2Ideal.Att.argBias m c) (Cert.Kernel2Ideal.Att.argWo m c) (Cert.Kernel2Ideal.Att.argGf m c) = fun _ => 1#1) :
    Cert.Reference2Ideal.Att.outOf (Cert.Kernel2Ideal.Att.argX m c) (Cert.Kernel2Ideal.Att.argGk m c) (Cert.Kernel2Ideal.Att.argWkv m c) (Cert.Kernel2Ideal.Att.argGb m c)
      (Cert.Kernel2Ideal.Att.argWqz m c) (Cert.Kernel2Ideal.Att.argBias m c) (Cert.Kernel2Ideal.Att.argWo m c) (Cert.Kernel2Ideal.Att.argGf m c)
      = (Cert.Kernel2Ideal.Att.dats m 0 c).arrAt 5 Cert.Kernel2Ideal.cfg0.N := by
  obtain ⟨hgk, hwk, hgb, hwq, hbi⟩ := Cert.Pre_scores_are_finite.real_of_fn _ _ _ _ _ _ _ _ hp
  rw [Cert.Kernel2Ideal.Att.array_eq m c hgk hgb hwk hwq hbi]
  funext y
  obtain ⟨R, n, rfl⟩ : ∃ (R : Fin 16384) (n : Fin 1024), y = ix2 R n := ⟨y 0, y 1, eq_ix2 y⟩
  exact Cert.Reference2Ideal.Att.result_apply _ _ _ _ _ _ _ _ hgk hwk hgb hwq hbi R n

/-- The idealized kernel and the reference end with one result. -/
theorem algebraic : Cert.algebraic_Kernel2Ideal_Reference2Ideal_pre_scores_are_finite := by
  intro m ρ m' ρ' hp ha
  refine ⟨fun c => (Cert.Kernel2Ideal.Att.dats m 0 c).arrAt 5 Cert.Kernel2Ideal.cfg0.N,
    (θ_run Cert.Kernel2Ideal.defs _ _).mono (fun _ h => h.1) (Cert.Kernel2Ideal.Att.frame (F := Ideal) m ρ), ?_⟩
  refine (θ_run Cert.Reference2Ideal.defs _ _).mono (fun _ h c => ⟨(h c).1.trans ?_, (h c).2⟩) (Cert.Reference2Ideal.Value.run (F := Ideal) m' ρ')
  obtain ⟨h0, h1, h2, h3, h4, h5, h6, h7⟩ := ha c
  refine Eq.trans ?_ (result_agrees m c (hp c))
  refine (Cert.Reference2Ideal.Att.result_eq (StableHlo.launchContents m' c)).trans ?_
  exact congr (congr (congr (congr (congr (congr (congr (congrArg Cert.Reference2Ideal.Att.outOf h0) h1) h2) h3) h4) h5) h6) h7

end Cert.Proof.Att

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.AttFrames
public import proofs.«01_k».proof.Proof.AttAlgebraic
public import proofs.«01_k».proof.Proof.Gen.Kernel2
public import proofs.«01_k».proof.Proof.Gen.Kernel2Ideal
public import proofs.«01_k».proof.Proof.Gen.Reference2Ideal
public import Idealize.ShloMosaic.Adequacy
public import Idealize.ShloMosaic.Init

@[expose] public section

noncomputable section

namespace Cert.Proof

open Idealize.ShloMosaic Idealize.SL.Sem

/-- The three named constants of the attention are the table's values. -/
theorem preserves_attention : Cert.preserves_Kernel2_Kernel2Ideal :=
  ⟨IdealRules.named_const.statement Cert.Kernel2Ideal.κ _ _ _ _ rfl, IdealRules.named_const.statement Cert.Kernel2Ideal.κ _ _ _ _ rfl,
    IdealRules.named_const.statement Cert.Kernel2Ideal.κ _ _ _ _ rfl⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Pre_gate_is_finite.facts, Cert.Pre_scores_are_finite.facts,
    frame_kernel, frame_ideal, fun m ρ _ => frame_ideal m ρ trivial, frame_reference, fun m ρ _ => frame_reference m ρ trivial,
    Att.frame_kernel, Att.frame_ideal, fun m ρ _ => Att.frame_ideal m ρ trivial, Att.frame_reference, fun m ρ _ => Att.frame_reference m ρ trivial,
    trivial, algebraic, preserves_attention, Att.algebraic⟩

end Cert.Proof

end
